-- ==== Defs.lean ====
def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_finite_qk [hPre_finite_qk : Cert.Pre_finite_qk.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_finite_qk.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2))) = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_finite_qk [hPre_finite_qk : Cert.Pre_finite_qk.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_finite_qk.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_in [hPre_finite_in : Cert.Pre_finite_in.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))) = (fun _ => 1#1)

def Pre_KernelMl (m : (ℓ : Loc Cert.KernelMl.nD Cert.KernelMl.τ Cert.KernelMl.sig) → Buf (Elt Bits) ℓ) : Prop :=
  True

def Pre_KernelMlIdeal (m : (ℓ : Loc Cert.KernelMlIdeal.nD Cert.KernelMlIdeal.τ Cert.KernelMlIdeal.sig) → Buf (Elt Ideal) ℓ) : Prop :=
  True

def Pre_KernelMlIdeal_finite_ml [hPre_finite_ml : Cert.Pre_finite_ml.Facts] (m : (ℓ : Loc Cert.KernelMlIdeal.nD Cert.KernelMlIdeal.τ Cert.KernelMlIdeal.sig) → Buf (Elt Ideal) ℓ) : Prop :=
  ∀ c : Dev Cert.KernelMlIdeal.nD,
    (Cert.Pre_finite_ml.fn (F := Ideal) (m ((c.tc : Thread Cert.KernelMlIdeal.nD Cert.KernelMlIdeal.τ).loc Cert.KernelMlIdeal.main_arg0)) (m ((c.tc : Thread Cert.KernelMlIdeal.nD Cert.KernelMlIdeal.τ).loc Cert.KernelMlIdeal.main_arg1)) (m ((c.tc : Thread Cert.KernelMlIdeal.nD Cert.KernelMlIdeal.τ).loc Cert.KernelMlIdeal.main_arg2)) (m ((c.tc : Thread Cert.KernelMlIdeal.nD Cert.KernelMlIdeal.τ).loc Cert.KernelMlIdeal.main_arg3)) (m ((c.tc : Thread Cert.KernelMlIdeal.nD Cert.KernelMlIdeal.τ).loc Cert.KernelMlIdeal.main_arg4)) (m ((c.tc : Thread Cert.KernelMlIdeal.nD Cert.KernelMlIdeal.τ).loc Cert.KernelMlIdeal.main_arg5))) = (fun _ => 1#1)

def Pre_ReferenceMlIdeal (m : (ℓ : Loc Cert.ReferenceMlIdeal.nD Cert.ReferenceMlIdeal.τ Cert.ReferenceMlIdeal.sig) → Buf (Elt Ideal) ℓ) : Prop :=
  True

def Pre_ReferenceMlIdeal_finite_ml [hPre_finite_ml : Cert.Pre_finite_ml.Facts] (m : (ℓ : Loc Cert.ReferenceMlIdeal.nD Cert.ReferenceMlIdeal.τ Cert.ReferenceMlIdeal.sig) → Buf (Elt Ideal) ℓ) : Prop :=
  ∀ c : Dev Cert.ReferenceMlIdeal.nD,
    (Cert.Pre_finite_ml.fn (F := Ideal) (m ((c.tc : Thread Cert.ReferenceMlIdeal.nD Cert.ReferenceMlIdeal.τ).loc Cert.ReferenceMlIdeal.main_arg0)) (m ((c.tc : Thread Cert.ReferenceMlIdeal.nD Cert.ReferenceMlIdeal.τ).loc Cert.ReferenceMlIdeal.main_arg1)) (m ((c.tc : Thread Cert.ReferenceMlIdeal.nD Cert.ReferenceMlIdeal.τ).loc Cert.ReferenceMlIdeal.main_arg2)) (m ((c.tc : Thread Cert.ReferenceMlIdeal.nD Cert.ReferenceMlIdeal.τ).loc Cert.ReferenceMlIdeal.main_arg3)) (m ((c.tc : Thread Cert.ReferenceMlIdeal.nD Cert.ReferenceMlIdeal.τ).loc Cert.ReferenceMlIdeal.main_arg4)) (m ((c.tc : Thread Cert.ReferenceMlIdeal.nD Cert.ReferenceMlIdeal.τ).loc Cert.ReferenceMlIdeal.main_arg5))) = (fun _ => 1#1)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1)
      ∧ r.2.mem ((c.tc : Thread Cert.KernelSb.nD Cert.KernelSb.τ).loc Cert.KernelSb.main_arg2) = m ((c.tc : Thread Cert.KernelSb.nD Cert.KernelSb.τ).loc Cert.KernelSb.main_arg2))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ r.2.sem = fun _ => 0)

def quiescent_KernelSbIdeal_pre_finite_qk [hKernelSbIdeal : Cert.KernelSbIdeal.Facts] [hPre_finite_qk : Cert.Pre_finite_qk.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_finite_qk m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2))
      ∧ r.2.sem = fun _ => 0)

def quiescent_ReferenceSbIdeal_pre_finite_qk [hReferenceSbIdeal : Cert.ReferenceSbIdeal.Facts] [hPre_finite_qk : Cert.Pre_finite_qk.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_finite_qk m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_KernelInIdeal_pre_finite_in [hKernelInIdeal : Cert.KernelInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_in m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelMl [hKernelMl : Cert.KernelMl.Facts] : Prop :=
  ∀ (m : (ℓ : Loc Cert.KernelMl.nD Cert.KernelMl.τ Cert.KernelMl.sig) → Buf (Elt Bits) ℓ) (g : Dev Cert.KernelMl.nD → PrngReg), Pre_KernelMl m →
    θ_run (Cert.KernelMl.defs (F := Bits)) (onTc (τ := Cert.KernelMl.τ) (Cert.KernelMl.main (F := Bits))) ⟨m, fun _ => 0, g⟩ (fun r => (∀ c : Dev Cert.KernelMl.nD,
      r.2.mem ((c.tc : Thread Cert.KernelMl.nD Cert.KernelMl.τ).loc Cert.KernelMl.main_arg0) = m ((c.tc : Thread Cert.KernelMl.nD Cert.KernelMl.τ).loc Cert.KernelMl.main_arg0)
      ∧ r.2.mem ((c.tc : Thread Cert.KernelMl.nD Cert.KernelMl.τ).loc Cert.KernelMl.main_arg1) = m ((c.tc : Thread Cert.KernelMl.nD Cert.KernelMl.τ).loc Cert.KernelMl.main_arg1)
      ∧ r.2.mem ((c.tc : Thread Cert.KernelMl.nD Cert.KernelMl.τ).loc Cert.KernelMl.main_arg2) = m ((c.tc : Thread Cert.KernelMl.nD Cert.KernelMl.τ).loc Cert.KernelMl.main_arg2)
      ∧ r.2.mem ((c.tc : Thread Cert.KernelMl.nD Cert.KernelMl.τ).loc Cert.KernelMl.main_arg3) = m ((c.tc : Thread Cert.KernelMl.nD Cert.KernelMl.τ).loc Cert.KernelMl.main_arg3)
      ∧ r.2.mem ((c.tc : Thread Cert.KernelMl.nD Cert.KernelMl.τ).loc Cert.KernelMl.main_arg4) = m ((c.tc : Thread Cert.KernelMl.nD Cert.KernelMl.τ).loc Cert.KernelMl.main_arg4)
      ∧ r.2.mem ((c.tc : Thread Cert.KernelMl.nD Cert.KernelMl.τ).loc Cert.KernelMl.main_arg5) = m ((c.tc : Thread Cert.KernelMl.nD Cert.KernelMl.τ).loc Cert.KernelMl.main_arg5))
      ∧ r.2.sem = fun _ => 0)

def quiescent_KernelMlIdeal [hKernelMlIdeal : Cert.KernelMlIdeal.Facts] : Prop :=
  ∀ (m : (ℓ : Loc Cert.KernelMlIdeal.nD Cert.KernelMlIdeal.τ Cert.KernelMlIdeal.sig) → Buf (Elt Ideal) ℓ) (g : Dev Cert.KernelMlIdeal.nD → PrngReg), Pre_KernelMlIdeal m →
    θ_run (Cert.KernelMlIdeal.defs (F := Ideal)) (onTc (τ := Cert.KernelMlIdeal.τ) (Cert.KernelMlIdeal.main (F := Ideal))) ⟨m, fun _ => 0, g⟩ (fun r => (∀ c : Dev Cert.KernelMlIdeal.nD,
      r.2.mem ((c.tc : Thread Cert.KernelMlIdeal.nD Cert.KernelMlIdeal.τ).loc Cert.KernelMlIdeal.main_arg0) = m ((c.tc : Thread Cert.KernelMlIdeal.nD Cert.KernelMlIdeal.τ).loc Cert.KernelMlIdeal.main_arg0)
      ∧ r.2.mem ((c.tc : Thread Cert.KernelMlIdeal.nD Cert.KernelMlIdeal.τ).loc Cert.KernelMlIdeal.main_arg1) = m ((c.tc : Thread Cert.KernelMlIdeal.nD Cert.KernelMlIdeal.τ).loc Cert.KernelMlIdeal.main_arg1)
      ∧ r.2.mem ((c.tc : Thread Cert.KernelMlIdeal.nD Cert.KernelMlIdeal.τ).loc Cert.KernelMlIdeal.main_arg2) = m ((c.tc : Thread Cert.KernelMlIdeal.nD Cert.KernelMlIdeal.τ).loc Cert.KernelMlIdeal.main_arg2)
      ∧ r.2.mem ((c.tc : Thread Cert.KernelMlIdeal.nD Cert.KernelMlIdeal.τ).loc Cert.KernelMlIdeal.main_arg3) = m ((c.tc : Thread Cert.KernelMlIdeal.nD Cert.KernelMlIdeal.τ).loc Cert.KernelMlIdeal.main_arg3)
      ∧ r.2.mem ((c.tc : Thread Cert.KernelMlIdeal.nD Cert.KernelMlIdeal.τ).loc Cert.KernelMlIdeal.main_arg4) = m ((c.tc : Thread Cert.KernelMlIdeal.nD Cert.KernelMlIdeal.τ).loc Cert.KernelMlIdeal.main_arg4)
      ∧ r.2.mem ((c.tc : Thread Cert.KernelMlIdeal.nD Cert.KernelMlIdeal.τ).loc Cert.KernelMlIdeal.main_arg5) = m ((c.tc : Thread Cert.KernelMlIdeal.nD Cert.KernelMlIdeal.τ).loc Cert.KernelMlIdeal.main_arg5))
      ∧ r.2.sem = fun _ => 0)

def quiescent_KernelMlIdeal_pre_finite_ml [hKernelMlIdeal : Cert.KernelMlIdeal.Facts] [hPre_finite_ml : Cert.Pre_finite_ml.Facts] : Prop :=
  ∀ (m : (ℓ : Loc Cert.KernelMlIdeal.nD Cert.KernelMlIdeal.τ Cert.KernelMlIdeal.sig) → Buf (Elt Ideal) ℓ) (g : Dev Cert.KernelMlIdeal.nD → PrngReg), Pre_KernelMlIdeal_finite_ml m →
    θ_run (Cert.KernelMlIdeal.defs (F := Ideal)) (onTc (τ := Cert.KernelMlIdeal.τ) (Cert.KernelMlIdeal.main (F := Ideal))) ⟨m, fun _ => 0, g⟩ (fun r => (∀ c : Dev Cert.KernelMlIdeal.nD,
      r.2.mem ((c.tc : Thread Cert.KernelMlIdeal.nD Cert.KernelMlIdeal.τ).loc Cert.KernelMlIdeal.main_arg0) = m ((c.tc : Thread Cert.KernelMlIdeal.nD Cert.KernelMlIdeal.τ).loc Cert.KernelMlIdeal.main_arg0)
      ∧ r.2.mem ((c.tc : Thread Cert.KernelMlIdeal.nD Cert.KernelMlIdeal.τ).loc Cert.KernelMlIdeal.main_arg1) = m ((c.tc : Thread Cert.KernelMlIdeal.nD Cert.KernelMlIdeal.τ).loc Cert.KernelMlIdeal.main_arg1)
      ∧ r.2.mem ((c.tc : Thread Cert.KernelMlIdeal.nD Cert.KernelMlIdeal.τ).loc Cert.KernelMlIdeal.main_arg2) = m ((c.tc : Thread Cert.KernelMlIdeal.nD Cert.KernelMlIdeal.τ).loc Cert.KernelMlIdeal.main_arg2)
      ∧ r.2.mem ((c.tc : Thread Cert.KernelMlIdeal.nD Cert.KernelMlIdeal.τ).loc Cert.KernelMlIdeal.main_arg3) = m ((c.tc : Thread Cert.KernelMlIdeal.nD Cert.KernelMlIdeal.τ).loc Cert.KernelMlIdeal.main_arg3)
      ∧ r.2.mem ((c.tc : Thread Cert.KernelMlIdeal.nD Cert.KernelMlIdeal.τ).loc Cert.KernelMlIdeal.main_arg4) = m ((c.tc : Thread Cert.KernelMlIdeal.nD Cert.KernelMlIdeal.τ).loc Cert.KernelMlIdeal.main_arg4)
      ∧ r.2.mem ((c.tc : Thread Cert.KernelMlIdeal.nD Cert.KernelMlIdeal.τ).loc Cert.KernelMlIdeal.main_arg5) = m ((c.tc : Thread Cert.KernelMlIdeal.nD Cert.KernelMlIdeal.τ).loc Cert.KernelMlIdeal.main_arg5))
      ∧ r.2.sem = fun _ => 0)

def quiescent_ReferenceMlIdeal [hReferenceMlIdeal : Cert.ReferenceMlIdeal.Facts] : Prop :=
  ∀ (m : (ℓ : Loc Cert.ReferenceMlIdeal.nD Cert.ReferenceMlIdeal.τ Cert.ReferenceMlIdeal.sig) → Buf (Elt Ideal) ℓ) (g : Dev Cert.ReferenceMlIdeal.nD → PrngReg), Pre_ReferenceMlIdeal m →
    θ_run (Cert.ReferenceMlIdeal.defs (F := Ideal)) (onTc (τ := Cert.ReferenceMlIdeal.τ) (Cert.ReferenceMlIdeal.main (F := Ideal))) ⟨m, fun _ => 0, g⟩ (fun r => (∀ c : Dev Cert.ReferenceMlIdeal.nD,
      r.2.mem ((c.tc : Thread Cert.ReferenceMlIdeal.nD Cert.ReferenceMlIdeal.τ).loc Cert.ReferenceMlIdeal.main_arg0) = m ((c.tc : Thread Cert.ReferenceMlIdeal.nD Cert.ReferenceMlIdeal.τ).loc Cert.ReferenceMlIdeal.main_arg0)
      ∧ r.2.mem ((c.tc : Thread Cert.ReferenceMlIdeal.nD Cert.ReferenceMlIdeal.τ).loc Cert.ReferenceMlIdeal.main_arg1) = m ((c.tc : Thread Cert.ReferenceMlIdeal.nD Cert.ReferenceMlIdeal.τ).loc Cert.ReferenceMlIdeal.main_arg1)
      ∧ r.2.mem ((c.tc : Thread Cert.ReferenceMlIdeal.nD Cert.ReferenceMlIdeal.τ).loc Cert.ReferenceMlIdeal.main_arg2) = m ((c.tc : Thread Cert.ReferenceMlIdeal.nD Cert.ReferenceMlIdeal.τ).loc Cert.ReferenceMlIdeal.main_arg2)
      ∧ r.2.mem ((c.tc : Thread Cert.ReferenceMlIdeal.nD Cert.ReferenceMlIdeal.τ).loc Cert.ReferenceMlIdeal.main_arg3) = m ((c.tc : Thread Cert.ReferenceMlIdeal.nD Cert.ReferenceMlIdeal.τ).loc Cert.ReferenceMlIdeal.main_arg3)
      ∧ r.2.mem ((c.tc : Thread Cert.ReferenceMlIdeal.nD Cert.ReferenceMlIdeal.τ).loc Cert.ReferenceMlIdeal.main_arg4) = m ((c.tc : Thread Cert.ReferenceMlIdeal.nD Cert.ReferenceMlIdeal.τ).loc Cert.ReferenceMlIdeal.main_arg4)
      ∧ r.2.mem ((c.tc : Thread Cert.ReferenceMlIdeal.nD Cert.ReferenceMlIdeal.τ).loc Cert.ReferenceMlIdeal.main_arg5) = m ((c.tc : Thread Cert.ReferenceMlIdeal.nD Cert.ReferenceMlIdeal.τ).loc Cert.ReferenceMlIdeal.main_arg5))
      ∧ r.2.sem = fun _ => 0)

def quiescent_ReferenceMlIdeal_pre_finite_ml [hReferenceMlIdeal : Cert.ReferenceMlIdeal.Facts] [hPre_finite_ml : Cert.Pre_finite_ml.Facts] : Prop :=
  ∀ (m : (ℓ : Loc Cert.ReferenceMlIdeal.nD Cert.ReferenceMlIdeal.τ Cert.ReferenceMlIdeal.sig) → Buf (Elt Ideal) ℓ) (g : Dev Cert.ReferenceMlIdeal.nD → PrngReg), Pre_ReferenceMlIdeal_finite_ml m →
    θ_run (Cert.ReferenceMlIdeal.defs (F := Ideal)) (onTc (τ := Cert.ReferenceMlIdeal.τ) (Cert.ReferenceMlIdeal.main (F := Ideal))) ⟨m, fun _ => 0, g⟩ (fun r => (∀ c : Dev Cert.ReferenceMlIdeal.nD,
      r.2.mem ((c.tc : Thread Cert.ReferenceMlIdeal.nD Cert.ReferenceMlIdeal.τ).loc Cert.ReferenceMlIdeal.main_arg0) = m ((c.tc : Thread Cert.ReferenceMlIdeal.nD Cert.ReferenceMlIdeal.τ).loc Cert.ReferenceMlIdeal.main_arg0)
      ∧ r.2.mem ((c.tc : Thread Cert.ReferenceMlIdeal.nD Cert.ReferenceMlIdeal.τ).loc Cert.ReferenceMlIdeal.main_arg1) = m ((c.tc : Thread Cert.ReferenceMlIdeal.nD Cert.ReferenceMlIdeal.τ).loc Cert.ReferenceMlIdeal.main_arg1)
      ∧ r.2.mem ((c.tc : Thread Cert.ReferenceMlIdeal.nD Cert.ReferenceMlIdeal.τ).loc Cert.ReferenceMlIdeal.main_arg2) = m ((c.tc : Thread Cert.ReferenceMlIdeal.nD Cert.ReferenceMlIdeal.τ).loc Cert.ReferenceMlIdeal.main_arg2)
      ∧ r.2.mem ((c.tc : Thread Cert.ReferenceMlIdeal.nD Cert.ReferenceMlIdeal.τ).loc Cert.ReferenceMlIdeal.main_arg3) = m ((c.tc : Thread Cert.ReferenceMlIdeal.nD Cert.ReferenceMlIdeal.τ).loc Cert.ReferenceMlIdeal.main_arg3)
      ∧ r.2.mem ((c.tc : Thread Cert.ReferenceMlIdeal.nD Cert.ReferenceMlIdeal.τ).loc Cert.ReferenceMlIdeal.main_arg4) = m ((c.tc : Thread Cert.ReferenceMlIdeal.nD Cert.ReferenceMlIdeal.τ).loc Cert.ReferenceMlIdeal.main_arg4)
      ∧ r.2.mem ((c.tc : Thread Cert.ReferenceMlIdeal.nD Cert.ReferenceMlIdeal.τ).loc Cert.ReferenceMlIdeal.main_arg5) = m ((c.tc : Thread Cert.ReferenceMlIdeal.nD Cert.ReferenceMlIdeal.τ).loc Cert.ReferenceMlIdeal.main_arg5))
      ∧ r.2.sem = fun _ => 0)

def preserves_KernelSb_KernelSbIdeal : Prop :=
  True

def algebraic_KernelSbIdeal_ReferenceSbIdeal_pre_finite_qk [hKernelSbIdeal : Cert.KernelSbIdeal.Facts] [hReferenceSbIdeal : Cert.ReferenceSbIdeal.Facts] [hPre_finite_qk : Cert.Pre_finite_qk.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_finite_qk m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)
      ∧ m' ((c.tc : Thread Cert.ReferenceSbIdeal.nD Cert.ReferenceSbIdeal.τ).loc Cert.ReferenceSbIdeal.main_arg1) = m ((c.tc : Thread Cert.KernelSbIdeal.nD Cert.KernelSbIdeal.τ).loc Cert.KernelSbIdeal.main_arg1)
      ∧ m' ((c.tc : Thread Cert.ReferenceSbIdeal.nD Cert.ReferenceSbIdeal.τ).loc Cert.ReferenceSbIdeal.main_arg2) = m ((c.tc : Thread Cert.KernelSbIdeal.nD Cert.KernelSbIdeal.τ).loc Cert.KernelSbIdeal.main_arg2)) →
    ∃ (v0 : (c : Dev Cert.KernelSbIdeal.nD) → Buf (Elt Ideal) ((c.tc : Thread Cert.KernelSbIdeal.nD Cert.KernelSbIdeal.τ).loc Cert.KernelSbIdeal.main_v0)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v0) = v0 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
          ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
          ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v29) = v0 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1)
          ∧ r.2.mem ((c.tc : Thread Cert.ReferenceSbIdeal.nD Cert.ReferenceSbIdeal.τ).loc Cert.ReferenceSbIdeal.main_arg2) = m' ((c.tc : Thread Cert.ReferenceSbIdeal.nD Cert.ReferenceSbIdeal.τ).loc Cert.ReferenceSbIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v2) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v7) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v4_0)) (v1 : (c : Dev Cert.KernelMergeIdeal.nD) → Buf (Elt Ideal) ((c.tc : Thread Cert.KernelMergeIdeal.nD Cert.KernelMergeIdeal.τ).loc Cert.KernelMergeIdeal.main_v4_1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v4_0) = v0 c
          ∧ r.2.mem ((c.tc : Thread Cert.KernelMergeIdeal.nD Cert.KernelMergeIdeal.τ).loc Cert.KernelMergeIdeal.main_v4_1) = v1 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v14) = v0 c
          ∧ r.2.mem ((c.tc : Thread Cert.ReferenceMergeIdeal.nD Cert.ReferenceMergeIdeal.τ).loc Cert.ReferenceMergeIdeal.main_v28) = v1 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelIn_KernelInIdeal : Prop :=
  True

def algebraic_KernelInIdeal_ReferenceInIdeal_pre_finite_in [hKernelInIdeal : Cert.KernelInIdeal.Facts] [hReferenceInIdeal : Cert.ReferenceInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_in m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v19_0)) (v1 : (c : Dev Cert.KernelInIdeal.nD) → Buf (Elt Ideal) ((c.tc : Thread Cert.KernelInIdeal.nD Cert.KernelInIdeal.τ).loc Cert.KernelInIdeal.main_v19_1)) (v2 : (c : Dev Cert.KernelInIdeal.nD) → Buf (Elt Ideal) ((c.tc : Thread Cert.KernelInIdeal.nD Cert.KernelInIdeal.τ).loc Cert.KernelInIdeal.main_v19_2)) (v3 : (c : Dev Cert.KernelInIdeal.nD) → Buf (Elt Ideal) ((c.tc : Thread Cert.KernelInIdeal.nD Cert.KernelInIdeal.τ).loc Cert.KernelInIdeal.main_v19_3)) (v4 : (c : Dev Cert.KernelInIdeal.nD) → Buf (Elt Ideal) ((c.tc : Thread Cert.KernelInIdeal.nD Cert.KernelInIdeal.τ).loc Cert.KernelInIdeal.main_v19_4)) (v5 : (c : Dev Cert.KernelInIdeal.nD) → Buf (Elt Ideal) ((c.tc : Thread Cert.KernelInIdeal.nD Cert.KernelInIdeal.τ).loc Cert.KernelInIdeal.main_v19_5)) (v6 : (c : Dev Cert.KernelInIdeal.nD) → Buf (Elt Ideal) ((c.tc : Thread Cert.KernelInIdeal.nD Cert.KernelInIdeal.τ).loc Cert.KernelInIdeal.main_v19_6)) (v7 : (c : Dev Cert.KernelInIdeal.nD) → Buf (Elt Ideal) ((c.tc : Thread Cert.KernelInIdeal.nD Cert.KernelInIdeal.τ).loc Cert.KernelInIdeal.main_v19_7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v19_0) = v0 c
          ∧ r.2.mem ((c.tc : Thread Cert.KernelInIdeal.nD Cert.KernelInIdeal.τ).loc Cert.KernelInIdeal.main_v19_1) = v1 c
          ∧ r.2.mem ((c.tc : Thread Cert.KernelInIdeal.nD Cert.KernelInIdeal.τ).loc Cert.KernelInIdeal.main_v19_2) = v2 c
          ∧ r.2.mem ((c.tc : Thread Cert.KernelInIdeal.nD Cert.KernelInIdeal.τ).loc Cert.KernelInIdeal.main_v19_3) = v3 c
          ∧ r.2.mem ((c.tc : Thread Cert.KernelInIdeal.nD Cert.KernelInIdeal.τ).loc Cert.KernelInIdeal.main_v19_4) = v4 c
          ∧ r.2.mem ((c.tc : Thread Cert.KernelInIdeal.nD Cert.KernelInIdeal.τ).loc Cert.KernelInIdeal.main_v19_5) = v5 c
          ∧ r.2.mem ((c.tc : Thread Cert.KernelInIdeal.nD Cert.KernelInIdeal.τ).loc Cert.KernelInIdeal.main_v19_6) = v6 c
          ∧ r.2.mem ((c.tc : Thread Cert.KernelInIdeal.nD Cert.KernelInIdeal.τ).loc Cert.KernelInIdeal.main_v19_7) = v7 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_v22) = v1 c
          ∧ r.2.mem ((c.tc : Thread Cert.ReferenceInIdeal.nD Cert.ReferenceInIdeal.τ).loc Cert.ReferenceInIdeal.main_v29) = v2 c
          ∧ r.2.mem ((c.tc : Thread Cert.ReferenceInIdeal.nD Cert.ReferenceInIdeal.τ).loc Cert.ReferenceInIdeal.main_v47) = v3 c
          ∧ r.2.mem ((c.tc : Thread Cert.ReferenceInIdeal.nD Cert.ReferenceInIdeal.τ).loc Cert.ReferenceInIdeal.main_v63) = v4 c
          ∧ r.2.mem ((c.tc : Thread Cert.ReferenceInIdeal.nD Cert.ReferenceInIdeal.τ).loc Cert.ReferenceInIdeal.main_v64) = v5 c
          ∧ r.2.mem ((c.tc : Thread Cert.ReferenceInIdeal.nD Cert.ReferenceInIdeal.τ).loc Cert.ReferenceInIdeal.main_v71) = v6 c
          ∧ r.2.mem ((c.tc : Thread Cert.ReferenceInIdeal.nD Cert.ReferenceInIdeal.τ).loc Cert.ReferenceInIdeal.main_v75) = v7 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelMl_KernelMlIdeal : Prop :=
  True

def algebraic_KernelMlIdeal_ReferenceMlIdeal_pre_finite_ml [hKernelMlIdeal : Cert.KernelMlIdeal.Facts] [hReferenceMlIdeal : Cert.ReferenceMlIdeal.Facts] [hPre_finite_ml : Cert.Pre_finite_ml.Facts] : Prop :=
  ∀ (m : (ℓ : Loc Cert.KernelMlIdeal.nD Cert.KernelMlIdeal.τ Cert.KernelMlIdeal.sig) → Buf (Elt Ideal) ℓ) (g : Dev Cert.KernelMlIdeal.nD → PrngReg)
    (m' : (ℓ : Loc Cert.ReferenceMlIdeal.nD Cert.ReferenceMlIdeal.τ Cert.ReferenceMlIdeal.sig) → Buf (Elt Ideal) ℓ) (g' : Dev Cert.ReferenceMlIdeal.nD → PrngReg), Pre_KernelMlIdeal_finite_ml m →
    (∀ c : Dev Cert.KernelMlIdeal.nD,
      m' ((c.tc : Thread Cert.ReferenceMlIdeal.nD Cert.ReferenceMlIdeal.τ).loc Cert.ReferenceMlIdeal.main_arg0) = m ((c.tc : Thread Cert.KernelMlIdeal.nD Cert.KernelMlIdeal.τ).loc Cert.KernelMlIdeal.main_arg0)
      ∧ m' ((c.tc : Thread Cert.ReferenceMlIdeal.nD Cert.ReferenceMlIdeal.τ).loc Cert.ReferenceMlIdeal.main_arg1) = m ((c.tc : Thread Cert.KernelMlIdeal.nD Cert.KernelMlIdeal.τ).loc Cert.KernelMlIdeal.main_arg1)
      ∧ m' ((c.tc : Thread Cert.ReferenceMlIdeal.nD Cert.ReferenceMlIdeal.τ).loc Cert.ReferenceMlIdeal.main_arg2) = m ((c.tc : Thread Cert.KernelMlIdeal.nD Cert.KernelMlIdeal.τ).loc Cert.KernelMlIdeal.main_arg2)
      ∧ m' ((c.tc : Thread Cert.ReferenceMlIdeal.nD Cert.ReferenceMlIdeal.τ).loc Cert.ReferenceMlIdeal.main_arg3) = m ((c.tc : Thread Cert.KernelMlIdeal.nD Cert.KernelMlIdeal.τ).loc Cert.KernelMlIdeal.main_arg3)
      ∧ m' ((c.tc : Thread Cert.ReferenceMlIdeal.nD Cert.ReferenceMlIdeal.τ).loc Cert.ReferenceMlIdeal.main_arg4) = m ((c.tc : Thread Cert.KernelMlIdeal.nD Cert.KernelMlIdeal.τ).loc Cert.KernelMlIdeal.main_arg4)
      ∧ m' ((c.tc : Thread Cert.ReferenceMlIdeal.nD Cert.ReferenceMlIdeal.τ).loc Cert.ReferenceMlIdeal.main_arg5) = m ((c.tc : Thread Cert.KernelMlIdeal.nD Cert.KernelMlIdeal.τ).loc Cert.KernelMlIdeal.main_arg5)) →
    ∃ (v0 : (c : Dev Cert.KernelMlIdeal.nD) → Buf (Elt Ideal) ((c.tc : Thread Cert.KernelMlIdeal.nD Cert.KernelMlIdeal.τ).loc Cert.KernelMlIdeal.main_v4)),
      θ_run (Cert.KernelMlIdeal.defs (F := Ideal)) (onTc (τ := Cert.KernelMlIdeal.τ) (Cert.KernelMlIdeal.main (F := Ideal))) ⟨m, fun _ => 0, g⟩ (fun r => ∀ c : Dev Cert.KernelMlIdeal.nD,
          r.2.mem ((c.tc : Thread Cert.KernelMlIdeal.nD Cert.KernelMlIdeal.τ).loc Cert.KernelMlIdeal.main_v4) = v0 c
          ∧ r.2.mem ((c.tc : Thread Cert.KernelMlIdeal.nD Cert.KernelMlIdeal.τ).loc Cert.KernelMlIdeal.main_arg0) = m ((c.tc : Thread Cert.KernelMlIdeal.nD Cert.KernelMlIdeal.τ).loc Cert.KernelMlIdeal.main_arg0)
          ∧ r.2.mem ((c.tc : Thread Cert.KernelMlIdeal.nD Cert.KernelMlIdeal.τ).loc Cert.KernelMlIdeal.main_arg1) = m ((c.tc : Thread Cert.KernelMlIdeal.nD Cert.KernelMlIdeal.τ).loc Cert.KernelMlIdeal.main_arg1)
          ∧ r.2.mem ((c.tc : Thread Cert.KernelMlIdeal.nD Cert.KernelMlIdeal.τ).loc Cert.KernelMlIdeal.main_arg2) = m ((c.tc : Thread Cert.KernelMlIdeal.nD Cert.KernelMlIdeal.τ).loc Cert.KernelMlIdeal.main_arg2)
          ∧ r.2.mem ((c.tc : Thread Cert.KernelMlIdeal.nD Cert.KernelMlIdeal.τ).loc Cert.KernelMlIdeal.main_arg3) = m ((c.tc : Thread Cert.KernelMlIdeal.nD Cert.KernelMlIdeal.τ).loc Cert.KernelMlIdeal.main_arg3)
          ∧ r.2.mem ((c.tc : Thread Cert.KernelMlIdeal.nD Cert.KernelMlIdeal.τ).loc Cert.KernelMlIdeal.main_arg4) = m ((c.tc : Thread Cert.KernelMlIdeal.nD Cert.KernelMlIdeal.τ).loc Cert.KernelMlIdeal.main_arg4)
          ∧ r.2.mem ((c.tc : Thread Cert.KernelMlIdeal.nD Cert.KernelMlIdeal.τ).loc Cert.KernelMlIdeal.main_arg5) = m ((c.tc : Thread Cert.KernelMlIdeal.nD Cert.KernelMlIdeal.τ).loc Cert.KernelMlIdeal.main_arg5))
      ∧ θ_run (Cert.ReferenceMlIdeal.defs (F := Ideal)) (onTc (τ := Cert.ReferenceMlIdeal.τ) (Cert.ReferenceMlIdeal.main (F := Ideal))) ⟨m', fun _ => 0, g'⟩ (fun r => ∀ c : Dev Cert.ReferenceMlIdeal.nD,
          r.2.mem ((c.tc : Thread Cert.ReferenceMlIdeal.nD Cert.ReferenceMlIdeal.τ).loc Cert.ReferenceMlIdeal.main_v88) = v0 c
          ∧ r.2.mem ((c.tc : Thread Cert.ReferenceMlIdeal.nD Cert.ReferenceMlIdeal.τ).loc Cert.ReferenceMlIdeal.main_arg0) = m' ((c.tc : Thread Cert.ReferenceMlIdeal.nD Cert.ReferenceMlIdeal.τ).loc Cert.ReferenceMlIdeal.main_arg0)
          ∧ r.2.mem ((c.tc : Thread Cert.ReferenceMlIdeal.nD Cert.ReferenceMlIdeal.τ).loc Cert.ReferenceMlIdeal.main_arg1) = m' ((c.tc : Thread Cert.ReferenceMlIdeal.nD Cert.ReferenceMlIdeal.τ).loc Cert.ReferenceMlIdeal.main_arg1)
          ∧ r.2.mem ((c.tc : Thread Cert.ReferenceMlIdeal.nD Cert.ReferenceMlIdeal.τ).loc Cert.ReferenceMlIdeal.main_arg2) = m' ((c.tc : Thread Cert.ReferenceMlIdeal.nD Cert.ReferenceMlIdeal.τ).loc Cert.ReferenceMlIdeal.main_arg2)
          ∧ r.2.mem ((c.tc : Thread Cert.ReferenceMlIdeal.nD Cert.ReferenceMlIdeal.τ).loc Cert.ReferenceMlIdeal.main_arg3) = m' ((c.tc : Thread Cert.ReferenceMlIdeal.nD Cert.ReferenceMlIdeal.τ).loc Cert.ReferenceMlIdeal.main_arg3)
          ∧ r.2.mem ((c.tc : Thread Cert.ReferenceMlIdeal.nD Cert.ReferenceMlIdeal.τ).loc Cert.ReferenceMlIdeal.main_arg4) = m' ((c.tc : Thread Cert.ReferenceMlIdeal.nD Cert.ReferenceMlIdeal.τ).loc Cert.ReferenceMlIdeal.main_arg4)
          ∧ r.2.mem ((c.tc : Thread Cert.ReferenceMlIdeal.nD Cert.ReferenceMlIdeal.τ).loc Cert.ReferenceMlIdeal.main_arg5) = m' ((c.tc : Thread Cert.ReferenceMlIdeal.nD Cert.ReferenceMlIdeal.τ).loc Cert.ReferenceMlIdeal.main_arg5))

def Claim : Prop :=
  ∃ (hKernelSb : Cert.KernelSb.Facts) (hKernelSbIdeal : Cert.KernelSbIdeal.Facts) (hReferenceSbIdeal : Cert.ReferenceSbIdeal.Facts) (hKernelFfn : Cert.KernelFfn.Facts) (hKernelFfnIdeal : Cert.KernelFfnIdeal.Facts) (hReferenceFfnIdeal : Cert.ReferenceFfnIdeal.Facts) (hKernelMerge : Cert.KernelMerge.Facts) (hKernelMergeIdeal : Cert.KernelMergeIdeal.Facts) (hReferenceMergeIdeal : Cert.ReferenceMergeIdeal.Facts) (hKernelIn : Cert.KernelIn.Facts) (hKernelInIdeal : Cert.KernelInIdeal.Facts) (hReferenceInIdeal : Cert.ReferenceInIdeal.Facts) (hKernelMl : Cert.KernelMl.Facts) (hKernelMlIdeal : Cert.KernelMlIdeal.Facts) (hReferenceMlIdeal : Cert.ReferenceMlIdeal.Facts) (hPre_finite_qk : Cert.Pre_finite_qk.Facts) (hPre_finite_in : Cert.Pre_finite_in.Facts) (hPre_finite_ml : Cert.Pre_finite_ml.Facts),
    quiescent_KernelSb (hKernelSb := hKernelSb)
    ∧ quiescent_KernelSbIdeal (hKernelSbIdeal := hKernelSbIdeal)
    ∧ quiescent_KernelSbIdeal_pre_finite_qk (hKernelSbIdeal := hKernelSbIdeal) (hPre_finite_qk := hPre_finite_qk)
    ∧ quiescent_ReferenceSbIdeal (hReferenceSbIdeal := hReferenceSbIdeal)
    ∧ quiescent_ReferenceSbIdeal_pre_finite_qk (hReferenceSbIdeal := hReferenceSbIdeal) (hPre_finite_qk := hPre_finite_qk)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelIn (hKernelIn := hKernelIn)
    ∧ quiescent_KernelInIdeal (hKernelInIdeal := hKernelInIdeal)
    ∧ quiescent_KernelInIdeal_pre_finite_in (hKernelInIdeal := hKernelInIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ quiescent_KernelMl (hKernelMl := hKernelMl)
    ∧ quiescent_KernelMlIdeal (hKernelMlIdeal := hKernelMlIdeal)
    ∧ quiescent_KernelMlIdeal_pre_finite_ml (hKernelMlIdeal := hKernelMlIdeal) (hPre_finite_ml := hPre_finite_ml)
    ∧ quiescent_ReferenceMlIdeal (hReferenceMlIdeal := hReferenceMlIdeal)
    ∧ quiescent_ReferenceMlIdeal_pre_finite_ml (hReferenceMlIdeal := hReferenceMlIdeal) (hPre_finite_ml := hPre_finite_ml)
    ∧ preserves_KernelSb_KernelSbIdeal
    ∧ algebraic_KernelSbIdeal_ReferenceSbIdeal_pre_finite_qk (hKernelSbIdeal := hKernelSbIdeal) (hReferenceSbIdeal := hReferenceSbIdeal) (hPre_finite_qk := hPre_finite_qk)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelIn_KernelInIdeal
    ∧ algebraic_KernelInIdeal_ReferenceInIdeal_pre_finite_in (hKernelInIdeal := hKernelInIdeal) (hReferenceInIdeal := hReferenceInIdeal) (hPre_finite_in := hPre_finite_in)
    ∧ preserves_KernelMl_KernelMlIdeal
    ∧ algebraic_KernelMlIdeal_ReferenceMlIdeal_pre_finite_ml (hKernelMlIdeal := hKernelMlIdeal) (hReferenceMlIdeal := hReferenceMlIdeal) (hPre_finite_ml := hPre_finite_ml)
-- ==== Pre_finite_in.lean ====
abbrev S65536x1024 : Shape := ⟨2, ![65536, 1024]⟩
abbrev S1024 : Shape := ⟨1, ![1024]⟩
abbrev S1024x5640 : Shape := ⟨2, ![1024, 5640]⟩
abbrev S8 : Shape := ⟨1, ![8]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5640 : S_.BroadcastsInDim S1024x5640 (![] : Fin 0 → Fin S1024x5640.rank)
  reducesTo_S1024x5640_S_d0_1 : S1024x5640.ReducesTo [0, 1] S_

variable [Facts]

def fn {F : FTy → Type} [FloatOps F] (main_arg0 : FVec F S65536x1024 .f32) (main_arg1 : FVec F S1024 .f32) (main_arg2 : FVec F S1024x5640 .f32) (main_arg3 : FVec F S8 .f32) (main_arg4 : FVec F S64 .f32) (main_arg5 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5640 .f32 := Host.absf main_arg2
  let main_cst_0 : FVec F S_ .f32 := constant S_ .f32 0x7F800000#32
  let main_v5 : FVec F S1024x5640 .f32 := broadcastInDim S1024x5640 ![] bcast_S_S1024x5640 main_cst_0
  let main_v6 : IVec S1024x5640 1 := cmpf .olt main_v4 main_v5
  let main_c_1 : IVec S_ 1 := constantI S_ 1 1#1
  let main_v7 : IVec S_ 1 := (fun x v => Host.reduce IntOp.andi x v reducesTo_S1024x5640_S_d0_1 h_S_) main_v6 main_c_1
  let main_v8 : IVec S_ 1 := andi main_v3 main_v7
  main_v8
-- ==== Pre_finite_ml.lean ====
abbrev S16x4096x1024 : Shape := ⟨3, ![16, 4096, 1024]⟩
abbrev S16x4096x512 : Shape := ⟨3, ![16, 4096, 512]⟩
abbrev S16x4096x8 : Shape := ⟨3, ![16, 4096, 8]⟩
abbrev S4x1024 : Shape := ⟨2, ![4, 1024]⟩
abbrev S1024 : Shape := ⟨1, ![1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bitsLt_bf16_f32 : FTy.bits .bf16 < FTy.bits .f32
  bcast_S_S16x4096x512 : S_.BroadcastsInDim S16x4096x512 (![] : Fin 0 → Fin S16x4096x512.rank)
  reducesTo_S16x4096x512_S_d0_1_2 : S16x4096x512.ReducesTo [0, 1, 2] S_
  bcast_S_S16x4096x8 : S_.BroadcastsInDim S16x4096x8 (![] : Fin 0 → Fin S16x4096x8.rank)
  reducesTo_S16x4096x8_S_d0_1_2 : S16x4096x8.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v14 : IVec S_ 1) (main_v15 : FVec F S4x1024 .f32) (main_v16 : FVec F S4x1024 .f32) : IVec S_ 1 :=
  let main_v17 : IVec S4x1024 1 := cmpf .olt main_v15 main_v16
  let main_c_5 : IVec S_ 1 := constantI S_ 1 1#1
  let main_v18 : IVec S_ 1 := (fun x v => Host.reduce IntOp.andi x v reducesTo_S4x1024_S_d0_1 h_S_) main_v17 main_c_5
  let main_v19 : IVec S_ 1 := andi main_v14 main_v18
  let main_v20 : FVec F S1024 .f32 := Host.absf main_arg5
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  main_v24

def fn {F : FTy → Type} [FloatOps F] (main_arg0 : FVec F S16x4096x1024 .f32) (main_arg1 : FVec F S16x4096x512 .bf16) (main_arg2 : FVec F S16x4096x512 .bf16) (main_arg3 : FVec F S16x4096x8 .f32) (main_arg4 : FVec F S4x1024 .f32) (main_arg5 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x4096x512 .f32 := (extf .f32 · bitsLt_bf16_f32) main_arg1
  let main_v5 : FVec F S16x4096x512 .f32 := Host.absf main_v4
  let main_cst_0 : FVec F S_ .f32 := constant S_ .f32 0x7F800000#32
  let main_v6 : FVec F S16x4096x512 .f32 := broadcastInDim S16x4096x512 ![] bcast_S_S16x4096x512 main_cst_0
  let main_v7 : IVec S16x4096x512 1 := cmpf .olt main_v5 main_v6
  let main_c_1 : IVec S_ 1 := constantI S_ 1 1#1
  let main_v8 : IVec S_ 1 := (fun x v => Host.reduce IntOp.andi x v reducesTo_S16x4096x512_S_d0_1_2 h_S_) main_v7 main_c_1
  let main_v9 : IVec S_ 1 := andi main_v3 main_v8
  let main_v10 : FVec F S16x4096x8 .f32 := Host.absf main_arg3
  let main_cst_2 : FVec F S_ .f32 := constant S_ .f32 0x7F800000#32
  let main_v11 : FVec F S16x4096x8 .f32 := broadcastInDim S16x4096x8 ![] bcast_S_S16x4096x8 main_cst_2
  let main_v12 : IVec S16x4096x8 1 := cmpf .olt main_v10 main_v11
  let main_c_3 : IVec S_ 1 := constantI S_ 1 1#1
  let main_v13 : IVec S_ 1 := (fun x v => Host.reduce IntOp.andi x v reducesTo_S16x4096x8_S_d0_1_2 h_S_) main_v12 main_c_3
  let main_v14 : IVec S_ 1 := andi main_v9 main_v13
  let main_v15 : FVec F S4x1024 .f32 := Host.absf main_arg4
  let main_cst_4 : FVec F S_ .f32 := constant S_ .f32 0x7F800000#32
  let main_v16 : FVec F S4x1024 .f32 := broadcastInDim S4x1024 ![] bcast_S_S4x1024 main_cst_4
  fn_part1 (F := F) main_arg5 main_v14 main_v15 main_v16
-- ==== Pre_finite_qk.lean ====
abbrev S16x4096x512 : Shape := ⟨3, ![16, 4096, 512]⟩
abbrev S_ : Shape := ⟨0, ![]⟩

class Facts : Prop where
  bitsLt_bf16_f32 : FTy.bits .bf16 < FTy.bits .f32
  bcast_S_S16x4096x512 : S_.BroadcastsInDim S16x4096x512 (![] : Fin 0 → Fin S16x4096x512.rank)

variable [Facts]

def fn {F : FTy → Type} [FloatOps F] (main_arg0 : FVec F S16x4096x512 .bf16) (main_arg1 : FVec F S16x4096x512 .bf16) (main_arg2 : FVec F S16x4096x512 .bf16) : IVec S16x4096x512 1 :=
  let main_v0 : FVec F S16x4096x512 .f32 := (extf .f32 · bitsLt_bf16_f32) main_arg0
  let main_v1 : FVec F S16x4096x512 .f32 := Host.absf main_v0
  let main_cst : FVec F S_ .f32 := constant S_ .f32 0x7F800000#32
  let main_v2 : FVec F S16x4096x512 .f32 := broadcastInDim S16x4096x512 ![] bcast_S_S16x4096x512 main_cst
  let main_v3 : IVec S16x4096x512 1 := cmpf .olt main_v1 main_v2
  let main_v4 : FVec F S16x4096x512 .f32 := (extf .f32 · bitsLt_bf16_f32) main_arg1
  let main_v5 : FVec F S16x4096x512 .f32 := Host.absf main_v4
  let main_cst_0 : FVec F S_ .f32 := constant S_ .f32 0x7F800000#32
  let main_v6 : FVec F S16x4096x512 .f32 := broadcastInDim S16x4096x512 ![] bcast_S_S16x4096x512 main_cst_0
  let main_v7 : IVec S16x4096x512 1 := cmpf .olt main_v5 main_v6
  let main_v8 : IVec S16x4096x512 1 := andi main_v3 main_v7
  main_v8
-- ==== KernelSb.lean ====
abbrev S16x4096x512 : Shape := ⟨3, ![16, 4096, 512]⟩
abbrev S256x256 : Shape := ⟨2, ![256, 256]⟩
abbrev S1x256x128 : Shape := ⟨3, ![1, 256, 128]⟩
abbrev S1x4096x128 : Shape := ⟨3, ![1, 4096, 128]⟩
abbrev S256x128 : Shape := ⟨2, ![256, 128]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S256x256, .bf16⟩
  | .hbm, ⟨4, _⟩ => ⟨S16x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x256, .bf16⟩
  | .local _ .vmem, ⟨7, _⟩ => ⟨S1x256x128, .bf16⟩
  | .local _ .vmem, ⟨8, _⟩ => ⟨S1x256x128, .bf16⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 16], ![false, false, false]⟩

def k0_mult1 (i : grid0.Coords) : BitVec 32 :=
  let arg2 : BitVec 32 := BitVec.ofNat 32 (i 2).val
  let c256_i32 : BitVec 32 := 256#32
  let v16 : BitVec 32 := Scalar.muli arg2 c256_i32
  v16
def k0_off1 (i : grid0.Coords) : Fin 3 → Nat :=
  let c0_3 : Index := 0#32
  let arg2 : BitVec 32 := BitVec.ofNat 32 (i 2).val
  let c256_i32 : BitVec 32 := 256#32
  let v16 : BitVec 32 := Scalar.muli arg2 c256_i32
  let v17 : BitVec 32 := v16
  let v18 : Index := Scalar.indexCast v17
  let c0_4 : Index := 0#32
  ![0, v18.toNat, 0]
@[reducible] def k0_t1_loop (i : grid0.Coords) : Scf.Loop 32 :=
  let c0_i32 : BitVec 32 := 0#32
  let arg2 : BitVec 32 := BitVec.ofNat 32 (i 2).val
  let v134 : BitVec 32 := Scalar.subi arg2 c0_i32
  let c1_i32 : BitVec 32 := 1#32
  let v136 : BitVec 32 := Scalar.divsi v134 c1_i32
  let v137 : BitVec 32 := Scalar.muli v136 c1_i32
  let v138 : BitVec 32 := Scalar.addi c0_i32 v137
  let c1_i32_35 : BitVec 32 := 1#32
  ⟨c0_i32, v138, c1_i32_35⟩
def k0_mult2 (i : grid0.Coords) (k0_t1 : Fin (k0_t1_loop i).trips) : BitVec 32 :=
  let arg2 : BitVec 32 := BitVec.ofNat 32 (i 2).val
  let c1_i32_40 : BitVec 32 := 1#32
  let v148 : BitVec 32 := Scalar.subi arg2 c1_i32_40
  let c0_i32 : BitVec 32 := 0#32
  let c1_i32_35 : BitVec 32 := 1#32
  let arg8 : BitVec 32 := Scf.iv c0_i32 c1_i32_35 k0_t1
  let v149 : BitVec 32 := Scalar.subi v148 arg8
  let c256_i32_41 : BitVec 32 := 256#32
  let v150 : BitVec 32 := Scalar.muli v149 c256_i32_41
  v150
def k0_off2 (i : grid0.Coords) (k0_t1 : Fin (k0_t1_loop i).trips) : Fin 3 → Nat :=
  let c0_42 : Index := 0#32
  let arg2 : BitVec 32 := BitVec.ofNat 32 (i 2).val
  let c1_i32_40 : BitVec 32 := 1#32
  let v148 : BitVec 32 := Scalar.subi arg2 c1_i32_40
  let c0_i32 : BitVec 32 := 0#32
  let c1_i32_35 : BitVec 32 := 1#32
  let arg8 : BitVec 32 := Scf.iv c0_i32 c1_i32_35 k0_t1
  let v149 : BitVec 32 := Scalar.subi v148 arg8
  let c256_i32_41 : BitVec 32 := 256#32
  let v150 : BitVec 32 := Scalar.muli v149 c256_i32_41
  let v151 : BitVec 32 := v150
  let v152 : Index := Scalar.indexCast v151
  let c0_43 : Index := 0#32
  ![0, v152.toNat, 0]
@[reducible] def k0_t2_loop (i : grid0.Coords) : Scf.Loop 32 :=
  let c0_i32 : BitVec 32 := 0#32
  let arg2 : BitVec 32 := BitVec.ofNat 32 (i 2).val
  let v134 : BitVec 32 := Scalar.subi arg2 c0_i32
  let c1_i32 : BitVec 32 := 1#32
  let v136 : BitVec 32 := Scalar.divsi v134 c1_i32
  let v137 : BitVec 32 := Scalar.muli v136 c1_i32
  let v138 : BitVec 32 := Scalar.addi c0_i32 v137
  let v135 : BitVec 32 := Scalar.addi c0_i32 v134
  let c1_i32_36 : BitVec 32 := 1#32
  ⟨v138, v135, c1_i32_36⟩
def k0_mult3 (i : grid0.Coords) (k0_t2 : Fin (k0_t2_loop i).trips) : BitVec 32 :=
  let arg2 : BitVec 32 := BitVec.ofNat 32 (i 2).val
  let c1_i32_40 : BitVec 32 := 1#32
  let v148 : BitVec 32 := Scalar.subi arg2 c1_i32_40
  let c0_i32 : BitVec 32 := 0#32
  let v134 : BitVec 32 := Scalar.subi arg2 c0_i32
  let c1_i32 : BitVec 32 := 1#32
  let v136 : BitVec 32 := Scalar.divsi v134 c1_i32
  let v137 : BitVec 32 := Scalar.muli v136 c1_i32
  let v138 : BitVec 32 := Scalar.addi c0_i32 v137
  let c1_i32_36 : BitVec 32 := 1#32
  let arg8 : BitVec 32 := Scf.iv v138 c1_i32_36 k0_t2
  let v149 : BitVec 32 := Scalar.subi v148 arg8
  let c256_i32_41 : BitVec 32 := 256#32
  let v150 : BitVec 32 := Scalar.muli v149 c256_i32_41
  v150
def k0_off3 (i : grid0.Coords) (k0_t2 : Fin (k0_t2_loop i).trips) : Fin 3 → Nat :=
  let c0_42 : Index := 0#32
  let arg2 : BitVec 32 := BitVec.ofNat 32 (i 2).val
  let c1_i32_40 : BitVec 32 := 1#32
  let v148 : BitVec 32 := Scalar.subi arg2 c1_i32_40
  let c0_i32 : BitVec 32 := 0#32
  let v134 : BitVec 32 := Scalar.subi arg2 c0_i32
  let c1_i32 : BitVec 32 := 1#32
  let v136 : BitVec 32 := Scalar.divsi v134 c1_i32
  let v137 : BitVec 32 := Scalar.muli v136 c1_i32
  let v138 : BitVec 32 := Scalar.addi c0_i32 v137
  let c1_i32_36 : BitVec 32 := 1#32
  let arg8 : BitVec 32 := Scf.iv v138 c1_i32_36 k0_t2
  let v149 : BitVec 32 := Scalar.subi v148 arg8
  let c256_i32_41 : BitVec 32 := 256#32
  let v150 : BitVec 32 := Scalar.muli v149 c256_i32_41
  let v151 : BitVec 32 := v150
  let v152 : Index := Scalar.indexCast v151
  let c0_43 : Index := 0#32
  ![0, v152.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceSbIdeal.lean ====
abbrev S16x4096x512 : Shape := ⟨3, ![16, 4096, 512]⟩
abbrev S16x4096x8x64 : Shape := ⟨4, ![16, 4096, 8, 64]⟩
abbrev S16x8x4096x64 : Shape := ⟨4, ![16, 8, 4096, 64]⟩
abbrev S16x8x4096x4096 : Shape := ⟨4, ![16, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S16x4096x512, .f32⟩
  | .hbm, ⟨4, _⟩ => ⟨S16x4096x8x64, .f32⟩
  | .hbm, ⟨5, _⟩ => ⟨S16x8x4096x64, .f32⟩
  | .hbm, ⟨6, _⟩ => ⟨S16x4096x512, .f32⟩
  | .hbm, ⟨7, _⟩ => ⟨S16x4096x8x64, .f32⟩
  | .hbm, ⟨8, _⟩ => ⟨S16x8x4096x64, .f32⟩
  | .hbm, ⟨9, _⟩ => ⟨S16x4096x512, .f32⟩
  | .hbm, ⟨10, _⟩ => ⟨S16x4096x8x64, .f32⟩
  | .hbm, ⟨11, _⟩ => ⟨S16x8x4096x64, .f32⟩
  | .hbm, ⟨12, _⟩ => ⟨S16x8x4096x4096, .f32⟩
  | .hbm, ⟨13, _⟩ => ⟨S4096, .i32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S16x8x4096x4096, .f32⟩
  | .hbm, ⟨21, _⟩ => ⟨S16x8x4096x4096, .f32⟩
  | .hbm, ⟨22, _⟩ => ⟨S_, .f32⟩
  | .hbm, ⟨23, _⟩ => ⟨S16x8x4096x4096, .f32⟩
  | .hbm, ⟨24, _⟩ => ⟨S16x8x4096x4096, .f32⟩
  | .hbm, ⟨25, _⟩ => ⟨S16x8x4096x4096, .f32⟩
  | .hbm, ⟨26, _⟩ => ⟨S16x8x4096x4096, .f32⟩
  | .hbm, ⟨27, _⟩ => ⟨S16x8x4096x4096, .i1⟩
  | .hbm, ⟨28, _⟩ => ⟨S16x8x4096x4096, .f32⟩
  | .hbm, ⟨29, _⟩ => ⟨S16x8x4096x4096, .f32⟩
  | .hbm, ⟨30, _⟩ => ⟨S16x8x4096x4096, .f32⟩
  | .hbm, ⟨31, _⟩ => ⟨S16x8x4096x4096, .f32⟩
  | .hbm, ⟨32, _⟩ => ⟨S16x8x4096x4096, .f32⟩
  | .hbm, ⟨33, _⟩ => ⟨S16x8x4096x4096, .f32⟩
  | .hbm, ⟨34, _⟩ => ⟨S16x8x4096x4096, .f32⟩
  | .hbm, ⟨35, _⟩ => ⟨S16x8x4096x4096, .f32⟩
  | .hbm, ⟨36, _⟩ => ⟨S16x8x4096x4096, .f32⟩
  | .hbm, ⟨37, _⟩ => ⟨S_, .f32⟩
  | .hbm, ⟨38, _⟩ => ⟨S_, .f32⟩
  | .hbm, ⟨39, _⟩ => ⟨S16x8x4096x4096, .i1⟩
  | .hbm, ⟨40, _⟩ => ⟨S16x8x4096x4096, .f32⟩
  | .hbm, ⟨41, _⟩ => ⟨S16x8x4096x4096, .f32⟩
  | .hbm, ⟨42, _⟩ => ⟨S_, .f32⟩
  | .hbm, ⟨43, _⟩ => ⟨S_, .f32⟩
  | .hbm, ⟨44, _⟩ => ⟨S16x8x4096x4096, .f32⟩
  | .hbm, ⟨45, _⟩ => ⟨S16x8x4096x4096, .f32⟩
  | .hbm, ⟨46, _⟩ => ⟨S16x8x4096x4096, .f32⟩
  | .hbm, ⟨47, _⟩ => ⟨S_, .f32⟩
  | .hbm, ⟨48, _⟩ => ⟨S16x8x4096x4096, .f32⟩
  | .hbm, ⟨49, _⟩ => ⟨S16x8x4096x4096, .f32⟩
  | .hbm, ⟨50, _⟩ => ⟨S16x8x4096x4096, .f32⟩
  | .hbm, ⟨51, _⟩ => ⟨S16x8x4096x4096, .f32⟩
  | .hbm, ⟨52, _⟩ => ⟨S16x8x4096x4096, .i1⟩
  | .hbm, ⟨53, _⟩ => ⟨S16x8x4096x4096, .f32⟩
  | .hbm, ⟨54, _⟩ => ⟨S16x8x4096x4096, .f32⟩
  | .hbm, ⟨55, _⟩ => ⟨S16x8x4096x4096, .f32⟩
  | .hbm, ⟨56, _⟩ => ⟨S16x8x4096x4096, .f32⟩
  | .hbm, ⟨57, _⟩ => ⟨S16x8x4096x4096, .f32⟩
  | .hbm, ⟨58, _⟩ => ⟨S16x8x4096x4096, .f32⟩
  | .hbm, ⟨59, _⟩ => ⟨S16x8x4096x4096, .f32⟩
  | .hbm, ⟨60, _⟩ => ⟨S16x8x4096x4096, .f32⟩
  | .hbm, ⟨61, _⟩ => ⟨S16x8x4096x4096, .f32⟩
  | .hbm, ⟨62, _⟩ => ⟨S16x8x4096x4096, .f32⟩
  | .hbm, ⟨63, _⟩ => ⟨S16x8x4096x4096, .f32⟩
  | .hbm, ⟨64, _⟩ => ⟨S_, .f32⟩
  | .hbm, ⟨65, _⟩ => ⟨S_, .f32⟩
  | .hbm, ⟨66, _⟩ => ⟨S16x8x4096x4096, .i1⟩
  | .hbm, ⟨67, _⟩ => ⟨S16x8x4096x4096, .f32⟩
  | .hbm, ⟨68, _⟩ => ⟨S16x8x4096x4096, .f32⟩
  | .hbm, ⟨69, _⟩ => ⟨S16x8x4096x64, .f32⟩
  | .hbm, ⟨70, _⟩ => ⟨S16x4096x8x64, .f32⟩
  | .hbm, ⟨71, _⟩ => ⟨S16x4096x512, .f32⟩
  | .hbm, ⟨72, _⟩ => ⟨S16x4096x512, .bf16⟩
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩

abbrev nD : Nat := 1
abbrev τ : Topo := Topo.v7x

variable {F : FTy → Type} [FloatOps F]
-- ==== KernelFfn.lean ====
abbrev S65536x1024 : Shape := ⟨2, ![65536, 1024]⟩
abbrev S1024x5632 : Shape := ⟨2, ![1024, 5632]⟩
abbrev S2816x1024 : Shape := ⟨2, ![2816, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x5632, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceFfnIdeal.lean ====
abbrev S65536x1024 : Shape := ⟨2, ![65536, 1024]⟩
abbrev S1024x5632 : Shape := ⟨2, ![1024, 5632]⟩
abbrev S2816x1024 : Shape := ⟨2, ![2816, 1024]⟩
abbrev S65536x5632 : Shape := ⟨2, ![65536, 5632]⟩
abbrev S65536x2816 : Shape := ⟨2, ![65536, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S65536x5632, .f32⟩
  | .hbm, ⟨6, _⟩ => ⟨S65536x2816, .f32⟩
  | .hbm, ⟨7, _⟩ => ⟨S65536x2816, .f32⟩
  | .hbm, ⟨8, _⟩ => ⟨S65536x2816, .f32⟩
  | .hbm, ⟨9, _⟩ => ⟨S65536x2816, .f32⟩
  | .hbm, ⟨10, _⟩ => ⟨S_, .f32⟩
  | .hbm, ⟨11, _⟩ => ⟨S65536x2816, .f32⟩
  | .hbm, ⟨12, _⟩ => ⟨S65536x2816, .f32⟩
  | .hbm, ⟨13, _⟩ => ⟨S_, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S65536x2816, .f32⟩
  | .hbm, ⟨18, _⟩ => ⟨S65536x1024, .f32⟩
  | .hbm, ⟨19, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== KernelMerge.lean ====
abbrev S65536x1024 : Shape := ⟨2, ![65536, 1024]⟩
abbrev S65536x512 : Shape := ⟨2, ![65536, 512]⟩
abbrev S65536x2048 : Shape := ⟨2, ![65536, 2048]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S65536x1024, .f32⟩
  | .hbm, ⟨13, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMergeIdeal.lean ====
abbrev S65536x1024 : Shape := ⟨2, ![65536, 1024]⟩
abbrev S65536x512 : Shape := ⟨2, ![65536, 512]⟩
abbrev S65536x2048 : Shape := ⟨2, ![65536, 2048]⟩
abbrev S512x1024 : Shape := ⟨2, ![512, 1024]⟩
abbrev S1024x1024 : Shape := ⟨2, ![1024, 1024]⟩
abbrev S1024 : Shape := ⟨1, ![1024]⟩
abbrev S65536x2x1024 : Shape := ⟨3, ![65536, 2, 1024]⟩
abbrev S65536x1x1024 : Shape := ⟨3, ![65536, 1, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S65536x2048, .f32⟩
  | .hbm, ⟨9, _⟩ => ⟨S65536x2x1024, .f32⟩
  | .hbm, ⟨10, _⟩ => ⟨S65536x1x1024, .f32⟩
  | .hbm, ⟨11, _⟩ => ⟨S65536x1024, .f32⟩
  | .hbm, ⟨12, _⟩ => ⟨S65536x512, .f32⟩
  | .hbm, ⟨13, _⟩ => ⟨S65536x1024, .f32⟩
  | .hbm, ⟨14, _⟩ => ⟨S65536x1024, .f32⟩
  | .hbm, ⟨15, _⟩ => ⟨S65536x1x1024, .f32⟩
  | .hbm, ⟨16, _⟩ => ⟨S65536x1024, .f32⟩
  | .hbm, ⟨17, _⟩ => ⟨S65536x512, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelIn.lean ====
abbrev S65536x1024 : Shape := ⟨2, ![65536, 1024]⟩
abbrev S1024 : Shape := ⟨1, ![1024]⟩
abbrev S1024x5640 : Shape := ⟨2, ![1024, 5640]⟩
abbrev S8 : Shape := ⟨1, ![8]⟩
abbrev S64 : Shape := ⟨1, ![64]⟩
abbrev S8x8 : Shape := ⟨2, ![8, 8]⟩
abbrev S8x64x8x64 : Shape := ⟨4, ![8, 64, 8, 64]⟩
abbrev S512x512 : Shape := ⟨2, ![512, 512]⟩
abbrev S1024x2048 : Shape := ⟨2, ![1024, 2048]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S1024x5760 : Shape := ⟨2, ![1024, 5760]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x1024 : Shape := ⟨2, ![1, 1024]⟩
abbrev S65536x512 : Shape := ⟨2, ![65536, 512]⟩
abbrev S65536x2048 : Shape := ⟨2, ![65536, 2048]⟩
abbrev S65536x128 : Shape := ⟨2, ![65536, 128]⟩
abbrev S512x1024 : Shape := ⟨2, ![512, 1024]⟩
abbrev S512x2048 : Shape := ⟨2, ![512, 2048]⟩
abbrev S512x128 : Shape := ⟨2, ![512, 128]⟩
abbrev S512x1 : Shape := ⟨2, ![512, 1]⟩
abbrev S1024x1024 : Shape := ⟨2, ![1024, 1024]⟩
abbrev S1024x512 : Shape := ⟨2, ![1024, 512]⟩

abbrev nBuf : Space → Nat
  | .hbm => 38
  | .vmem => 24
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5640, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S8x8, .bf16⟩
  | .hbm, ⟨7, _⟩ => ⟨S8x64x8x64, .bf16⟩
  | .hbm, ⟨8, _⟩ => ⟨S512x512, .bf16⟩
  | .hbm, ⟨9, _⟩ => ⟨S1024x2048, .f32⟩
  | .hbm, ⟨10, _⟩ => ⟨S1024x3584, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x5760, .f32⟩
  | .hbm, ⟨16, _⟩ => ⟨S1024x5760, .bf16⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x1024, .f32⟩
  | .hbm, ⟨30, _⟩ => ⟨S65536x1024, .f32⟩
  | .hbm, ⟨31, _⟩ => ⟨S65536x512, .bf16⟩
  | .hbm, ⟨32, _⟩ => ⟨S65536x512, .bf16⟩
  | .hbm, ⟨33, _⟩ => ⟨S65536x512, .bf16⟩
  | .hbm, ⟨34, _⟩ => ⟨S65536x512, .bf16⟩
  | .hbm, ⟨35, _⟩ => ⟨S65536x512, .bf16⟩
  | .hbm, ⟨36, _⟩ => ⟨S65536x2048, .bf16⟩
  | .hbm, ⟨37, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5760, .bf16⟩
  | .local _ .vmem, ⟨4, _⟩ => ⟨S1x128, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x2048, .bf16⟩
  | .local _ .vmem, ⟨21, _⟩ => ⟨S512x2048, .bf16⟩
  | .local _ .vmem, ⟨22, _⟩ => ⟨S512x128, .f32⟩
  | .local _ .vmem, ⟨23, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceInIdeal.lean ====
abbrev S65536x1024 : Shape := ⟨2, ![65536, 1024]⟩
abbrev S1024 : Shape := ⟨1, ![1024]⟩
abbrev S1024x5640 : Shape := ⟨2, ![1024, 5640]⟩
abbrev S8 : Shape := ⟨1, ![8]⟩
abbrev S64 : Shape := ⟨1, ![64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5640 : Shape := ⟨2, ![65536, 5640]⟩
abbrev S65536x512 : Shape := ⟨2, ![65536, 512]⟩
abbrev S65536x8 : Shape := ⟨2, ![65536, 8]⟩
abbrev S65536x2048 : Shape := ⟨2, ![65536, 2048]⟩
abbrev S65536x8x64 : Shape := ⟨3, ![65536, 8, 64]⟩
abbrev S65536x8x1 : Shape := ⟨3, ![65536, 8, 1]⟩
abbrev S1x1x64 : Shape := ⟨3, ![1, 1, 64]⟩
abbrev S1x8 : Shape := ⟨2, ![1, 8]⟩
abbrev S65536x128 : Shape := ⟨2, ![65536, 128]⟩

abbrev nBuf : Space → Nat
  | .hbm => 98
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5640, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x5640, .f32⟩
  | .hbm, ⟨23, _⟩ => ⟨S65536x1024, .f32⟩
  | .hbm, ⟨24, _⟩ => ⟨S65536x512, .f32⟩
  | .hbm, ⟨25, _⟩ => ⟨S65536x512, .f32⟩
  | .hbm, ⟨26, _⟩ => ⟨S65536x8, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x2048, .f32⟩
  | .hbm, ⟨31, _⟩ => ⟨S65536x512, .bf16⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S65536x512, .bf16⟩
  | .hbm, ⟨41, _⟩ => ⟨S65536x8x64, .f32⟩
  | .hbm, ⟨42, _⟩ => ⟨S65536x8x64, .f32⟩
  | .hbm, ⟨43, _⟩ => ⟨S_, .f32⟩
  | .hbm, ⟨44, _⟩ => ⟨S65536x8, .f32⟩
  | .hbm, ⟨45, _⟩ => ⟨S65536x8x1, .f32⟩
  | .hbm, ⟨46, _⟩ => ⟨S_, .f32⟩
  | .hbm, ⟨47, _⟩ => ⟨S65536x8x1, .f32⟩
  | .hbm, ⟨48, _⟩ => ⟨S65536x8x1, .f32⟩
  | .hbm, ⟨49, _⟩ => ⟨S_, .f32⟩
  | .hbm, ⟨50, _⟩ => ⟨S65536x8x1, .f32⟩
  | .hbm, ⟨51, _⟩ => ⟨S65536x8x1, .f32⟩
  | .hbm, ⟨52, _⟩ => ⟨S65536x8x1, .f32⟩
  | .hbm, ⟨53, _⟩ => ⟨S65536x8x64, .f32⟩
  | .hbm, ⟨54, _⟩ => ⟨S65536x8x64, .f32⟩
  | .hbm, ⟨55, _⟩ => ⟨S1x1x64, .f32⟩
  | .hbm, ⟨56, _⟩ => ⟨S65536x8x64, .f32⟩
  | .hbm, ⟨57, _⟩ => ⟨S65536x8x64, .f32⟩
  | .hbm, ⟨58, _⟩ => ⟨S65536x512, .f32⟩
  | .hbm, ⟨59, _⟩ => ⟨S_, .f32⟩
  | .hbm, ⟨60, _⟩ => ⟨S65536x512, .f32⟩
  | .hbm, ⟨61, _⟩ => ⟨S65536x512, .f32⟩
  | .hbm, ⟨62, _⟩ => ⟨S65536x512, .bf16⟩
  | .hbm, ⟨63, _⟩ => ⟨S65536x8x64, .f32⟩
  | .hbm, ⟨64, _⟩ => ⟨S65536x8x64, .f32⟩
  | .hbm, ⟨65, _⟩ => ⟨S_, .f32⟩
  | .hbm, ⟨66, _⟩ => ⟨S65536x8, .f32⟩
  | .hbm, ⟨67, _⟩ => ⟨S65536x8x1, .f32⟩
  | .hbm, ⟨68, _⟩ => ⟨S_, .f32⟩
  | .hbm, ⟨69, _⟩ => ⟨S65536x8x1, .f32⟩
  | .hbm, ⟨70, _⟩ => ⟨S65536x8x1, .f32⟩
  | .hbm, ⟨71, _⟩ => ⟨S_, .f32⟩
  | .hbm, ⟨72, _⟩ => ⟨S65536x8x1, .f32⟩
  | .hbm, ⟨73, _⟩ => ⟨S65536x8x1, .f32⟩
  | .hbm, ⟨74, _⟩ => ⟨S65536x8x1, .f32⟩
  | .hbm, ⟨75, _⟩ => ⟨S65536x8x64, .f32⟩
  | .hbm, ⟨76, _⟩ => ⟨S65536x8x64, .f32⟩
  | .hbm, ⟨77, _⟩ => ⟨S1x1x64, .f32⟩
  | .hbm, ⟨78, _⟩ => ⟨S65536x8x64, .f32⟩
  | .hbm, ⟨79, _⟩ => ⟨S65536x8x64, .f32⟩
  | .hbm, ⟨80, _⟩ => ⟨S65536x512, .f32⟩
  | .hbm, ⟨81, _⟩ => ⟨S65536x512, .bf16⟩
  | .hbm, ⟨82, _⟩ => ⟨S65536x512, .bf16⟩
  | .hbm, ⟨83, _⟩ => ⟨S65536x2048, .f32⟩
  | .hbm, ⟨84, _⟩ => ⟨S65536x2048, .f32⟩
  | .hbm, ⟨85, _⟩ => ⟨S_, .f32⟩
  | .hbm, ⟨86, _⟩ => ⟨S65536x2048, .f32⟩
  | .hbm, ⟨87, _⟩ => ⟨S65536x2048, .f32⟩
  | .hbm, ⟨88, _⟩ => ⟨S_, .f32⟩
  | .hbm, ⟨89, _⟩ => ⟨S65536x2048, .f32⟩
  | .hbm, ⟨90, _⟩ => ⟨S65536x2048, .f32⟩
  | .hbm, ⟨91, _⟩ => ⟨S65536x2048, .bf16⟩
  | .hbm, ⟨92, _⟩ => ⟨S1x8, .f32⟩
  | .hbm, ⟨93, _⟩ => ⟨S65536x8, .f32⟩
  | .hbm, ⟨94, _⟩ => ⟨S65536x8, .f32⟩
  | .hbm, ⟨95, _⟩ => ⟨S_, .i32⟩
  | .hbm, ⟨96, _⟩ => ⟨S_, .f32⟩
  | .hbm, ⟨97, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c : Ref sig .tc := ⟨.hbm, 95, rfl⟩
abbrev main_call0_v0 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== KernelMl.lean ====
abbrev S16x4096x1024 : Shape := ⟨3, ![16, 4096, 1024]⟩
abbrev S16x4096x512 : Shape := ⟨3, ![16, 4096, 512]⟩
abbrev S16x4096x8 : Shape := ⟨3, ![16, 4096, 8]⟩
abbrev S4x1024 : Shape := ⟨2, ![4, 1024]⟩
abbrev S1024 : Shape := ⟨1, ![1024]⟩
abbrev S256x256 : Shape := ⟨2, ![256, 256]⟩
abbrev S16x8x4096 : Shape := ⟨3, ![16, 8, 4096]⟩
abbrev S_ : Shape := ⟨0, ![]⟩
abbrev S16x16x4096 : Shape := ⟨3, ![16, 16, 4096]⟩
abbrev S1x1024 : Shape := ⟨2, ![1, 1024]⟩
abbrev S1x256x1024 : Shape := ⟨3, ![1, 256, 1024]⟩
abbrev S1x256x512 : Shape := ⟨3, ![1, 256, 512]⟩
abbrev S1x256x8 : Shape := ⟨3, ![1, 256, 8]⟩
abbrev S1x16x256 : Shape := ⟨3, ![1, 16, 256]⟩
abbrev S264x1024 : Shape := ⟨2, ![264, 1024]⟩
abbrev S4x128x256 : Shape := ⟨3, ![4, 128, 256]⟩
abbrev S8x128 : Shape := ⟨2, ![8, 128]⟩
abbrev S8x1024 : Shape := ⟨2, ![8, 1024]⟩
abbrev S256x1024 : Shape := ⟨2, ![256, 1024]⟩
abbrev S256x512 : Shape := ⟨2, ![256, 512]⟩
abbrev S256x8 : Shape := ⟨2, ![256, 8]⟩
abbrev S16x256 : Shape := ⟨2, ![16, 256]⟩
abbrev S256x128 : Shape := ⟨2, ![256, 128]⟩
abbrev S256x1 : Shape := ⟨2, ![256, 1]⟩
abbrev S1x256 : Shape := ⟨2, ![1, 256]⟩
abbrev S1x1 : Shape := ⟨2, ![1, 1]⟩
abbrev S256 : Shape := ⟨1, ![256]⟩
abbrev S1x256x128 : Shape := ⟨3, ![1, 256, 128]⟩
abbrev S1x128x256 : Shape := ⟨3, ![1, 128, 256]⟩
abbrev S128x256 : Shape := ⟨2, ![128, 256]⟩
abbrev S1 : Shape := ⟨1, ![1]⟩
abbrev S1x128 : Shape := ⟨2, ![1, 128]⟩

abbrev nBuf : Space → Nat
  | .hbm => 14
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x8, .f32⟩
  | .hbm, ⟨4, _⟩ => ⟨S4x1024, .f32⟩
  | .hbm, ⟨5, _⟩ => ⟨S1024, .f32⟩
  | .hbm, ⟨6, _⟩ => ⟨S256x256, .bf16⟩
  | .hbm, ⟨7, _⟩ => ⟨S256x256, .bf16⟩
  | .hbm, ⟨8, _⟩ => ⟨S16x8x4096, .f32⟩
  | .hbm, ⟨9, _⟩ => ⟨S_, .i32⟩
  | .hbm, ⟨10, _⟩ => ⟨S_, .f32⟩
  | .hbm, ⟨11, _⟩ => ⟨S16x16x4096, .f32⟩
  | .hbm, ⟨12, _⟩ => ⟨S1x1024, .f32⟩
  | .hbm, ⟨13, _⟩ => ⟨S16x4096x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x8, .f32⟩
  | .local _ .vmem, ⟨7, _⟩ => ⟨S1x256x8, .f32⟩
  | .local _ .vmem, ⟨8, _⟩ => ⟨S1x16x256, .f32⟩
  | .local _ .vmem, ⟨9, _⟩ => ⟨S1x16x256, .f32⟩
  | .local _ .vmem, ⟨10, _⟩ => ⟨S4x1024, .f32⟩
  | .local _ .vmem, ⟨11, _⟩ => ⟨S1x1024, .f32⟩
  | .local _ .vmem, ⟨12, _⟩ => ⟨S256x256, .bf16⟩
  | .local _ .vmem, ⟨13, _⟩ => ⟨S256x256, .bf16⟩
  | .local _ .vmem, ⟨14, _⟩ => ⟨S1x256x512, .bf16⟩
  | .local _ .vmem, ⟨15, _⟩ => ⟨S1x256x512, .bf16⟩
  | .local _ .vmem, ⟨16, _⟩ => ⟨S264x1024, .f32⟩
  | .local _ .vmem, ⟨17, _⟩ => ⟨S4x128x256, .f32⟩
  | .local _ .vmem, ⟨18, _⟩ => ⟨S8x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMlIdeal.lean ====
abbrev S16x4096x1024 : Shape := ⟨3, ![16, 4096, 1024]⟩
abbrev S16x4096x512 : Shape := ⟨3, ![16, 4096, 512]⟩
abbrev S16x4096x8 : Shape := ⟨3, ![16, 4096, 8]⟩
abbrev S4x1024 : Shape := ⟨2, ![4, 1024]⟩
abbrev S1024 : Shape := ⟨1, ![1024]⟩
abbrev S_ : Shape := ⟨0, ![]⟩
abbrev S16x4099x1024 : Shape := ⟨3, ![16, 4099, 1024]⟩
abbrev S1x1024 : Shape := ⟨2, ![1, 1024]⟩
abbrev S1x1x1024 : Shape := ⟨3, ![1, 1, 1024]⟩
abbrev S16x4096x4x128 : Shape := ⟨4, ![16, 4096, 4, 128]⟩
abbrev S16x4x4096x128 : Shape := ⟨4, ![16, 4, 4096, 128]⟩
abbrev S16x4096x4 : Shape := ⟨3, ![16, 4096, 4]⟩
abbrev S16x4x4096 : Shape := ⟨3, ![16, 4, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4x4096x1 : Shape := ⟨4, ![16, 4, 4096, 1]⟩
abbrev S16x4x1x4096 : Shape := ⟨4, ![16, 4, 1, 4096]⟩
abbrev S16x4x4096x4096 : Shape := ⟨4, ![16, 4, 4096, 4096]⟩

abbrev nBuf : Space → Nat
  | .hbm => 130
  | .vmem => 0
  | .smem => 0
  | _ => 0

abbrev hbmTy0_0 (i : Nat) : BufTy := match i % 128 with
  | 0 => ⟨S16x4096x1024, .f32⟩
  | 1 => ⟨S16x4096x512, .bf16⟩
  | 2 => ⟨S16x4096x512, .bf16⟩
  | 3 => ⟨S16x4096x8, .f32⟩
  | 4 => ⟨S4x1024, .f32⟩
  | 5 => ⟨S1024, .f32⟩
  | 6 => ⟨S_, .i32⟩
  | 7 => ⟨S_, .f32⟩
  | 8 => ⟨S16x4099x1024, .f32⟩
  | 9 => ⟨S1x1024, .f32⟩
  | 10 => ⟨S1024, .f32⟩
  | 11 => ⟨S16x4096x1024, .f32⟩
  | 12 => ⟨S1x1x1024, .f32⟩
  | 13 => ⟨S16x4096x1024, .f32⟩
  | 14 => ⟨S16x4096x1024, .f32⟩
  | 15 => ⟨S_, .f32⟩
  | 16 => ⟨S16x4096x1024, .f32⟩
  | 17 => ⟨S16x4096x1024, .f32⟩
  | 18 => ⟨S1x1024, .f32⟩
  | 19 => ⟨S1024, .f32⟩
  | 20 => ⟨S16x4096x1024, .f32⟩
  | 21 => ⟨S1x1x1024, .f32⟩
  | 22 => ⟨S16x4096x1024, .f32⟩
  | 23 => ⟨S16x4096x1024, .f32⟩
  | 24 => ⟨S16x4096x1024, .f32⟩
  | 25 => ⟨S1x1024, .f32⟩
  | 26 => ⟨S1024, .f32⟩
  | 27 => ⟨S16x4096x1024, .f32⟩
  | 28 => ⟨S1x1x1024, .f32⟩
  | 29 => ⟨S16x4096x1024, .f32⟩
  | 30 => ⟨S16x4096x1024, .f32⟩
  | 31 => ⟨S16x4096x1024, .f32⟩
  | 32 => ⟨S1x1024, .f32⟩
  | 33 => ⟨S1024, .f32⟩
  | 34 => ⟨S16x4096x1024, .f32⟩
  | 35 => ⟨S1x1x1024, .f32⟩
  | 36 => ⟨S16x4096x1024, .f32⟩
  | 37 => ⟨S16x4096x1024, .f32⟩
  | 38 => ⟨S16x4096x1024, .f32⟩
  | 39 => ⟨S1x1x1024, .f32⟩
  | 40 => ⟨S16x4096x1024, .f32⟩
  | 41 => ⟨S16x4096x1024, .f32⟩
  | 42 => ⟨S16x4096x1024, .f32⟩
  | 43 => ⟨S16x4096x1024, .f32⟩
  | 44 => ⟨S_, .f32⟩
  | 45 => ⟨S16x4096x1024, .f32⟩
  | 46 => ⟨S16x4096x1024, .f32⟩
  | 47 => ⟨S_, .f32⟩
  | 48 => ⟨S16x4096x1024, .f32⟩
  | 49 => ⟨S16x4096x1024, .f32⟩
  | 50 => ⟨S16x4096x1024, .f32⟩
  | 51 => ⟨S16x4096x512, .f32⟩
  | 52 => ⟨S16x4096x512, .f32⟩
  | 53 => ⟨S16x4096x4x128, .f32⟩
  | 54 => ⟨S16x4x4096x128, .f32⟩
  | 55 => ⟨S16x4096x4x128, .f32⟩
  | 56 => ⟨S16x4x4096x128, .f32⟩
  | 57 => ⟨S_, .f32⟩
  | 58 => ⟨S16x4x4096x128, .f32⟩
  | 59 => ⟨S16x4x4096x128, .f32⟩
  | 60 => ⟨S16x4096x512, .f32⟩
  | 61 => ⟨S16x4096x4x128, .f32⟩
  | 62 => ⟨S16x4x4096x128, .f32⟩
  | 63 => ⟨S16x4096x4, .f32⟩
  | 64 => ⟨S16x4x4096, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S16x4096x4, .f32⟩
  | 71 => ⟨S16x4096x4, .f32⟩
  | 72 => ⟨S16x4096x4, .i1⟩
  | 73 => ⟨S16x4096x4, .f32⟩
  | 74 => ⟨S16x4096x4, .f32⟩
  | 75 => ⟨S16x4096x4, .f32⟩
  | 76 => ⟨S16x4096x4, .f32⟩
  | 77 => ⟨S16x4096x4, .f32⟩
  | 78 => ⟨S16x4096x4, .f32⟩
  | 79 => ⟨S16x4096x4, .f32⟩
  | 80 => ⟨S16x4096x4, .f32⟩
  | 81 => ⟨S16x4096x4, .f32⟩
  | 82 => ⟨S16x4x4096, .f32⟩
  | 83 => ⟨S4096, .i32⟩
  | 84 => ⟨S1x4096, .i32⟩
  | 85 => ⟨S4096, .i32⟩
  | 86 => ⟨S4096x1, .i32⟩
  | 87 => ⟨S4096x4096, .i32⟩
  | 88 => ⟨S4096x4096, .i32⟩
  | 89 => ⟨S4096x4096, .i1⟩
  | 90 => ⟨S_, .f32⟩
  | 91 => ⟨S_, .f32⟩
  | 92 => ⟨S16x4x4096, .f32⟩
  | 93 => ⟨S16x4x4096x1, .f32⟩
  | 94 => ⟨S16x4x1x4096, .f32⟩
  | 95 => ⟨S16x4x4096x4096, .f32⟩
  | 96 => ⟨S16x4x4096x4096, .f32⟩
  | 97 => ⟨S16x4x4096x4096, .f32⟩
  | 98 => ⟨S16x4x1x4096, .f32⟩
  | 99 => ⟨S16x4x4096x4096, .f32⟩
  | 100 => ⟨S16x4x4096x4096, .f32⟩
  | 101 => ⟨S_, .f32⟩
  | 102 => ⟨S_, .f32⟩
  | 103 => ⟨S16x4x4096x4096, .i1⟩
  | 104 => ⟨S16x4x4096x4096, .f32⟩
  | 105 => ⟨S16x4x4096x4096, .f32⟩
  | 106 => ⟨S_, .f32⟩
  | 107 => ⟨S16x4x4096, .f32⟩
  | 108 => ⟨S16x4x4096, .f32⟩
  | 109 => ⟨S16x4x4096x1, .f32⟩
  | 110 => ⟨S16x4x4096x4096, .f32⟩
  | 111 => ⟨S16x4x4096x4096, .f32⟩
  | 112 => ⟨S16x4x4096x4096, .f32⟩
  | 113 => ⟨S16x4x4096x4096, .f32⟩
  | 114 => ⟨S16x4x4096x4096, .f32⟩
  | 115 => ⟨S16x4x4096x128, .f32⟩
  | 116 => ⟨S_, .f32⟩
  | 117 => ⟨S16x4x4096, .f32⟩
  | 118 => ⟨S16x4x4096, .f32⟩
  | 119 => ⟨S16x4x4096, .f32⟩
  | 120 => ⟨S16x4x4096, .f32⟩
  | 121 => ⟨S16x4x4096, .f32⟩
  | 122 => ⟨S16x4x4096x1, .f32⟩
  | 123 => ⟨S16x4x4096x128, .f32⟩
  | 124 => ⟨S16x4x4096x128, .f32⟩
  | 125 => ⟨S16x4096x4x128, .f32⟩
  | 126 => ⟨S16x4096x512, .f32⟩
  | 127 => ⟨S16x4096x512, .f32⟩
  | _ => ⟨S16x4096x1024, .f32⟩

abbrev hbmTy0_1 (i : Nat) : BufTy := match i % 128 with
  | 0 => ⟨S16x4096x512, .f32⟩
  | 1 => ⟨S16x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call2_v0 : Ref sig .tc := ⟨.hbm, 66, rfl⟩
abbrev main_call2_call0_cst : Ref sig .tc := ⟨.hbm, 67, rfl⟩
abbrev main_call2_call0_v0 : Ref sig .tc := ⟨.hbm, 68, rfl⟩
abbrev main_call2_call0_v1 : Ref sig .tc := ⟨.hbm, 69, rfl⟩
abbrev main_call2_call0_v2 : Ref sig .tc := ⟨.hbm, 70, rfl⟩
abbrev main_call2_call0_v3 : Ref sig .tc := ⟨.hbm, 71, rfl⟩
abbrev main_call2_call0_v4 : Ref sig .tc := ⟨.hbm, 72, rfl⟩
abbrev main_call2_call0_v5 : Ref sig .tc := ⟨.hbm, 73, rfl⟩
abbrev main_call2_call0_v6 : Ref sig .tc := ⟨.hbm, 74, rfl⟩
abbrev main_call2_call0_v7 : Ref sig .tc := ⟨.hbm, 75, rfl⟩
abbrev main_call2_call0_v8 : Ref sig .tc := ⟨.hbm, 76, rfl⟩
abbrev main_call2_call0_v9 : Ref sig .tc := ⟨.hbm, 77, rfl⟩
abbrev main_call2_call0_v10 : Ref sig .tc := ⟨.hbm, 78, rfl⟩
abbrev main_call2_call0_v11 : Ref sig .tc := ⟨.hbm, 79, rfl⟩
abbrev main_call2_v1 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call3_call0_cst : Ref sig .tc := ⟨.hbm, 90, rfl⟩
abbrev main_call3_call0_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_1 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v66 : Ref sig .tc := ⟨.hbm, 105, rfl⟩
abbrev main_cst_2 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_3 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]
-- ==== Proof.SbFrame.lean ====
module

public import proofs.«01_k».proof.Defs
public import proofs.«01_k».proof.Proof.Gen.KernelSb.Frame
public import proofs.«01_k».proof.Proof.Gen.KernelSbIdeal.Value
public import proofs.«01_k».proof.Proof.Gen.ReferenceSbIdeal.Read

@[expose] public section

set_option maxRecDepth 16384

noncomputable section

namespace Cert.Proof.SbFrame

open Idealize.ShloMosaic Idealize.ShloMosaic.TcCoe Idealize.SL.Sem

/-- The attention call leaves its arguments as they were and its semaphores at zero. -/
theorem frame : Cert.quiescent_KernelSb (hKernelSb := Cert.KernelSb.Gen.facts) :=
  fun m ρ _ => Cert.KernelSb.Gen.frame m ρ

/-- So does the call on the ideal instance. -/
theorem frame_ideal : Cert.quiescent_KernelSbIdeal (hKernelSbIdeal := Cert.KernelSbIdeal.Gen.facts) :=
  fun m ρ _ => Cert.KernelSbIdeal.Gen.frame m ρ

/-- So does the reference. -/
theorem frame_reference : Cert.quiescent_ReferenceSbIdeal (hReferenceSbIdeal := Cert.ReferenceSbIdeal.Gen.facts) :=
  fun m ρ _ => (θ_run Cert.ReferenceSbIdeal.defs _ _).mono
    (fun r h => ⟨fun c => (h c).2, sem_eq_zero_of_no_sems (by decide) r.2⟩)
    (Cert.ReferenceSbIdeal.Value.run (F := Ideal) m ρ)

end Cert.Proof.SbFrame

end
-- ==== Proof.SbTile.lean ====
module

public import proofs.«01_k».proof.Proof.Gen.KernelSbIdeal.Frame
public import Idealize.ShloMosaic.Lib.Pipeline.ValueKit

@[expose] public section

set_option maxRecDepth 16384

noncomputable section

namespace Cert.Proof.SbTile

open Cert.KernelSbIdeal Cert.KernelSbIdeal.Gen
open Idealize.ShloMosaic Idealize.ShloMosaic.TcCoe Idealize.SL.Sem

/-- The logarithm of the logistic curve, as the kernel writes it. -/
def ls (z : EReal) : EReal := min z 0 - Ideal.log (1 + Ideal.exp (0 - FloatOps.absf (F := Ideal) (φ := .f32) z))

/-- The score of row `r` of the queries against row `s` of a tile of keys. -/
def score (w : Vec Ideal S256x128 .bf16) (kt : Vec Ideal S1x256x128 .bf16) (r s : Fin 256) : EReal :=
  ∑ l, (show EReal from w (ix2 r l)) * (show EReal from kt (ix3 0 s l))

/-- A chunk of 128 columns, and what it leaves after rounding, against column `l` of the table. -/
def chunk (tt : Vec Ideal S256x256 .bf16) (u : Fin 128 → EReal) (l : Fin 256) : EReal :=
  ∑ x : Fin 128, u x * (show EReal from tt (ix2 ⟨x, by omega⟩ l))
    + ∑ x : Fin 128, (u x - u x) * (show EReal from tt (ix2 ⟨128 + x, by omega⟩ l))

/-- A tile's left columns. -/
def left (f : Fin 256 → EReal) (x : Fin 128) : EReal := f ⟨x, by omega⟩

/-- A tile's right columns. -/
def right (f : Fin 256 → EReal) (x : Fin 128) : EReal := f ⟨128 + x, by omega⟩

/-- The running sum after a tile. -/
def carryStep (tt : Vec Ideal S256x256 .bf16) (U : Fin 256 → EReal) (C : Fin 128 → EReal) (l : Fin 128) : EReal :=
  C l + chunk tt (right U) ⟨128 + l, by omega⟩ + chunk tt (left U) ⟨128 + l, by omega⟩

/-- The sum of the later columns, at a right column. -/
def tailR (tt : Vec Ideal S256x256 .bf16) (U : Fin 256 → EReal) (C : Fin 128 → EReal) (x : Fin 128) : EReal :=
  chunk tt (right U) ⟨x, by omega⟩ + C x

/-- The sum of the later columns, at a left column. -/
def tailL (tt : Vec Ideal S256x256 .bf16) (U : Fin 256 → EReal) (C : Fin 128 → EReal) (x : Fin 128) : EReal :=
  chunk tt (left U) ⟨x, by omega⟩ + (C x + chunk tt (right U) ⟨128 + x, by omega⟩)

section
variable (w : Vec Ideal S256x128 .bf16) (kt vt : Vec Ideal S1x256x128 .bf16) (tt : Vec Ideal S256x256 .bf16)
  (C A : Vec Ideal S256x128 .f32) (q : Vec Ideal S1x256x128 .bf16) (r : Fin 256) (l : Fin 128)

/-- A word below another selects as the numbers do. -/
theorem select_lt (x r : Fin 256) (a b : EReal) :
    Scalar.select (IntOp.cmpi .slt (BitVec.ofNat 32 x.val) (BitVec.ofNat 32 r.val)) a b = if x.val < r.val then a else b := by
  rw [WordCmp.cmpi_slt_ofNat (by omega) (by omega)]
  by_cases h : x.val < r.val <;> simp [h, Scalar.select]

/-- The same in a tile's left half. -/
theorem select_left (x : Fin 128) (r : Fin 256) (a b : EReal) :
    Scalar.select (IntOp.cmpi .slt (BitVec.ofNat 32 x.val) (BitVec.ofNat 32 r.val)) a b = if x.val < r.val then a else b :=
  select_lt ⟨x.val, by omega⟩ r a b

/-- The same in a tile's right half. -/
theorem select_right (x : Fin 128) (r : Fin 256) (a b : EReal) :
    Scalar.select (IntOp.cmpi .slt (BitVec.ofNat 32 (128 + x.val)) (BitVec.ofNat 32 r.val)) a b = if 128 + x.val < r.val then a else b :=
  select_lt ⟨128 + x.val, by omega⟩ r a b

/-- The logarithms of the logistic curve along a row of the tile. -/
def lrow (s : Fin 256) : EReal := ls (score w kt r s)

/-- The logarithms of what the weight leaves, along a row of the tile. -/
def urow (s : Fin 256) : EReal := ls (score w kt r s) - score w kt r s

/-- The same in the diagonal tile: zero from the row's own column on. -/
def mrow (s : Fin 256) : EReal := if s.val < r.val then urow w kt r s else 0

/-- A tile's share of the weighted sum. -/
def share (L U : Fin 256 → EReal) (D : Fin 128 → EReal) : EReal :=
  ∑ x : Fin 128, Ideal.exp (left L x + tailL tt U D x) * (show EReal from vt (ix3 0 ⟨x, by omega⟩ l))
    + ∑ x : Fin 128, Ideal.exp (right L x + tailR tt U D x) * (show EReal from vt (ix3 0 ⟨128 + x, by omega⟩ l))

/-- The diagonal tile's share: no weight from the row's own column on. -/
def shareM (L U : Fin 256 → EReal) (D : Fin 128 → EReal) : EReal :=
  ∑ x : Fin 128, (if x.val < r.val then Ideal.exp (left L x + tailL tt U D x) else 0) * (show EReal from vt (ix3 0 ⟨x, by omega⟩ l))
    + ∑ x : Fin 128, (if 128 + x.val < r.val then Ideal.exp (right L x + tailR tt U D x) else 0) * (show EReal from vt (ix3 0 ⟨128 + x, by omega⟩ l))

/-- The first head's running sum after a tile. -/
theorem carry0 : k0_pay18 (k0_pay14 w C kt tt) (k0_pay16 w kt) tt (ix2 r l)
    = carryStep tt (urow w kt r) (fun x => C (ix2 r x)) l := by
  pointwise [k0_pay18, k0_pay17, k0_pay14, k0_pay13, k0_pay12, k0_pay11, k0_pay10, k0_pay8, k0_pay16, carryStep, chunk, left, right, urow, ls, score]

/-- The first head's weighted sum after a tile. -/
theorem acc0 : k0_pay19 A (k0_pay9 vt) (k0_pay11 w kt) (k0_pay14 w C kt tt) (k0_pay15 w C kt tt) (k0_pay16 w kt) tt (ix2 r l)
    = A (ix2 r l) + share vt tt l (lrow w kt r) (urow w kt r) (fun x => C (ix2 r x)) := by
  pointwise [k0_pay19, k0_pay18, k0_pay17, k0_pay15, k0_pay14, k0_pay13, k0_pay12, k0_pay11, k0_pay10, k0_pay9, k0_pay8, k0_pay16, share, tailL, tailR, chunk, left, right, lrow, urow, ls, score]

/-- The second head's running sum after a tile. -/
theorem carry1 : k0_pay2 (k0_pay24 w C (k0_pay8 kt) tt) (k0_pay26 w (k0_pay8 kt)) tt (constant (F := Ideal) S256x256 .f32 0x00000000#32) (ix2 r l)
    = carryStep tt (urow w kt r) (fun x => C (ix2 r x)) l := by
  pointwise [k0_pay2, k0_pay1, k0_pay24, k0_pay23, k0_pay22, k0_pay21, k0_pay20, k0_pay8, k0_pay26, carryStep, chunk, left, right, urow, ls, score]

/-- The second head's weighted sum after a tile. -/
theorem acc1 : k0_pay3 A (k0_pay9 vt) (k0_pay21 w (k0_pay8 kt)) (k0_pay24 w C (k0_pay8 kt) tt) (k0_pay25 w C (k0_pay8 kt) tt) (k0_pay26 w (k0_pay8 kt)) tt (constant (F := Ideal) S256x256 .f32 0x00000000#32) (ix2 r l)
    = A (ix2 r l) + share vt tt l (lrow w kt r) (urow w kt r) (fun x => C (ix2 r x)) := by
  pointwise [k0_pay3, k0_pay1, k0_pay25, k0_pay24, k0_pay23, k0_pay22, k0_pay21, k0_pay20, k0_pay9, k0_pay8, k0_pay26, share, tailL, tailR, chunk, left, right, lrow, urow, ls, score]

/-- The first head's queries: the lower 64 lanes, zero in the others. -/
theorem q0 : k0_pay49 q (ix2 r l) = if l.val < 64 then q (ix3 0 r l) else (0 : EReal) := by
  pointwise [k0_pay49, k0_pay46, k0_pay47, k0_pay48]
  exact select_lt ⟨l.val, by omega⟩ 64 _ _

/-- The second head's queries: the upper 64 lanes, zero in the others. -/
theorem q1 : k0_pay50 q (ix2 r l) = if l.val < 64 then (0 : EReal) else q (ix3 0 r l) := by
  pointwise [k0_pay50, k0_pay46, k0_pay47, k0_pay48]
  exact select_lt ⟨l.val, by omega⟩ 64 _ _

/-- The first head's running sum after the diagonal tile. -/
theorem carryD0 : k0_pay64 (k0_pay52 (F := Ideal)) (k0_pay57 q kt) (k0_pay58 q kt) (k0_pay59 q kt) (k0_pay60 q kt) tt tt (ix2 r l)
    = carryStep tt (mrow (k0_pay49 q) kt r) (fun _ => 0) l := by
  pointwise [k0_pay64, k0_pay63, k0_pay62, k0_pay61, k0_pay60, k0_pay59, k0_pay58, k0_pay57, k0_pay56, k0_pay55, k0_pay53, k0_pay52, k0_pay51, select_left, select_right, carryStep, chunk, left, right, mrow, urow, ls, score]

/-- The first head's weighted sum after the diagonal tile. -/
theorem accD0 : k0_pay65 k0_pay51 (k0_pay52 (F := Ideal)) (k0_pay54 vt) (k0_pay56 q kt) (k0_pay57 q kt) (k0_pay58 q kt) (k0_pay59 q kt) (k0_pay60 q kt) tt tt (ix2 r l)
    = shareM vt tt r l (lrow (k0_pay49 q) kt r) (mrow (k0_pay49 q) kt r) (fun _ => 0) := by
  pointwise [k0_pay65, k0_pay64, k0_pay63, k0_pay62, k0_pay61, k0_pay60, k0_pay59, k0_pay58, k0_pay57, k0_pay56, k0_pay55, k0_pay54, k0_pay53, k0_pay52, k0_pay51, select_left, select_right, shareM, tailL, tailR, chunk, left, right, lrow, mrow, urow, ls, score]

/-- The second head's running sum after the diagonal tile. -/
theorem carryD1 : k0_pay74 k0_pay51 (k0_pay52 (F := Ideal)) (k0_pay66 w (k0_pay53 kt)) (k0_pay67 w (k0_pay53 kt)) (k0_pay68 w (k0_pay53 kt)) tt tt (ix2 r l)
    = carryStep tt (mrow w kt r) (fun _ => 0) l := by
  pointwise [k0_pay74, k0_pay73, k0_pay72, k0_pay71, k0_pay70, k0_pay69, k0_pay68, k0_pay67, k0_pay66, k0_pay53, k0_pay52, k0_pay51, select_left, select_right, carryStep, chunk, left, right, mrow, urow, ls, score]

/-- The second head's weighted sum after the diagonal tile. -/
theorem accD1 : k0_pay75 k0_pay51 (k0_pay52 (F := Ideal)) (k0_pay54 vt) (k0_pay66 w (k0_pay53 kt)) (k0_pay67 w (k0_pay53 kt)) (k0_pay68 w (k0_pay53 kt)) tt tt (ix2 r l)
    = shareM vt tt r l (lrow w kt r) (mrow w kt r) (fun _ => 0) := by
  pointwise [k0_pay75, k0_pay74, k0_pay73, k0_pay72, k0_pay71, k0_pay70, k0_pay69, k0_pay68, k0_pay67, k0_pay66, k0_pay54, k0_pay53, k0_pay52, k0_pay51, select_left, select_right, shareM, tailL, tailR, chunk, left, right, lrow, mrow, urow, ls, score]

/-- The block of the result: the first head's lower lanes and the second head's upper ones. -/
theorem out (A C : Vec Ideal S256x128 .f32) : (show EReal from k0_pay7 (F := Ideal) k0_pay47 A C (ix3 0 r l)) = (if l.val < 64 then (show EReal from A (ix2 r l)) else (show EReal from C (ix2 r l)) : EReal) := by
  pointwise [k0_pay7, k0_pay47]
  exact select_lt ⟨l.val, by omega⟩ 64 _ _

end

end Cert.Proof.SbTile

end
-- ==== Proof.Finite.lean ====
module

public import Idealize.ShloMosaic.Lib.ReduceAll
public import Idealize.ShloMosaic.Lib.IdealHost
public import Idealize.ShloMosaic.Lib.Pointwise

@[expose] public section

set_option maxRecDepth 16384

noncomputable section

namespace Cert.Proof.Finite

open Idealize.ShloMosaic

/-- The bit pattern of infinity is the largest value. -/
theorem ofBits_inf : Ideal.ofBits .f32 0x7F800000#32 = ⊤ := by
  simp [Ideal.ofBits, Ideal.ieee]

/-- A value whose magnitude compares below infinity is a real number. -/
theorem real_of_lt {x : EReal} (h : max x (-x) < ⊤) : ∃ r : ℝ, x = r := by
  induction x with
  | bot => simp at h
  | top => simp at h
  | coe r => exact ⟨r, rfl⟩

/-- A comparison of a magnitude with infinity, passed. -/
theorem real_of_cmp {x : EReal}
    (h : FloatOps.cmpf (F := Ideal) (φ := .f32) .olt (FloatOps.hostAbsf (F := Ideal) (φ := .f32) x) (FloatOps.ofBits .f32 0x7F800000#32) = 1#1) :
    ∃ r : ℝ, x = r := by
  refine real_of_lt (lt_of_lt_of_eq ((Ideal.cmp_olt_eq_one _ _).1 h) ofBits_inf)

/-- A real sum of real terms. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A square is not negative. -/
theorem sq_nonneg (x : EReal) : 0 ≤ x * x := by
  induction x with
  | bot => simp
  | top => simp
  | coe r => exact_mod_cast mul_self_nonneg r

/-- A sum of squares is not negative. -/
theorem sum_sq_nonneg {n : ℕ} (x : Fin n → EReal) : 0 ≤ ∑ i, x i * x i :=
  Finset.sum_nonneg fun i _ => sq_nonneg (x i)

/-- A sum of squares with an infinite term is infinite. -/
theorem sum_sq_top {n : ℕ} (x : Fin n → EReal) (e : Fin n) (h : x e * x e = ⊤) : ∑ i, x i * x i = ⊤ :=
  top_le_iff.1 (h ▸ Finset.single_le_sum (f := fun i => x i * x i) (fun i _ => sq_nonneg (x i)) (Finset.mem_univ e))

/-- The reciprocal root of a positive value is a real number. -/
theorem rsqrt_real {x : EReal} (h : 0 < x) : ∃ r : ℝ, Ideal.rsqrt x = r := by
  induction x with
  | bot => simp at h
  | top => exact ⟨0, rfl⟩
  | coe r =>
    have hr : 0 < r := by exact_mod_cast h
    exact ⟨(Real.sqrt r)⁻¹, by rw [Ideal.rsqrt_coe, if_neg (not_lt.2 hr.le), if_neg hr.ne']⟩

/-- The bit pattern of 1024. -/
theorem ofBits_1024 : Ideal.ofBits .f32 0x44800000#32 = ((1024 : ℝ) : EReal) := by
  simp [Ideal.ofBits, Ideal.ieee, -EReal.coe_mul]; norm_num

/-- The bit pattern of 64. -/
theorem ofBits_64 : Ideal.ofBits .f32 0x42800000#32 = ((64 : ℝ) : EReal) := by
  simp [Ideal.ofBits, Ideal.ieee, -EReal.coe_mul]; norm_num

/-- The bit pattern of 1/64. -/
theorem ofBits_64th : Ideal.ofBits .f32 0x3C800000#32 = ((1 / 64 : ℝ) : EReal) := by
  simp [Ideal.ofBits, Ideal.ieee, -EReal.coe_mul]; norm_num

/-- The norms' small constant is positive. -/
theorem eps_pos : 0 < Ideal.ofBits .f32 0x358637BD#32 := by
  simp [Ideal.ofBits, Ideal.ieee, -EReal.coe_mul]

/-- Division by a positive real keeps a value from being negative. -/
theorem div_nonneg {x : EReal} (h : 0 ≤ x) {y : ℝ} (hy : 0 < y) : 0 ≤ Ideal.div x (y : EReal) := by
  rw [Ideal.div_coe hy.ne']
  exact mul_nonneg h (by exact_mod_cast (one_div_pos.2 hy).le)

end Cert.Proof.Finite

end
-- ==== Proof.SbMath.lean ====
module

public import proofs.«01_k».proof.Proof.SbTile
public import proofs.«01_k».proof.Proof.Finite

@[expose] public section

set_option maxRecDepth 16384

noncomputable section

namespace Cert.Proof.SbMath

open Cert.KernelSbIdeal Cert.KernelSbIdeal.Gen
open Idealize.ShloMosaic Idealize.ShloMosaic.TcCoe Idealize.SL.Sem
open Cert.Proof.SbTile

/-- The logarithm of the logistic curve on the reals. -/
def lsR (z : ℝ) : ℝ := min z 0 - Real.log (1 + Real.exp (-|z|))

/-- `EReal`'s larger of a real and its opposite is the real's magnitude. -/
theorem abs_coe (z : ℝ) : FloatOps.absf (F := Ideal) (φ := .f32) (z : EReal) = ((|z| : ℝ) : EReal) := by
  rw [Ideal.absf_def, ← EReal.coe_neg, ← EReal.coe_strictMono.monotone.map_max, abs_eq_max_neg]

/-- One and the exponential of the opposite of a magnitude is a real, and its logarithm. -/
theorem log_one_exp (y : ℝ) : Ideal.log (1 + Ideal.exp (y : EReal)) = ((Real.log (1 + Real.exp y) : ℝ) : EReal) := by
  rw [Ideal.exp_coe, ← EReal.coe_one, ← EReal.coe_add, Ideal.log_coe, if_neg (not_le.mpr (by positivity))]

/-- The kernel's logarithm of the logistic curve on a real score. -/
theorem ls_coe (z : ℝ) : ls (z : EReal) = ((lsR z : ℝ) : EReal) := by
  unfold ls lsR
  rw [abs_coe, ← EReal.coe_zero, ← EReal.coe_sub, log_one_exp, ← EReal.coe_strictMono.monotone.map_min, ← EReal.coe_sub, zero_sub]

/-- The table's entries as numbers: in the left half a one where the row is above the column, in the right half a one. -/
def IsTable (tt : Vec Ideal S256x256 .bf16) : Prop :=
  ∀ j l : Fin 256, (show EReal from tt (ix2 j l)) = if 128 ≤ l.val ∨ l.val < j.val % 128 then ((1 : ℝ) : EReal) else ((0 : ℝ) : EReal)

section

variable (tt : Vec Ideal S256x256 .bf16) (ht : IsTable tt)

include ht

/-- A chunk of reals against a column of the left half: the sum of the later ones. -/
theorem chunk_left (u : Fin 128 → ℝ) (x : Fin 128) :
    chunk tt (fun y => ((u y : ℝ) : EReal)) ⟨x, by omega⟩ = ((∑ y : Fin 128, if x.val < y.val then u y else 0 : ℝ) : EReal) := by
  unfold chunk
  rw [Finset.sum_congr rfl (g := fun y : Fin 128 => (((if x.val < y.val then u y else 0 : ℝ)) : EReal)) (fun y _ => by
      rw [ht]
      have hx : ¬ 128 ≤ x.val := by omega
      have hy : y.val % 128 = y.val := Nat.mod_eq_of_lt y.isLt
      simp only [hx, hy, false_or]
      split <;> simp),
    Finset.sum_congr rfl (s₂ := Finset.univ) (f := fun y : Fin 128 => _ * _) (g := fun y : Fin 128 => (0 : EReal)) (fun y _ => by
      rw [← EReal.coe_sub, sub_self, EReal.coe_zero, zero_mul]),
    Finset.sum_const_zero, add_zero, ← Finite.coe_sum]

/-- A chunk of reals against a column of the right half: their sum. -/
theorem chunk_right (u : Fin 128 → ℝ) (x : Fin 128) :
    chunk tt (fun y => ((u y : ℝ) : EReal)) ⟨128 + x, by omega⟩ = ((∑ y : Fin 128, u y : ℝ) : EReal) := by
  unfold chunk
  rw [Finset.sum_congr rfl (g := fun y : Fin 128 => ((u y : ℝ) : EReal)) (fun y _ => by
      rw [ht, if_pos (Or.inl (by simp)), ← EReal.coe_mul, mul_one]),
    Finset.sum_congr rfl (s₂ := Finset.univ) (f := fun y : Fin 128 => _ * _) (g := fun y : Fin 128 => (0 : EReal)) (fun y _ => by
      rw [← EReal.coe_sub, sub_self, EReal.coe_zero, zero_mul]),
    Finset.sum_const_zero, add_zero, ← Finite.coe_sum]

end

/-- The sum over 128 columns is the sum over a stretch. -/
theorem sum_stretch {M : Type*} [AddCommMonoid M] (f : ℕ → M) (b : ℕ) : (∑ y : Fin 128, f (b + y.val)) = ∑ s ∈ Finset.Ico b (b + 128), f s := by
  rw [Finset.sum_Ico_eq_sum_range, Finset.sum_range, show b + 128 - b = 128 by omega]

/-- The sum over the later ones of 128 columns is the sum over the rest of the stretch. -/
theorem sum_later (f : ℕ → ℝ) (b : ℕ) (x : Fin 128) :
    (∑ y : Fin 128, if x.val < y.val then f (b + y.val) else 0) = ∑ s ∈ Finset.Ico (b + x + 1) (b + 128), f s := by
  have h := sum_stretch (fun s => if b + x.val < s then f s else 0) b
  simp only [add_lt_add_iff_left] at h
  rw [h, ← Finset.sum_filter]
  congr 1
  ext s
  simp only [Finset.mem_filter, Finset.mem_Ico]
  omega

/-- What the weight leaves at column `s` of row `R`. -/
def rest (z : ℕ → ℝ) (R s : ℕ) : ℝ := if s < R then lsR (z s) - z s else 0

/-- The sum of the columns from `p` on. -/
def tail (z : ℕ → ℝ) (R p : ℕ) : ℝ := ∑ s ∈ Finset.Ico p 4096, rest z R s

/-- The weight of column `s` in row `R`. -/
def weight (z : ℕ → ℝ) (R s : ℕ) : ℝ := if s < R then Real.exp (lsR (z s) + tail z R (s + 1)) else 0

/-- From the row's own column on nothing is left to add. -/
theorem tail_zero (z : ℕ → ℝ) (R p : ℕ) (h : R ≤ p) : tail z R p = 0 :=
  Finset.sum_eq_zero fun s hs => if_neg (by have := (Finset.mem_Ico.mp hs).1; omega)

/-- The sum from `p` on is a stretch and the sum after it. -/
theorem tail_split (z : ℕ → ℝ) (R p q : ℕ) (h : p ≤ q) (hq : q ≤ 4096) :
    (∑ s ∈ Finset.Ico p q, rest z R s) + tail z R q = tail z R p :=
  Finset.sum_Ico_consecutive _ h hq

section

variable (tt : Vec Ideal S256x256 .bf16) (ht : IsTable tt) (z : ℕ → ℝ) (R b : ℕ) (hb : b + 256 ≤ 4096)
  (U : Fin 256 → EReal) (hU : ∀ s, U s = ((rest z R (b + s.val) : ℝ) : EReal))
  (C : Fin 128 → EReal) (hC : ∀ x, C x = ((tail z R (b + 256) : ℝ) : EReal))

include hU in
/-- The left columns of a tile of `rest`. -/
theorem left_eq : left U = fun x : Fin 128 => ((rest z R (b + x.val) : ℝ) : EReal) := funext fun x => hU _

include hU in
/-- The right columns of a tile of `rest`. -/
theorem right_eq : right U = fun x : Fin 128 => ((rest z R (b + 128 + x.val) : ℝ) : EReal) :=
  funext fun x => (hU _).trans (by rw [add_assoc])

include ht hb hU hC

/-- The running sum after a tile is the sum from the tile's first column on. -/
theorem carryStep_eq (l : Fin 128) : carryStep tt U C l = ((tail z R b : ℝ) : EReal) := by
  unfold carryStep
  rw [hC, left_eq z R b U hU, right_eq z R b U hU, chunk_right tt ht (fun x => rest z R (b + 128 + x.val)),
    chunk_right tt ht (fun x => rest z R (b + x.val)), sum_stretch (rest z R), sum_stretch (rest z R), ← EReal.coe_add, ← EReal.coe_add]
  congr 1
  have h1 := tail_split z R (b + 128) (b + 256) (by omega) hb
  have h2 := tail_split z R b (b + 128) (by omega) (by omega)
  rw [show b + 128 + 128 = b + 256 by omega]
  linarith

/-- At a right column the kernel adds up the later columns. -/
theorem tailR_eq (x : Fin 128) : tailR tt U C x = ((tail z R (b + 128 + x.val + 1) : ℝ) : EReal) := by
  unfold tailR
  rw [hC, right_eq z R b U hU, chunk_left tt ht (fun x => rest z R (b + 128 + x.val)), sum_later (rest z R), ← EReal.coe_add]
  congr 1
  exact tail_split z R _ _ (by omega) hb

/-- At a left column the kernel adds up the later columns. -/
theorem tailL_eq (x : Fin 128) : tailL tt U C x = ((tail z R (b + x.val + 1) : ℝ) : EReal) := by
  unfold tailL
  rw [hC, left_eq z R b U hU, right_eq z R b U hU, chunk_left tt ht (fun x => rest z R (b + x.val)),
    chunk_right tt ht (fun x => rest z R (b + 128 + x.val)), sum_later (rest z R), sum_stretch (rest z R), ← EReal.coe_add, ← EReal.coe_add]
  congr 1
  have h1 := tail_split z R (b + 128) (b + 256) (by omega) hb
  have h2 := tail_split z R (b + x.val + 1) (b + 128) (by omega) (by omega)
  rw [show b + 128 + 128 = b + 256 by omega]
  linarith

end

section

variable (w : Vec Ideal S256x128 .bf16) (kt vt : Vec Ideal S1x256x128 .bf16) (tt : Vec Ideal S256x256 .bf16) (ht : IsTable tt) (z : ℕ → ℝ) (v : ℕ → EReal)
  (R b : ℕ) (hb : b + 256 ≤ 4096) (r : Fin 256) (l : Fin 128)
  (hz : ∀ s : Fin 256, score w kt r s = ((z (b + s.val) : ℝ) : EReal))
  (hv : ∀ s : Fin 256, (show EReal from vt (ix3 0 s l)) = v (b + s.val))

/-- A tile's part of the weighted sum. -/
def part (z : ℕ → ℝ) (v : ℕ → EReal) (R b : ℕ) : EReal := ∑ s ∈ Finset.Ico b (b + 256), ((weight z R s : ℝ) : EReal) * v s

/-- A tile's part is that of its left and that of its right columns. -/
theorem part_split (z : ℕ → ℝ) (v : ℕ → EReal) (R b : ℕ) : part z v R b
    = (∑ x : Fin 128, ((weight z R (b + x.val) : ℝ) : EReal) * v (b + x.val))
      + ∑ x : Fin 128, ((weight z R (b + 128 + x.val) : ℝ) : EReal) * v (b + 128 + x.val) := by
  rw [sum_stretch (fun s => ((weight z R s : ℝ) : EReal) * v s), sum_stretch (fun s => ((weight z R s : ℝ) : EReal) * v s)]
  exact (Finset.sum_Ico_consecutive _ (by omega) (by omega)).symm

include hz

/-- The logarithms along a row, on real scores. -/
theorem lrow_eq (s : Fin 256) : lrow w kt r s = ((lsR (z (b + s.val)) : ℝ) : EReal) := by
  unfold lrow
  rw [hz, ls_coe]

/-- The logarithms of what the weight leaves along a row, on real scores. -/
theorem urow_eq (s : Fin 256) : urow w kt r s = ((lsR (z (b + s.val)) - z (b + s.val) : ℝ) : EReal) := by
  unfold urow
  rw [hz, ls_coe, EReal.coe_sub]

/-- In a tile before the diagonal one no column is masked. -/
theorem urow_rest (hR : b + 256 ≤ R) (s : Fin 256) : urow w kt r s = ((rest z R (b + s.val) : ℝ) : EReal) := by
  rw [urow_eq w kt z b r hz, rest, if_pos (by omega)]

/-- In the diagonal tile the mask is the reference's. -/
theorem mrow_rest (hR : R = b + r.val) (s : Fin 256) : mrow w kt r s = ((rest z R (b + s.val) : ℝ) : EReal) := by
  unfold mrow rest
  by_cases h : s.val < r.val
  · rw [if_pos h, if_pos (by omega), urow_eq w kt z b r hz]
  · rw [if_neg h, if_neg (by omega), EReal.coe_zero]

include ht hb

/-- The running sum after the diagonal tile. -/
theorem carry_diag (hR : R = b + r.val) : carryStep tt (mrow w kt r) (fun _ => 0) l = ((tail z R b : ℝ) : EReal) :=
  carryStep_eq tt ht z R b hb _ (mrow_rest w kt z R b r hz hR) _ (fun _ => by rw [tail_zero z R _ (by omega), EReal.coe_zero]) l

/-- The running sum after a tile before the diagonal one. -/
theorem carry_step (hR : b + 256 ≤ R) (C : Fin 128 → EReal) (hC : ∀ x, C x = ((tail z R (b + 256) : ℝ) : EReal)) :
    carryStep tt (urow w kt r) C l = ((tail z R b : ℝ) : EReal) :=
  carryStep_eq tt ht z R b hb _ (urow_rest w kt z R b r hz hR) _ hC l

include hv

/-- A tile before the diagonal one adds its part of the weighted sum. -/
theorem acc_step (hR : b + 256 ≤ R) (C : Fin 128 → EReal) (hC : ∀ x, C x = ((tail z R (b + 256) : ℝ) : EReal)) :
    share vt tt l (lrow w kt r) (urow w kt r) C = part z v R b := by
  rw [part_split]
  unfold share
  refine congrArg₂ (· + ·) (Finset.sum_congr rfl fun x _ => ?_) (Finset.sum_congr rfl fun x _ => ?_)
  · rw [hv, tailL_eq tt ht z R b hb _ (urow_rest w kt z R b r hz hR) _ hC, left, lrow_eq w kt z b r hz, ← EReal.coe_add, Ideal.exp_coe,
      weight, if_pos (by omega)]
  · rw [hv, tailR_eq tt ht z R b hb _ (urow_rest w kt z R b r hz hR) _ hC, right, lrow_eq w kt z b r hz, ← EReal.coe_add, Ideal.exp_coe,
      weight, if_pos (by omega)]
    simp only [add_assoc]

/-- The diagonal tile adds its part of the weighted sum. -/
theorem acc_diag (hR : R = b + r.val) :
    shareM vt tt r l (lrow w kt r) (mrow w kt r) (fun _ => 0) = part z v R b := by
  have hC : ∀ x : Fin 128, (0 : EReal) = ((tail z R (b + 256) : ℝ) : EReal) := fun _ => by rw [tail_zero z R _ (by omega), EReal.coe_zero]
  rw [part_split]
  unfold shareM
  refine congrArg₂ (· + ·) (Finset.sum_congr rfl fun x _ => ?_) (Finset.sum_congr rfl fun x _ => ?_)
  · rw [hv, tailL_eq tt ht z R b hb _ (mrow_rest w kt z R b r hz hR) _ hC, left, lrow_eq w kt z b r hz, ← EReal.coe_add, Ideal.exp_coe, weight]
    by_cases h : x.val < r.val
    · rw [if_pos h, if_pos (by omega)]
    · rw [if_neg h, if_neg (by omega), EReal.coe_zero]
  · rw [hv, tailR_eq tt ht z R b hb _ (mrow_rest w kt z R b r hz hR) _ hC, right, lrow_eq w kt z b r hz, ← EReal.coe_add, Ideal.exp_coe, weight]
    by_cases h : 128 + x.val < r.val
    · rw [if_pos h, if_pos (by omega)]
      simp only [add_assoc]
    · rw [if_neg h, if_neg (by omega), EReal.coe_zero]
      simp only [add_assoc]

end

end Cert.Proof.SbMath

end
-- ==== Proof.SbLoop.lean ====
module

public import proofs.«01_k».proof.Proof.SbMath
public import proofs.«01_k».proof.Proof.Gen.KernelSbIdeal.Frame
public import Idealize.ShloMosaic.Lib.Pipeline.ValueKit

@[expose] public section

set_option maxRecDepth 16384

noncomputable section

namespace Cert.Proof.SbLoop

open Cert.KernelSbIdeal Cert.KernelSbIdeal.Gen
open Idealize.ShloMosaic Idealize.ShloMosaic.TcCoe Idealize.SL.Sem
open Idealize.ShloMosaic.Pipeline (Dat)

/-- The four arrays a trip carries: each head's running sums and its part of the result. -/
abbrev St := FVec Ideal S256x128 .f32 × FVec Ideal S256x128 .f32 × FVec Ideal S256x128 .f32 × FVec Ideal S256x128 .f32

/-- What a trip makes of the arrays, given its tiles of keys and values. -/
def step (v8 v11 : Vec Ideal S256x128 .bf16) (kt vt : Vec Ideal S1x256x128 .bf16) (tt : Vec Ideal S256x256 .bf16) (a : St) : St :=
  (k0_pay18 (k0_pay14 v8 a.1 kt tt) (k0_pay16 v8 kt) tt,
   k0_pay19 a.2.1 (k0_pay9 vt) (k0_pay11 v8 kt) (k0_pay14 v8 a.1 kt tt) (k0_pay15 v8 a.1 kt tt) (k0_pay16 v8 kt) tt,
   k0_pay2 (k0_pay24 v11 a.2.2.1 (k0_pay8 kt) tt) (k0_pay26 v11 (k0_pay8 kt)) tt (constant (F := Ideal) S256x256 .f32 0x00000000#32),
   k0_pay3 a.2.2.2 (k0_pay9 vt) (k0_pay21 v11 (k0_pay8 kt)) (k0_pay24 v11 a.2.2.1 (k0_pay8 kt) tt) (k0_pay25 v11 a.2.2.1 (k0_pay8 kt) tt) (k0_pay26 v11 (k0_pay8 kt)) tt (constant (F := Ideal) S256x256 .f32 0x00000000#32))

variable (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S256x256 .bf16) (harg6 : arg6.IsWhole) (arg7 : Memref sig .tc .vmem S1x256x128 .bf16) (harg7 : arg7.IsWhole)
    (x0 : Vec Ideal S1x256x128 .bf16) (x1 : Vec Ideal S1x4096x128 .bf16) (x2 : Vec Ideal S1x4096x128 .bf16) (x3 : Vec Ideal S256x256 .bf16)

/-- The rows of a tile of 256. -/
def tile (x : Vec Ideal S1x4096x128 .bf16) (j : ℕ) : Vec Ideal S1x256x128 .bf16 :=
  fun y => x (ix3 0 ⟨(256 * j + (y 1).val) % 4096, Nat.mod_lt _ (by decide)⟩ (y 2))

/-- A load of 256 rows at a multiple of 256 reads that tile. -/
theorem ld_tile (x : Vec Ideal S1x4096x128 .bf16) (off : Fin 3 → ℕ) (inb) (j : ℕ) (hj : j < 16) (h : off = ![0, 256 * j, 0]) :
    View.ld (Val := Elt Ideal) (e' := .bf16) x (Rect.unit off ![1, 256, 128] inb) = tile x j := by
  subst h
  funext y
  refine View.ld_unit_apply_of x _ _ _ y _ fun b => ?_
  have h1 : (y 1).val < 256 := (y 1).isLt
  have h0 : (y 0).val < 1 := (y 0).isLt
  fin_cases b
  · show 0 = 0 + (y 0).val
    omega
  · show (256 * j + (y 1).val) % 4096 = 256 * j + (y 1).val
    omega
  · show (y 2).val = 0 + (y 2).val
    omega

/-- The same for a load of an array held by a reference. -/
theorem load_tile (a : Memref sig .tc .vmem S1x4096x128 .bf16) (ha : a.IsWhole) (x : Vec Ideal S1x4096x128 .bf16) (off : Fin 3 → ℕ) (inb)
    (j : ℕ) (hj : j < 16) (h : off = ![0, 256 * j, 0]) :
    View.readAt (Elt Ideal) a.view (Rect.unit off ![1, 256, 128] inb).toLoadRect (ha.unread x) = tile x j := by
  rw [View.readAt_eq_ld, Memref.IsWhole.read_unread]
  exact ld_tile x off inb j hj h

/-- A load of the table reads it. -/
theorem load_table (a : Memref sig .tc .vmem S256x256 .bf16) (ha : a.IsWhole) (x : Vec Ideal S256x256 .bf16) (inb) :
    View.readAt (Elt Ideal) a.view (Rect.unit ![0, 0] ![256, 256] inb).toLoadRect (ha.unread x) = x := by
  rw [View.readAt_eq_ld, Memref.IsWhole.read_unread]
  exact View.ld_unit_zero (S := S256x256) (funext fun b => by fin_cases b <;> rfl) inb x

/-- A trip takes the tile before the one the trip before took. -/
theorem off2 : ∀ (i : grid0.Coords) (k : Fin (k0_t1_loop i).trips), k0_off2 i k = ![0, 256 * ((i 2).val - 1 - k.val), 0] := by
  decide +kernel

/-- There are as many trips as tiles before the diagonal one. -/
theorem trips : ∀ i : grid0.Coords, (k0_t1_loop i).trips = (i 2).val := by
  decide +kernel

/-- A trip's arrays are a step from the arrays before it. -/
theorem trip_eq (𝒱 : Variants)  (bd : Option 𝒱.V) (arg2 v8 v11 c0) (k acc) :
    tripR_k0_t1 (F := Ideal) 𝒱 c bd i arg3 harg3 arg4 harg4 arg5 harg5 arg6 harg6 arg7 harg7 arg2 v8 v11 c0 (harg4.unread x1) (harg5.unread x2) (harg6.unread x3) k acc
     = step v8 v11 (tile x1 ((i 2).val - 1 - k.val)) (tile x2 ((i 2).val - 1 - k.val)) x3 acc := by
  have hi : (i 2).val < 16 := (i 2).isLt
  unfold tripR_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.cst_66]
  rw [load_tile arg4 harg4 x1 _ _ ((i 2).val - 1 - k.val) (by omega) (off2 i k), load_tile arg5 harg5 x2 _ _ ((i 2).val - 1 - k.val) (by omega) (off2 i k), load_table]
  rfl

/-- The arrays after the diagonal tile. -/
def start (x0 : Vec Ideal S1x256x128 .bf16) (kt vt : Vec Ideal S1x256x128 .bf16) (tt : Vec Ideal S256x256 .bf16) : St :=
  (k0_pay64 (k0_pay52 (F := Ideal)) (k0_pay57 x0 kt) (k0_pay58 x0 kt) (k0_pay59 x0 kt) (k0_pay60 x0 kt) tt tt,
   k0_pay65 k0_pay51 (k0_pay52 (F := Ideal)) (k0_pay54 vt) (k0_pay56 x0 kt) (k0_pay57 x0 kt) (k0_pay58 x0 kt) (k0_pay59 x0 kt) (k0_pay60 x0 kt) tt tt,
   k0_pay74 k0_pay51 (k0_pay52 (F := Ideal)) (k0_pay66 (k0_pay50 x0) (k0_pay53 kt)) (k0_pay67 (k0_pay50 x0) (k0_pay53 kt)) (k0_pay68 (k0_pay50 x0) (k0_pay53 kt)) tt tt,
   k0_pay75 k0_pay51 (k0_pay52 (F := Ideal)) (k0_pay54 vt) (k0_pay66 (k0_pay50 x0) (k0_pay53 kt)) (k0_pay67 (k0_pay50 x0) (k0_pay53 kt)) (k0_pay68 (k0_pay50 x0) (k0_pay53 kt)) tt tt)

/-- The arrays after `k` trips. -/
def run (x0 : Vec Ideal S1x256x128 .bf16) (x1 x2 : Vec Ideal S1x4096x128 .bf16) (x3 : Vec Ideal S256x256 .bf16) (j : ℕ) : ℕ → St
  | 0 => start x0 (tile x1 j) (tile x2 j) x3
  | k + 1 => step (k0_pay49 x0) (k0_pay50 x0) (tile x1 (j - 1 - k)) (tile x2 (j - 1 - k)) x3 (run x0 x1 x2 x3 j k)

/-- The first loop's carried arrays. -/
theorem st_eq (𝒱 : Variants) (bd : Option 𝒱.V) (arg2 c0) (init : St) (h : init = start x0 (tile x1 (i 2).val) (tile x2 (i 2).val) x3) (k : ℕ) (hk : k ≤ (i 2).val) :
    st_k0_t1 (F := Ideal) 𝒱 c bd i arg3 harg3 arg4 harg4 arg5 harg5 arg6 harg6 arg7 harg7 arg2 (k0_pay49 x0) (k0_pay50 x0) c0 (harg4.unread x1) (harg5.unread x2) (harg6.unread x3) init k
      = run x0 x1 x2 x3 (i 2).val k := by
  induction k with
  | zero => rw [st_k0_t1_zero, h, run]
  | succ k ih =>
    have hk' : k < (k0_t1_loop i).trips := by rw [trips]; omega
    rw [st_k0_t1_succ (k := ⟨k, hk'⟩), trip_eq, ih (by omega), run]

/-- The first loop's trip count, as the body writes it. -/
theorem trips1 (i : grid0.Coords) : Scf.trips (0#32) (Scalar.addi (0#32) (Scalar.muli (Scalar.divsi (Scalar.subi (BitVec.ofNat 32 (i 2).val) 0#32) 1#32) 1#32)) 1#32 = (i 2).val :=
  trips i

/-- The second loop, for what an unroll leaves, makes no trip. -/
theorem trips2 (i : grid0.Coords) : Scf.trips
    (Scalar.addi (0#32) (Scalar.muli (Scalar.divsi (Scalar.subi (BitVec.ofNat 32 (i 2).val) 0#32) 1#32) 1#32))
    (Scalar.addi (0#32) (Scalar.subi (BitVec.ofNat 32 (i 2).val) 0#32)) 1#32 = 0 :=
  Nat.le_zero.1 (k0_t2_abs i).2.1

/-- What the body leaves in its block of the result. -/
theorem block : out0_A_4 c i arg3 harg3 arg4 harg4 arg5 harg5 arg6 harg6 arg7 harg7 x0 x1 x2 x3
   = k0_pay7 k0_pay47 (run x0 x1 x2 x3 (i 2).val (i 2).val).2.1 (run x0 x1 x2 x3 (i 2).val (i 2).val).2.2.2 := by
  have hi : (i 2).val < 16 := (i 2).isLt
  frame_out
  rw [trips2, st_k0_t2_zero, trips1, ld_tile x1 _ _ (i 2).val hi (k0_off1_eq i), ld_tile x2 _ _ (i 2).val hi (k0_off1_eq i),
    st_eq c i arg3 harg3 arg4 harg4 arg5 harg5 arg6 harg6 arg7 harg7 x0 x1 x2 x3 (hk := le_rfl)]
  rfl

end Cert.Proof.SbLoop

end
-- ==== Proof.SbSweep.lean ====
module

public import proofs.«01_k».proof.Proof.SbLoop

@[expose] public section

set_option maxRecDepth 16384

noncomputable section

namespace Cert.Proof.SbSweep

open Cert.KernelSbIdeal Cert.KernelSbIdeal.Gen
open Idealize.ShloMosaic Idealize.ShloMosaic.TcCoe Idealize.SL.Sem
open Cert.Proof.SbTile Cert.Proof.SbMath Cert.Proof.SbLoop

variable (x0 : Vec Ideal S1x256x128 .bf16) (x1 x2 : Vec Ideal S1x4096x128 .bf16) (tt : Vec Ideal S256x256 .bf16) (ht : IsTable tt)
  (j : ℕ) (hj : j < 16) (r : Fin 256)

/-- Row `s` of the keys or values, from 0 again past the end. -/
def row (x : Vec Ideal S1x4096x128 .bf16) (s : ℕ) (l : Fin 128) : EReal := x (ix3 0 ⟨s % 4096, Nat.mod_lt _ (by decide)⟩ l)

/-- A column of a tile is a stretch of the column. -/
theorem tile_row (x : Vec Ideal S1x4096x128 .bf16) (n : ℕ) (s : Fin 256) (l : Fin 128) :
    (show EReal from tile x n (ix3 0 s l)) = row x (256 * n + s.val) l := rfl

section

variable (z : ℕ → ℝ)

/-- The scores of row `r` of the queries `w` are the reals `z`. -/
def Scores (w : Vec Ideal S256x128 .bf16) (x1 : Vec Ideal S1x4096x128 .bf16) (r : Fin 256) (z : ℕ → ℝ) : Prop :=
  ∀ s, s < 4096 → (∑ l, (show EReal from w (ix2 r l)) * row x1 s l) = ((z s : ℝ) : EReal)

/-- Then a tile's scores are a stretch of them. -/
theorem score_tile (w : Vec Ideal S256x128 .bf16) (hz : Scores w x1 r z) (n : ℕ) (hn : n < 16) (s : Fin 256) :
    score w (tile x1 n) r s = ((z (256 * n + s.val) : ℝ) : EReal) := by
  unfold score
  simp only [tile_row]
  exact hz _ (by omega)

/-- The weighted sum from column `p` to the end of the diagonal tile. -/
def total (z : ℕ → ℝ) (v : ℕ → EReal) (R p q : ℕ) : EReal := ∑ s ∈ Finset.Ico p q, ((weight z R s : ℝ) : EReal) * v s

/-- A tile's part carries the weighted sum 256 columns further. -/
theorem total_part (v : ℕ → EReal) (R p q : ℕ) (h : p + 256 ≤ q) : total z v R (p + 256) q + part z v R p = total z v R p q := by
  unfold total part
  rw [add_comm]
  exact Finset.sum_Ico_consecutive _ (by omega) h

include ht hj

/-- The first head's arrays after `k` trips: the sum of all that the weights leave, and the weighted sum so far. -/
theorem head0 (hz : Scores (k0_pay49 x0) x1 r z) (k : ℕ) (hk : k ≤ j) :
    (∀ l : Fin 128, (run x0 x1 x2 tt j k).1 (ix2 r l) = ((tail z (256 * j + r.val) (256 * (j - k)) : ℝ) : EReal))
    ∧ (∀ l : Fin 128, (run x0 x1 x2 tt j k).2.1 (ix2 r l) = total z (fun s => row x2 s l) (256 * j + r.val) (256 * (j - k)) (256 * j + 256)) := by
  induction k with
  | zero =>
    constructor <;> intro l
    · show k0_pay64 _ _ _ _ _ _ _ _ = _
      rw [carryD0]
      exact carry_diag _ _ tt ht z _ _ (by omega) r l (score_tile x1 r z _ hz j hj) rfl
    · show k0_pay65 _ _ _ _ _ _ _ _ _ _ _ = _
      rw [accD0]
      exact acc_diag _ _ (tile x2 j) tt ht z (fun s => row x2 s l) _ _ (by omega) r l (score_tile x1 r z _ hz j hj) (fun s => tile_row x2 j s l) rfl
  | succ k ih =>
    obtain ⟨h1, h2⟩ := ih (by omega)
    have e : 256 * (j - k) = 256 * (j - (k + 1)) + 256 := by omega
    have e' : j - 1 - k = j - (k + 1) := by omega
    rw [e] at h1 h2
    constructor <;> intro l
    · show k0_pay18 _ _ _ _ = _
      rw [carry0, e']
      exact carry_step _ _ tt ht z _ _ (by omega) r l (score_tile x1 r z _ hz _ (by omega)) (by omega) _ h1
    · show k0_pay19 _ _ _ _ _ _ _ _ = _
      rw [acc0, e', h2]
      rw [acc_step _ _ (tile x2 _) tt ht z (fun s => row x2 s l) _ _ (by omega) r l (score_tile x1 r z _ hz _ (by omega)) (fun s => tile_row x2 _ s l) (by omega) _ h1]
      exact total_part z _ _ _ _ (by omega)

/-- The second head's arrays after `k` trips. -/
theorem head1 (hz : Scores (k0_pay50 x0) x1 r z) (k : ℕ) (hk : k ≤ j) :
    (∀ l : Fin 128, (run x0 x1 x2 tt j k).2.2.1 (ix2 r l) = ((tail z (256 * j + r.val) (256 * (j - k)) : ℝ) : EReal))
    ∧ (∀ l : Fin 128, (run x0 x1 x2 tt j k).2.2.2 (ix2 r l) = total z (fun s => row x2 s l) (256 * j + r.val) (256 * (j - k)) (256 * j + 256)) := by
  induction k with
  | zero =>
    constructor <;> intro l
    · show k0_pay74 _ _ _ _ _ _ _ _ = _
      rw [carryD1]
      exact carry_diag _ _ tt ht z _ _ (by omega) r l (score_tile x1 r z _ hz j hj) rfl
    · show k0_pay75 _ _ _ _ _ _ _ _ _ = _
      rw [accD1]
      exact acc_diag _ _ (tile x2 j) tt ht z (fun s => row x2 s l) _ _ (by omega) r l (score_tile x1 r z _ hz j hj) (fun s => tile_row x2 j s l) rfl
  | succ k ih =>
    obtain ⟨h1, h2⟩ := ih (by omega)
    have e : 256 * (j - k) = 256 * (j - (k + 1)) + 256 := by omega
    have e' : j - 1 - k = j - (k + 1) := by omega
    rw [e] at h1 h2
    constructor <;> intro l
    · show k0_pay2 _ _ _ _ _ = _
      rw [carry1, e']
      exact carry_step _ _ tt ht z _ _ (by omega) r l (score_tile x1 r z _ hz _ (by omega)) (by omega) _ h1
    · show k0_pay3 _ _ _ _ _ _ _ _ _ = _
      rw [acc1, e', h2]
      rw [acc_step _ _ (tile x2 _) tt ht z (fun s => row x2 s l) _ _ (by omega) r l (score_tile x1 r z _ hz _ (by omega)) (fun s => tile_row x2 _ s l) (by omega) _ h1]
      exact total_part z _ _ _ _ (by omega)

end

end Cert.Proof.SbSweep

end
-- ==== Proof.SbTable.lean ====
module

public import proofs.«01_k».proof.KernelSbIdeal
public import Mathlib.Tactic.IntervalCases

@[expose] public section

set_option maxRecDepth 16384

noncomputable section

namespace Cert.Proof.SbTable

open Cert.KernelSbIdeal
open Idealize.ShloMosaic Idealize.ShloMosaic.TcCoe Idealize.SL.Sem

/-- An entry: in the left half a one where the row's number among 128 is above the column, in the right half a one. -/
def entry (j r : ℕ) : BitVec 16 := bif Nat.ble 128 r || Nat.ble (r + 1) (j % 128) then 0x3F80#16 else 0x0000#16

set_option maxHeartbeats 8000000 in
/-- The rows from 0 on. -/
theorem part_0 (i n : ℕ) (hn : n < 128) (h : i / 128 % 128 = n) :
    lit0t1_0 i = entry (64 * 0 + n / 2) (n % 2 * 128 + i % 128) := by
  delta lit0t1_0
  delta lit0t0_0 lit0t0_1 lit0t0_2 lit0t0_3 lit0t0_4 lit0t0_5 lit0t0_6 lit0t0_7 lit0t0_8 lit0t0_9 lit0t0_10 lit0t0_11 lit0t0_12 lit0t0_13 lit0t0_14 lit0t0_15 lit0t0_16 lit0t0_17 lit0t0_18 lit0t0_19 lit0t0_20 lit0t0_21 lit0t0_22 lit0t0_23 lit0t0_24 lit0t0_25 lit0t0_26 lit0t0_27 lit0t0_28 lit0t0_29 lit0t0_30 lit0t0_31 lit0t0_32 lit0t0_33 lit0t0_34 lit0t0_35 lit0t0_36 lit0t0_37 lit0t0_38 lit0t0_39 lit0t0_40 lit0t0_41 lit0t0_42 lit0t0_43 lit0t0_44 lit0t0_45 lit0t0_46 lit0t0_47 lit0t0_48 lit0t0_49 lit0t0_50 lit0t0_51 lit0t0_52 lit0t0_53 lit0t0_54 lit0t0_55 lit0t0_56 lit0t0_57 lit0t0_58 lit0t0_59 lit0t0_60 lit0t0_61 lit0t0_62 lit0t0_63 lit0t0_64 lit0t0_65 lit0t0_66 lit0t0_67 lit0t0_68 lit0t0_69 lit0t0_70 lit0t0_71 lit0t0_72 lit0t0_73 lit0t0_74 lit0t0_75 lit0t0_76 lit0t0_77 lit0t0_78 lit0t0_79 lit0t0_80 lit0t0_81 lit0t0_82 lit0t0_83 lit0t0_84 lit0t0_85 lit0t0_86 lit0t0_87 lit0t0_88 lit0t0_89 lit0t0_90 lit0t0_91 lit0t0_92 lit0t0_93 lit0t0_94 lit0t0_95 lit0t0_96 lit0t0_97 lit0t0_98 lit0t0_99 lit0t0_100 lit0t0_101 lit0t0_102 lit0t0_103 lit0t0_104 lit0t0_105 lit0t0_106 lit0t0_107 lit0t0_108 lit0t0_109 lit0t0_110 lit0t0_111 lit0t0_112 lit0t0_113 lit0t0_114 lit0t0_115 lit0t0_116 lit0t0_117 lit0t0_118 lit0t0_119 lit0t0_120 lit0t0_121 lit0t0_122 lit0t0_123 lit0t0_124 lit0t0_125 lit0t0_126 lit0t0_127
  rw [h]
  clear h
  have h : i % 128 < 128 := Nat.mod_lt _ (by decide)
  revert h
  generalize i % 128 = c
  revert c
  interval_cases n <;> decide +kernel

set_option maxHeartbeats 8000000 in
/-- The rows from 64 on. -/
theorem part_1 (i n : ℕ) (hn : n < 128) (h : i / 128 % 128 = n) :
    lit0t1_1 i = entry (64 * 1 + n / 2) (n % 2 * 128 + i % 128) := by
  delta lit0t1_1
  delta lit0t0_128 lit0t0_129 lit0t0_130 lit0t0_131 lit0t0_132 lit0t0_133 lit0t0_134 lit0t0_135 lit0t0_136 lit0t0_137 lit0t0_138 lit0t0_139 lit0t0_140 lit0t0_141 lit0t0_142 lit0t0_143 lit0t0_144 lit0t0_145 lit0t0_146 lit0t0_147 lit0t0_148 lit0t0_149 lit0t0_150 lit0t0_151 lit0t0_152 lit0t0_153 lit0t0_154 lit0t0_155 lit0t0_156 lit0t0_157 lit0t0_158 lit0t0_159 lit0t0_160 lit0t0_161 lit0t0_162 lit0t0_163 lit0t0_164 lit0t0_165 lit0t0_166 lit0t0_167 lit0t0_168 lit0t0_169 lit0t0_170 lit0t0_171 lit0t0_172 lit0t0_173 lit0t0_174 lit0t0_175 lit0t0_176 lit0t0_177 lit0t0_178 lit0t0_179 lit0t0_180 lit0t0_181 lit0t0_182 lit0t0_183 lit0t0_184 lit0t0_185 lit0t0_186 lit0t0_187 lit0t0_188 lit0t0_189 lit0t0_190 lit0t0_191 lit0t0_192 lit0t0_193 lit0t0_194 lit0t0_195 lit0t0_196 lit0t0_197 lit0t0_198 lit0t0_199 lit0t0_200 lit0t0_201 lit0t0_202 lit0t0_203 lit0t0_204 lit0t0_205 lit0t0_206 lit0t0_207 lit0t0_208 lit0t0_209 lit0t0_210 lit0t0_211 lit0t0_212 lit0t0_213 lit0t0_214 lit0t0_215 lit0t0_216 lit0t0_217 lit0t0_218 lit0t0_219 lit0t0_220 lit0t0_221 lit0t0_222 lit0t0_223 lit0t0_224 lit0t0_225 lit0t0_226 lit0t0_227 lit0t0_228 lit0t0_229 lit0t0_230 lit0t0_231 lit0t0_232 lit0t0_233 lit0t0_234 lit0t0_235 lit0t0_236 lit0t0_237 lit0t0_238 lit0t0_239 lit0t0_240 lit0t0_241 lit0t0_242 lit0t0_243 lit0t0_244 lit0t0_245 lit0t0_246 lit0t0_247 lit0t0_248 lit0t0_249 lit0t0_250 lit0t0_251 lit0t0_252 lit0t0_253 lit0t0_254 lit0t0_255
  rw [h]
  clear h
  have h : i % 128 < 128 := Nat.mod_lt _ (by decide)
  revert h
  generalize i % 128 = c
  revert c
  interval_cases n <;> decide +kernel

/-- The rows from 128 on are those from 0 on. -/
theorem part_2 (i n : ℕ) (hn : n < 128) (h : i / 128 % 128 = n) :
    lit0t1_2 i = entry (64 * 2 + n / 2) (n % 2 * 128 + i % 128) := by
  refine Eq.trans (show lit0t1_2 i = lit0t1_0 i from rfl) ((part_0 i n hn h).trans ?_)
  unfold entry
  rw [show (64 * 2 + n / 2) % 128 = (64 * 0 + n / 2) % 128 by omega]

/-- The rows from 192 on are those from 64 on. -/
theorem part_3 (i n : ℕ) (hn : n < 128) (h : i / 128 % 128 = n) :
    lit0t1_3 i = entry (64 * 3 + n / 2) (n % 2 * 128 + i % 128) := by
  refine Eq.trans (show lit0t1_3 i = lit0t1_1 i from rfl) ((part_1 i n hn h).trans ?_)
  unfold entry
  rw [show (64 * 3 + n / 2) % 128 = (64 * 1 + n / 2) % 128 by omega]

/-- The table of the running sums, by row and column. -/
theorem table (i : Fin 65536) : lit0 i = entry (i.val / 256) (i.val % 256) := by
  obtain ⟨i, hi⟩ := i
  show lit0t i = entry (i / 256) (i % 256)
  have hn : i / 128 % 128 < 128 := Nat.mod_lt _ (by decide)
  obtain ⟨a, ha⟩ : ∃ a, i / 16384 = a := ⟨_, rfl⟩
  have e1 : i / 256 = 64 * a + i / 128 % 128 / 2 := by omega
  have e2 : i % 256 = i / 128 % 128 % 2 * 128 + i % 128 := by omega
  have h4 : a < 4 := by omega
  rw [e1, e2]
  delta lit0t
  rw [ha]
  clear ha e1 e2
  interval_cases a
  · exact part_0 i _ hn rfl
  · exact part_1 i _ hn rfl
  · exact part_2 i _ hn rfl
  · exact part_3 i _ hn rfl

end Cert.Proof.SbTable

end
-- ==== Proof.SbKernel.lean ====
module

public import proofs.«01_k».proof.Proof.Gen.KernelSbIdeal.Value
public import proofs.«01_k».proof.Proof.SbSweep
public import proofs.«01_k».proof.Proof.SbTable

@[expose] public section

set_option maxRecDepth 16384

noncomputable section

namespace Cert.Proof.SbKernel

open Cert.KernelSbIdeal Cert.KernelSbIdeal.Gen
open Idealize.ShloMosaic Idealize.ShloMosaic.TcCoe Idealize.SL.Sem
open Idealize.ShloMosaic.Pipeline (Dat)
open Cert.Proof.SbTile Cert.Proof.SbMath Cert.Proof.SbLoop Cert.Proof.SbSweep

/-- A sum over 128 lanes of what the first 64 hold. -/
theorem sum_low (f : Fin 128 → EReal) (h : ∀ l : Fin 128, 64 ≤ l.val → f l = 0) : (∑ l, f l) = ∑ k : Fin 64, f ⟨k.val, by omega⟩ := by
  rw [show (∑ l, f l) = ∑ l : Fin (64 + 64), f l from rfl, Fin.sum_univ_add,
    Finset.sum_eq_zero (s := Finset.univ) (f := fun k : Fin 64 => f (Fin.natAdd 64 k)) (fun k _ => h _ (by simp)), add_zero]
  rfl

/-- A sum over 128 lanes of what the last 64 hold. -/
theorem sum_high (f : Fin 128 → EReal) (h : ∀ l : Fin 128, l.val < 64 → f l = 0) : (∑ l, f l) = ∑ k : Fin 64, f ⟨64 + k.val, by omega⟩ := by
  rw [show (∑ l, f l) = ∑ l : Fin (64 + 64), f l from rfl, Fin.sum_univ_add,
    Finset.sum_eq_zero (s := Finset.univ) (f := fun k : Fin 64 => f (Fin.castAdd 64 k)) (fun k _ => h _ (by simp)), zero_add]
  rfl

/-- The weighted sum of all the values. -/
def mix (z : ℕ → ℝ) (v : ℕ → EReal) (R : ℕ) : EReal := ∑ s : Fin 4096, ((weight z R s.val : ℝ) : EReal) * v s.val

/-- The columns past the diagonal tile weigh nothing. -/
theorem total_mix (z : ℕ → ℝ) (v : ℕ → EReal) (R q : ℕ) (hR : R ≤ q) (hq : q ≤ 4096) : total z v R 0 q = mix z v R := by
  unfold total mix
  rw [← Finset.sum_range (fun s => ((weight z R s : ℝ) : EReal) * v s), Finset.range_eq_Ico, ← Finset.sum_Ico_consecutive _ (Nat.zero_le q) hq,
    Finset.sum_eq_zero (s := Finset.Ico q 4096), add_zero]
  intro s hs
  rw [weight, if_neg (by have := (Finset.mem_Ico.mp hs).1; omega), EReal.coe_zero, zero_mul]

section

variable (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S256x256 .bf16) (harg6 : arg6.IsWhole) (arg7 : Memref sig .tc .vmem S1x256x128 .bf16) (harg7 : arg7.IsWhole)
    (x0 : Vec Ideal S1x256x128 .bf16) (x1 : Vec Ideal S1x4096x128 .bf16) (x2 : Vec Ideal S1x4096x128 .bf16) (x3 : Vec Ideal S256x256 .bf16)
    (ht : IsTable x3) (r : Fin 256) (l : Fin 128) (z : ℕ → ℝ)

include ht

/-- A block of the result, given the scores of its row and head. -/
theorem block4 (hz : ∀ s, s < 4096 → (∑ k : Fin 64, (show EReal from x0 (ix3 0 r ⟨l.val / 64 * 64 + k.val, by omega⟩))
      * row x1 s ⟨l.val / 64 * 64 + k.val, by omega⟩) = ((z s : ℝ) : EReal)) :
    out0_A_4 c i arg3 harg3 arg4 harg4 arg5 harg5 arg6 harg6 arg7 harg7 x0 x1 x2 x3 (ix3 0 r l)
      = mix z (fun s => row x2 s l) (256 * (i 2).val + r.val) := by
  have hi : (i 2).val < 16 := (i 2).isLt
  rw [block]
  refine (out r l _ _).trans ?_
  by_cases h : l.val < 64
  · rw [if_pos h]
    have hs : Scores (k0_pay49 x0) x1 r z := fun s hs => by
      rw [← hz s hs, sum_low _ (fun k hk => by rw [q0, if_neg (by omega), zero_mul])]
      refine Finset.sum_congr rfl fun k _ => ?_
      rw [q0, if_pos k.isLt]
      have e : (⟨l.val / 64 * 64 + k.val, by omega⟩ : Fin 128) = ⟨k.val, by omega⟩ := Fin.ext (by simp only []; omega)
      rw [e]
    refine ((head0 x0 x1 x2 x3 ht _ hi r z hs _ le_rfl).2 l).trans ?_
    rw [Nat.sub_self]
    exact total_mix _ _ _ _ (by omega) (by omega)
  · rw [if_neg h]
    have hs : Scores (k0_pay50 x0) x1 r z := fun s hs => by
      rw [← hz s hs, sum_high _ (fun k hk => by rw [q1, if_pos (by omega), zero_mul])]
      refine Finset.sum_congr rfl fun k _ => ?_
      rw [q1, if_neg (by simp)]
      have e : (⟨l.val / 64 * 64 + k.val, by omega⟩ : Fin 128) = ⟨64 + k.val, by omega⟩ := Fin.ext (by simp only []; omega)
      rw [e]
    refine ((head1 x0 x1 x2 x3 ht _ hi r z hs _ le_rfl).2 l).trans ?_
    rw [Nat.sub_self]
    exact total_mix _ _ _ _ (by omega) (by omega)

end

variable (m : (ℓ : Loc nD τ sig) → Buf (Elt Ideal) ℓ)

/-- Which blocks a grid point takes: its batch, its stretch of queries, its pair of heads. -/
theorem idx : ∀ t : Fin cfg0.N, win0_0.index t = ![t.val / 64, t.val % 16, t.val / 16 % 4] ∧ win0_1.index t = ![t.val / 64, 0, t.val / 16 % 4]
    ∧ win0_2.index t = ![t.val / 64, 0, t.val / 16 % 4] ∧ win0_3.index t = ![0, 0] ∧ win0_4.index t = ![t.val / 64, t.val % 16, t.val / 16 % 4]
    ∧ (grid0.coords t 2).val = t.val % 16 :=
  (by decide +kernel : ∀ t : Fin grid0.N, _)

/-- There are 1024 grid points. -/
theorem lt (t : Fin cfg0.N) : t.val < 1024 := lt_of_lt_of_eq t.isLt (by decide +kernel)

/-- The table's block is the table. -/
theorem table_at (c : Dev nD) (t : Fin cfg0.N) : IsTable (iblk m c 3 t) := by
  intro j l
  have e : iblk m c 3 t (ix2 j l) = FloatOps.ofBits (F := Ideal) .bf16 (lit0 (S256x256.rowMajor (ix2 j l))) := by
    blk_point [iblk, V, idx t]
  have h : (S256x256.rowMajor (ix2 j l)).val = j.val * 256 + l.val := Shape.rowMajor_val_two _
  have hl : lit0 (S256x256.rowMajor (ix2 j l)) = SbTable.entry j.val l.val := (SbTable.table _).trans (by
    rw [h, show (j.val * 256 + l.val) / 256 = j.val by omega, show (j.val * 256 + l.val) % 256 = l.val by omega])
  refine e.trans ((congrArg (FloatOps.ofBits (F := Ideal) .bf16) hl).trans ?_)
  unfold SbTable.entry
  by_cases hl : 128 ≤ l.val ∨ l.val < j.val % 128
  · rw [if_pos hl, EReal.coe_one, show (Nat.ble 128 l.val || Nat.ble (l.val + 1) (j.val % 128)) = true by simpa [Nat.succ_le_iff] using hl]
    exact Ideal.ofBits_one_bf16
  · rw [if_neg hl, EReal.coe_zero, show (Nat.ble 128 l.val || Nat.ble (l.val + 1) (j.val % 128)) = false by
      rw [Bool.eq_false_iff]
      simpa [Nat.succ_le_iff] using hl]
    exact Ideal.ofBits_zero_bf16

/-- The queries' block. -/
theorem q_at (c : Dev nD) (t : Fin cfg0.N) (r : Fin 256) (l : Fin 128) : iblk m c 0 t (ix3 0 r l)
    = m ((c : Thread nD τ).loc main_arg0) (ix3 ⟨t.val / 64, by have := lt t; omega⟩ ⟨256 * (t.val % 16) + r.val, by omega⟩ ⟨128 * (t.val / 16 % 4) + l.val, by omega⟩) := by
  blk_point [iblk, V_main_arg0, idx t]

/-- The keys' block. -/
theorem k_at (c : Dev nD) (t : Fin cfg0.N) (r : Fin 4096) (l : Fin 128) : iblk m c 1 t (ix3 0 r l)
    = m ((c : Thread nD τ).loc main_arg1) (ix3 ⟨t.val / 64, by have := lt t; omega⟩ r ⟨128 * (t.val / 16 % 4) + l.val, by omega⟩) := by
  blk_point [iblk, V_main_arg1, idx t]

/-- The values' block. -/
theorem v_at (c : Dev nD) (t : Fin cfg0.N) (r : Fin 4096) (l : Fin 128) : iblk m c 2 t (ix3 0 r l)
    = m ((c : Thread nD τ).loc main_arg2) (ix3 ⟨t.val / 64, by have := lt t; omega⟩ r ⟨128 * (t.val / 16 % 4) + l.val, by omega⟩) := by
  blk_point [iblk, V_main_arg2, idx t]

section

variable (c : Dev nD)

/-- The score of a query and a key of one head. -/
def scoreAt (b : Fin 16) (q : Fin 4096) (h : Fin 8) (s : ℕ) : EReal :=
  ∑ k : Fin 64, (show EReal from m ((c : Thread nD τ).loc main_arg0) (ix3 b q ⟨h.val * 64 + k.val, by omega⟩))
    * (show EReal from m ((c : Thread nD τ).loc main_arg1) (ix3 b ⟨s % 4096, Nat.mod_lt _ (by decide)⟩ ⟨h.val * 64 + k.val, by omega⟩))

/-- The same as a real number. -/
def realAt (b : Fin 16) (q : Fin 4096) (h : Fin 8) (s : ℕ) : ℝ := (scoreAt m c b q h s).toReal

/-- What the result holds: the weighted sum of the values. -/
def out4 (i : S16x4096x512.Idx) : EReal :=
  mix (realAt m c (i 0) (i 1) ⟨(i 2).val / 64, by have := (i 2).isLt; simp at this; omega⟩)
    (fun s => m ((c : Thread nD τ).loc main_arg2) (ix3 (i 0) ⟨s % 4096, Nat.mod_lt _ (by decide)⟩ (i 2))) (i 1).val

/-- The array after the last point holds, at every index, the weighted sum of the values, when the scores are real numbers. -/
theorem final4 (H : ∀ b q h s, scoreAt m c b q h s = ((realAt m c b q h s : ℝ) : EReal)) (i : S16x4096x512.Idx) :
    (dats m 0 c).arrAt 4 cfg0.N i = out4 m c i := by
  revert i
  refine congrFun ((dats m 0 c).arrAt_eq_of_covers 4 (out4 m c) (by decide +kernel) fun t _ y => ?_)
  blk_simp
  rw [after0_4]
  idx_vars y
  have hy : y0 = 0 := Subsingleton.elim _ _
  subst hy
  have e : ∀ X : S16x4096x512.Idx → EReal, X (((View.whole main_v0).slice (win0_4.rect t)).emb (ix3 0 y1 y2))
      = X (ix3 ⟨t.val / 64, by have := lt t; omega⟩ ⟨256 * (t.val % 16) + y1.val, by omega⟩ ⟨128 * (t.val / 16 % 4) + y2.val, by omega⟩) := fun X => by
    blk_point [idx t]
  rw [e (out4 m c)]
  have hc : (128 * (t.val / 16 % 4) + y2.val) / 64 = 2 * (t.val / 16 % 4) + y2.val / 64 := by omega
  unfold outsAt0 out4
  rw [block4 (ht := table_at m c t) (z := realAt m c ⟨t.val / 64, by have := lt t; omega⟩ ⟨256 * (t.val % 16) + y1.val, by omega⟩ ⟨(128 * (t.val / 16 % 4) + y2.val) / 64, by omega⟩) (hz := fun s hs => by
    rw [← H]
    unfold scoreAt
    refine Finset.sum_congr rfl fun k _ => ?_
    unfold row
    rw [q_at, k_at]
    have hk : 128 * (t.val / 16 % 4) + (y2.val / 64 * 64 + k.val) = (128 * (t.val / 16 % 4) + y2.val) / 64 * 64 + k.val := by omega
    simp only [hk])]
  rw [(idx t).2.2.2.2.2]
  refine congrArg (fun v => mix _ v _) (funext fun s => ?_)
  exact v_at m c t _ _

end

end Cert.Proof.SbKernel

end
-- ==== Proof.SbReference.lean ====
module

public import proofs.«01_k».proof.Proof.Gen.ReferenceSbIdeal.Read
public import proofs.«01_k».proof.Proof.SbMath
public import Idealize.ShloMosaic.Lib.Pointwise

@[expose] public section

set_option maxRecDepth 16384

noncomputable section

namespace Cert.Proof.SbReference

open Cert.ReferenceSbIdeal Cert.ReferenceSbIdeal.Gen Cert.ReferenceSbIdeal.Read
open Idealize.ShloMosaic Idealize.ShloMosaic.TcCoe Idealize.SL.Sem
open Cert.Proof.SbMath

/-- A running addition along a list is the start and the list's sum. -/
theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The element of row `q` at column `s`, zero past the end. -/
def at4 (x : FVec Ideal S16x8x4096x4096 .f32) (b : Fin 16) (h : Fin 8) (q : Fin 4096) (s : ℕ) : EReal :=
  if hs : s < 4096 then x (ix4 b h q ⟨s, hs⟩) else 0

/-- The window of a running sum from the end: positions along the last axis. -/
abbrev W : Shape := ⟨4, ![1, 1, 1, 4096]⟩

/-- The window's positions are the numbers below 4096. -/
theorem bij : Function.Bijective (fun k : Fin 4096 => (ix4 0 0 0 k : W.Idx)) := by
  constructor
  · intro k k' h
    exact congrFun h 3
  · intro w
    refine ⟨w 3, funext fun a => ?_⟩
    fin_cases a
    · exact (Subsingleton.elim (α := Fin 1) _ _)
    · exact (Subsingleton.elim (α := Fin 1) _ _)
    · exact (Subsingleton.elim (α := Fin 1) _ _)
    · rfl

/-- A sum past the end, of zeros there, is the sum up to the end. -/
theorem sum_past (F : ℕ → EReal) (hF : ∀ s, 4096 ≤ s → F s = 0) (p : ℕ) (hp : p ≤ 4096) :
    (∑ k : Fin 4096, F (p + k.val)) = ∑ s ∈ Finset.Ico p 4096, F s := by
  rw [Finset.sum_Ico_eq_sum_range, ← Finset.sum_range (fun k => F (p + k))]
  refine (Finset.sum_subset (fun k hk => ?_) fun k _ hk => hF _ ?_).symm
  · simp only [Finset.mem_range] at *
    omega
  · simp only [Finset.mem_range] at *
    omega

/-- A float sum over windows, at an index: the initial value and the window's elements. -/
theorem window_sum {s t : Shape} (window strides lo hi : Fin s.rank → ℕ) (h : s.ReduceWindows window strides lo hi t) (x : s.Idx → EReal) (v : EReal) (j : t.Idx) :
    Ideal.hostReduceWindowAdd window strides lo hi h x v j
      = v + ∑ w : (⟨s.rank, window⟩ : Shape).Idx,
        if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else v := by
  unfold Ideal.hostReduceWindowAdd Host.reduceWindow
  dsimp only
  rw [foldl_add, ← Fin.sum_univ_def]
  congr 1
  refine Eq.trans (Finset.sum_congr rfl fun n _ => ?_) (Equiv.sum_comp (Shape.rowMajor ⟨s.rank, window⟩).symm (fun w : (⟨s.rank, window⟩ : Shape).Idx =>
    if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else v))
  congr

/-- The running sum from the end, read at a column: the sum of that column and the later ones. -/
theorem suffix (x : FVec Ideal S16x8x4096x4096 .f32) (hw) (b : Fin 16) (h : Fin 8) (q p : Fin 4096) :
    Ideal.hostReduceWindowAdd (s := S16x8x4096x4096) (t := S16x8x4096x4096) ![1, 1, 1, 4096] ![1, 1, 1, 1] ![0, 0, 0, 0] ![0, 0, 0, 4095] hw x 0 (ix4 b h q p)
      = ∑ s ∈ Finset.Ico p.val 4096, at4 x b h q s := by
  rw [window_sum, zero_add, ← sum_past (at4 x b h q) (fun s hs => dif_neg (by omega)) p.val (by omega)]
  refine (Fintype.sum_bijective _ bij _ _ fun k => ?_).symm
  by_cases hk : p.val + k.val < 4096
  · rw [at4, dif_pos hk, dif_pos]
    · congr 1
      funext a
      fin_cases a
      · exact Fin.ext (by show b.val = b.val * 1 + 0 - 0; omega)
      · exact Fin.ext (by show h.val = h.val * 1 + 0 - 0; omega)
      · exact Fin.ext (by show q.val = q.val * 1 + 0 - 0; omega)
      · exact Fin.ext (by show p.val + k.val = p.val * 1 + k.val - 0; omega)
    · intro a
      fin_cases a
      · show 0 ≤ b.val * 1 + 0 ∧ b.val * 1 + 0 - 0 < 16
        omega
      · show 0 ≤ h.val * 1 + 0 ∧ h.val * 1 + 0 - 0 < 8
        omega
      · show 0 ≤ q.val * 1 + 0 ∧ q.val * 1 + 0 - 0 < 4096
        omega
      · show 0 ≤ p.val * 1 + k.val ∧ p.val * 1 + k.val - 0 < 4096
        omega
  · rw [at4, dif_neg hk, dif_neg]
    intro hin
    have := (hin 3).2
    change p.val * 1 + k.val - 0 < 4096 at this
    omega

variable (x0 x1 x2 : FVec Ideal S16x4096x512 .bf16) (b : Fin 16) (h : Fin 8) (q s : Fin 4096)

/-- The host's running sum is that one. -/
theorem value20 : val_main_v20 (F := Ideal) x0 x1 (ix4 b h q s) = ∑ p ∈ Finset.Ico s.val 4096, at4 (val_main_v19 (F := Ideal) x0 x1) b h q p := by
  have hz : val_main_call2_v0 (F := Ideal) ix0 = (0 : EReal) := by
    pointwise [val_main_call2_v0, val_main_call2_cst]
  rw [← suffix _ reduceWindows_S16x8x4096x4096_S16x8x4096x4096_w1s1p0_0_w1s1p0_0_w1s1p0_0_w4096s1p0_4095, ← hz]
  unfold val_main_v20 Host.reduceWindowAdd
  rw [show Shape.Idx.first _ = ix0 from funext fun a => a.elim0]
  rfl

/-- A word below another selects as the numbers do. -/
theorem select_lt (a c : EReal) : Scalar.select (IntOp.cmpi .slt (BitVec.ofNat 32 s.val) (BitVec.ofNat 32 q.val)) a c = if s.val < q.val then a else c := by
  rw [WordCmp.cmpi_slt_ofNat (by omega) (by omega)]
  by_cases h : s.val < q.val <;> simp [h, Scalar.select]

/-- The reference's constant zero. -/
theorem zero_const : id (constant (F := Ideal) S_ .f32 0x00000000#32) ix0 = (0 : EReal) := by
  pointwise [id]

/-- The opposite of the softplus of a real, as the reference writes it. -/
theorem softplus_neg (y : ℝ) :
    (-if (y : EReal) ≠ (y : EReal) then (y : EReal) else max (y : EReal) 0 + Ideal.log1p (Ideal.exp (-FloatOps.absf (F := Ideal) (φ := .f32) (y : EReal))) : EReal)
      = ((-(max y 0 + Real.log (1 + Real.exp (-|y|))) : ℝ) : EReal) := by
  rw [if_neg (not_not.mpr rfl), abs_coe, ← EReal.coe_neg |y|, Ideal.log1p, log_one_exp, ← EReal.coe_zero, ← EReal.coe_strictMono.monotone.map_max, ← EReal.coe_add, ← EReal.coe_neg]

/-- The opposite of the softplus of a score is the logarithm of what the weight leaves. -/
theorem softplus_score (z : ℝ) : -(max z 0 + Real.log (1 + Real.exp (-|z|))) = lsR z - z := by
  unfold lsR
  rcases le_total z 0 with h | h
  · rw [max_eq_right h, min_eq_left h]; ring
  · rw [max_eq_left h, min_eq_right h]; ring

/-- The opposite of the softplus of a score's opposite is the logarithm of the logistic curve. -/
theorem softplus_opposite (z : ℝ) : -(max (-z) 0 + Real.log (1 + Real.exp (-|-z|))) = lsR z := by
  unfold lsR
  rw [abs_neg]
  rcases le_total z 0 with h | h
  · rw [max_eq_left (by linarith), min_eq_left h]; ring
  · rw [max_eq_right (by linarith), min_eq_right h]; ring

/-- The scores: products of a query and a key summed over the head's 64 columns. -/
theorem value9 : val_main_v9 (F := Ideal) x0 x1 (ix4 b h q s)
    = ∑ k : Fin 64, (show EReal from x0 (ix3 b q ⟨h.val * 64 + k.val, by omega⟩)) * (show EReal from x1 (ix3 b s ⟨h.val * 64 + k.val, by omega⟩)) := by
  pointwise [val_main_v9, val_main_v5, val_main_v4, val_main_v3, val_main_v2, val_main_v1, val_main_v0]

section

variable (z : ℕ → ℝ) (hz : ∀ s : Fin 4096, val_main_v9 (F := Ideal) x0 x1 (ix4 b h q s) = ((z s.val : ℝ) : EReal))

include hz

/-- What the weights leave, masked. -/
theorem value19 : val_main_v19 (F := Ideal) x0 x1 (ix4 b h q s) = ((rest z q.val s.val : ℝ) : EReal) := by
  pointwise [val_main_v19, val_main_v18, val_main_v17, val_main_v16, val_main_v15, val_main_v14, val_main_v13, val_main_v12, val_main_v11, val_main_v10,
    val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_cst, val_main_call1_v0, val_main_call1_v1, val_main_call1_v2]
  rw [select_lt, hz, zero_const, neg_neg, softplus_neg, softplus_score, rest]
  split
  · rfl
  · exact EReal.coe_zero.symm

/-- The sum of the later ones. -/
theorem value21 : val_main_v21 (F := Ideal) x0 x1 (ix4 b h q s) = ((tail z q.val (s.val + 1) : ℝ) : EReal) := by
  rw [val_main_v21_apply, value20, value19 x0 x1 b h q s z hz]
  have e : ∀ p ∈ Finset.Ico s.val 4096, at4 (val_main_v19 (F := Ideal) x0 x1) b h q p = ((rest z q.val p : ℝ) : EReal) := fun p hp => by
    rw [at4, dif_pos (Finset.mem_Ico.mp hp).2]
    exact value19 x0 x1 b h q _ z hz
  rw [Finset.sum_congr rfl e, Finite.coe_sum]
  show ((_ : ℝ) : EReal) - _ = _
  rw [← EReal.coe_sub, tail]
  congr 1
  rw [Finset.sum_eq_sum_Ico_succ_bot s.isLt]
  ring

/-- The weights. -/
theorem value25 : val_main_v25 (F := Ideal) x0 x1 (ix4 b h q s) = ((weight z q.val s.val : ℝ) : EReal) := by
  pointwise [val_main_v25, val_main_v24, val_main_v23, val_main_v22, val_main_v16, val_main_v15, val_main_v14, val_main_v13, val_main_v12, val_main_v11, val_main_v10,
    val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_v1, val_main_cst_0, val_main_call4_v0, val_main_call4_v1, val_main_call4_v2]
  rw [select_lt, hz, zero_const, value21 x0 x1 b h q s z hz, ← EReal.coe_neg, softplus_neg, softplus_opposite, ← EReal.coe_add, Ideal.exp_coe, weight]
  split
  · rfl
  · exact EReal.coe_zero.symm

end

/-- The result: the values summed under the weights of the column's head. -/
theorem value29 (l : Fin 512) : val_main_v29 (F := Ideal) x0 x1 x2 (ix3 b q l)
    = ∑ s : Fin 4096, val_main_v25 (F := Ideal) x0 x1 (ix4 b ⟨l.val / 64, by omega⟩ q s) * (show EReal from x2 (ix3 b s l)) := by
  pointwise [val_main_v29, val_main_v28, val_main_v27, val_main_v26, val_main_v8, val_main_v7, val_main_v6]

end Cert.Proof.SbReference

end
-- ==== Proof.SbClaim.lean ====
module

public import proofs.«01_k».proof.Defs
public import proofs.«01_k».proof.Proof.Gen.Pre_finite_qk
public import proofs.«01_k».proof.Proof.SbFrame
public import proofs.«01_k».proof.Proof.SbKernel
public import proofs.«01_k».proof.Proof.SbReference

@[expose] public section

set_option maxRecDepth 16384

noncomputable section

namespace Cert.Proof.SbClaim

open Idealize.ShloMosaic Idealize.ShloMosaic.TcCoe Idealize.SL.Sem

/-- On finite queries and keys the attention call leaves its arguments as they were and its semaphores at zero. -/
theorem frame_ideal_pre : Cert.quiescent_KernelSbIdeal_pre_finite_qk (hKernelSbIdeal := Cert.KernelSbIdeal.Gen.facts)
    (hPre_finite_qk := Cert.Pre_finite_qk.Gen.facts) :=
  fun m ρ _ => Cert.KernelSbIdeal.Gen.frame m ρ

/-- So does the reference. -/
theorem frame_reference_pre : Cert.quiescent_ReferenceSbIdeal_pre_finite_qk
    (hReferenceSbIdeal := Cert.ReferenceSbIdeal.Gen.facts) (hPre_finite_qk := Cert.Pre_finite_qk.Gen.facts) :=
  fun m ρ _ => SbFrame.frame_reference m ρ (by trivial)

/-- What the precondition says: the queries and the keys are real numbers. -/
theorem finite (x0 x1 x2 : FVec Ideal Cert.Pre_finite_qk.S16x4096x512 .bf16)
    (h : @Cert.Pre_finite_qk.fn Cert.Pre_finite_qk.Gen.facts Ideal _ x0 x1 x2 = fun _ => 1#1) :
    (∀ k, ∃ r : ℝ, x0 k = (r : EReal)) ∧ ∀ k, ∃ r : ℝ, x1 k = (r : EReal) :=
  ⟨fun k => Cert.Proof.Finite.real_of_cmp (IntOp.andi_eq_one.1 (congrFun h k)).1,
    fun k => Cert.Proof.Finite.real_of_cmp (IntOp.andi_eq_one.1 (congrFun h k)).2⟩

section
variable (m : (ℓ : Loc Cert.KernelSbIdeal.nD Cert.KernelSbIdeal.τ Cert.KernelSbIdeal.sig) → Buf (Elt Ideal) ℓ)
  (c : Dev Cert.KernelSbIdeal.nD)

/-- Then every score is one. -/
theorem scores (h0 : ∀ k, ∃ r : ℝ, m ((c : Thread Cert.KernelSbIdeal.nD Cert.KernelSbIdeal.τ).loc Cert.KernelSbIdeal.main_arg0) k = (r : EReal))
    (h1 : ∀ k, ∃ r : ℝ, m ((c : Thread Cert.KernelSbIdeal.nD Cert.KernelSbIdeal.τ).loc Cert.KernelSbIdeal.main_arg1) k = (r : EReal))
    (b : Fin 16) (q : Fin 4096) (h : Fin 8) (s : ℕ) : SbKernel.scoreAt m c b q h s = ((SbKernel.realAt m c b q h s : ℝ) : EReal) := by
  choose f hf using h0
  choose g hg using h1
  unfold SbKernel.realAt
  have e : ∃ r : ℝ, SbKernel.scoreAt m c b q h s = (r : EReal) := by
    unfold SbKernel.scoreAt
    simp only [hf, hg, ← EReal.coe_mul]
    exact ⟨_, Finite.coe_sum _ _⟩
  obtain ⟨r, hr⟩ := e
  rw [hr, EReal.toReal_coe]

/-- The reference's result on the kernel's arguments is the kernel's. -/
theorem result (h0 : ∀ k, ∃ r : ℝ, m ((c : Thread Cert.KernelSbIdeal.nD Cert.KernelSbIdeal.τ).loc Cert.KernelSbIdeal.main_arg0) k = (r : EReal))
    (h1 : ∀ k, ∃ r : ℝ, m ((c : Thread Cert.KernelSbIdeal.nD Cert.KernelSbIdeal.τ).loc Cert.KernelSbIdeal.main_arg1) k = (r : EReal)) :
    Cert.ReferenceSbIdeal.Read.val_main_v29 (F := Ideal) (m ((c : Thread Cert.KernelSbIdeal.nD Cert.KernelSbIdeal.τ).loc Cert.KernelSbIdeal.main_arg0)) (m ((c : Thread Cert.KernelSbIdeal.nD Cert.KernelSbIdeal.τ).loc Cert.KernelSbIdeal.main_arg1)) (m ((c : Thread Cert.KernelSbIdeal.nD Cert.KernelSbIdeal.τ).loc Cert.KernelSbIdeal.main_arg2))
      = (Cert.KernelSbIdeal.Gen.dats m 0 c).arrAt 4 Cert.KernelSbIdeal.cfg0.N := by
  funext i
  refine Eq.trans ?_ (SbKernel.final4 m c (scores m c h0 h1) i).symm
  rw [ValueIdx.eq_ix3 i]
  generalize i 0 = b
  generalize i 1 = q
  generalize i 2 = l
  change Fin 16 at b
  change Fin 4096 at q
  change Fin 512 at l
  have hz : ∀ s : Fin 4096, Cert.ReferenceSbIdeal.Read.val_main_v9 (F := Ideal) (m ((c : Thread Cert.KernelSbIdeal.nD Cert.KernelSbIdeal.τ).loc Cert.KernelSbIdeal.main_arg0)) (m ((c : Thread Cert.KernelSbIdeal.nD Cert.KernelSbIdeal.τ).loc Cert.KernelSbIdeal.main_arg1)) (ix4 b ⟨l.val / 64, by omega⟩ q s)
      = ((SbKernel.realAt m c b q ⟨l.val / 64, by omega⟩ s.val : ℝ) : EReal) := fun s => by
    rw [SbReference.value9, ← scores m c h0 h1]
    unfold SbKernel.scoreAt
    simp only [Nat.mod_eq_of_lt s.isLt]
  refine (SbReference.value29 _ _ _ _ _ _).trans ?_
  unfold SbKernel.out4 SbKernel.mix
  refine Finset.sum_congr rfl fun s _ => ?_
  rw [SbReference.value25 _ _ _ _ _ _ _ hz]
  simp only [Nat.mod_eq_of_lt s.isLt]

end

/-- The attention call computes the reference's attention: equal results on equal finite queries and keys. -/
theorem algebraic : Cert.algebraic_KernelSbIdeal_ReferenceSbIdeal_pre_finite_qk
    (hKernelSbIdeal := Cert.KernelSbIdeal.Gen.facts)
    (hReferenceSbIdeal := Cert.ReferenceSbIdeal.Gen.facts) (hPre_finite_qk := Cert.Pre_finite_qk.Gen.facts) := by
  intro m g m' g' hpre hagree
  refine ⟨fun c => (Cert.KernelSbIdeal.Gen.dats m 0 c).arrAt 4 Cert.KernelSbIdeal.cfg0.N,
    Cert.KernelSbIdeal.Value.run_blocks m g, ?_⟩
  refine (θ_run Cert.ReferenceSbIdeal.defs _ _).mono (fun r h c =>
    ⟨((h c).1.trans (Cert.ReferenceSbIdeal.Read.val_main_v29_eq _ _)).trans ?_, (h c).2⟩)
    (Cert.ReferenceSbIdeal.Value.run (F := Ideal) m' g')
  obtain ⟨h0, h1, h2⟩ := hagree c
  obtain ⟨hq, hk⟩ := finite _ _ _ (hpre c)
  rw [h0, h1, h2]
  exact result m c hq hk

end Cert.Proof.SbClaim

end
-- ==== Proof.FfnKernel.lean ====
module

public import proofs.«01_k».proof.Proof.Gen.KernelFfnIdeal.Value
public import Idealize.ShloMosaic.Lib.Pipeline.ValueKit

@[expose] public section

set_option maxRecDepth 16384

noncomputable section

namespace Cert.Proof.FfnKernel

open Cert.KernelFfnIdeal Cert.KernelFfnIdeal.Gen
open Idealize.ShloMosaic Idealize.ShloMosaic.TcCoe Idealize.SL.Sem
open Idealize.ShloMosaic.Pipeline (Dat)

/-- The gated hidden unit `k` of one row `h` : the gate unit through the logistic curve, times the up unit. -/
def hid (h : Fin 1024 → EReal) (w : Fin 1024 → Fin 5632 → EReal) (k : Fin 2816) : EReal :=
  (∑ i, h i * w i ⟨k, by omega⟩)
      * Ideal.div 1 (1 + Ideal.exp (0 - ∑ i, h i * w i ⟨k, by omega⟩))
    * ∑ i, h i * w i ⟨2816 + k, by omega⟩

variable (m : (ℓ : Loc nD τ sig) → Buf (Elt Ideal) ℓ)

/-- Which blocks a grid point takes. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- Eleven summands added to `a` one after the other are `a` plus their sum. -/
theorem sum_eleven (a : EReal) (f : Fin 11 → EReal) :
    a + ∑ j, f j = a + f 0 + f 1 + f 2 + f 3 + f 4 + f 5 + f 6 + f 7 + f 8 + f 9 + f 10 := by
  simp only [Fin.sum_univ_succ, Fin.sum_univ_zero, add_zero, ← add_assoc]
  rfl

/-- One summand of the down projection, at the columns the kernel reads it from: `a` in the gate half, `b` in the up
    half. -/
theorem chunk (h : Fin 1024 → EReal) (w : Fin 1024 → Fin 5632 → EReal) (d : Fin 2816 → EReal) (k : Fin 2816)
    (a b c : ℕ) (ha : a = k) (hb : b = 2816 + k) (hc : c = k) (a1 : a < 5632) (b1 : b < 5632) (c1 : c < 2816) :
    ((∑ i, h i * w i ⟨a, a1⟩) * Ideal.div 1 (1 + Ideal.exp (0 - ∑ i, h i * w i ⟨a, a1⟩))
      * ∑ i, h i * w i ⟨b, b1⟩) * d ⟨c, c1⟩ = hid h w k * d k := by
  subst ha hb hc; rfl

/-- A block of the result: the residual row plus the down projection of the row's gated hidden units. -/
theorem block (x0 : Vec Ideal S512x1024 .f32) (x1 : Vec Ideal S512x1024 .bf16) (x2 : Vec Ideal S1024x5632 .bf16)
    (x3 : Vec Ideal S2816x1024 .bf16) (r : Fin 512) (l : Fin 1024) :
    out0_4 x0 x1 x2 x3 (ix2 r l) = (show EReal from x0 (ix2 r l))
      + ∑ k, hid (fun i => x1 (ix2 r i)) (fun i k => x2 (ix2 i k)) k * (show EReal from x3 (ix2 k l)) := by
  frame_out
  pointwise [k0_pay1, k0_pay2, k0_pay3, k0_pay4, k0_pay5, k0_pay6, k0_pay7, k0_pay8, k0_pay9, k0_pay10, k0_pay11,
    k0_pay12, k0_pay13, k0_pay14, k0_pay15, k0_pay16, k0_pay17]
  rw [Fin.sum_univ_tiles 11 256 rfl, sum_eleven]
  iterate 11 (
    refine congrArg₂ (· + ·) ?_ (Finset.sum_congr rfl fun t _ =>
      chunk (fun i => x1 (ix2 r i)) (fun i k => x2 (ix2 i k)) (fun k => x3 (ix2 k l)) _ _ _ _ ?_ ?_ ?_ _ _ _)
    rotate_left
    · simp <;> omega
    · simp <;> omega
    · simp <;> omega)
  rfl

/-- The result array: every point writes the rows it covers. -/
theorem final (c : Dev nD) (i : S65536x1024.Idx) : (dats m 0 c).arrAt 4 cfg0.N i
    = (show EReal from m ((c : Thread nD τ).loc main_arg0) i)
      + ∑ k, hid (fun e => m ((c : Thread nD τ).loc main_arg1) (ix2 (i 0) e))
          (fun e k => m ((c : Thread nD τ).loc main_arg2) (ix2 e k)) k
        * (show EReal from m ((c : Thread nD τ).loc main_arg3) (ix2 k (i 1))) := by
  revert i
  refine congrFun ((dats m 0 c).arrAt_eq_of_covers 4 (fun i => _) (by decide +kernel) fun t _ y => ?_)
  blk_simp
  rw [after0_4]
  idx_vars y
  rw [block]
  simp only [hid]
  blk_point [iblk, V, idx t]

end Cert.Proof.FfnKernel

end
-- ==== Proof.FfnReference.lean ====
module

public import proofs.«01_k».proof.Proof.Gen.ReferenceFfnIdeal.Read
public import proofs.«01_k».proof.Proof.FfnKernel
public import Idealize.ShloMosaic.Lib.Pointwise

@[expose] public section

set_option maxRecDepth 16384

noncomputable section

namespace Cert.Proof.FfnReference

open Cert.ReferenceFfnIdeal Cert.ReferenceFfnIdeal.Gen Cert.ReferenceFfnIdeal.Read
open Idealize.ShloMosaic Idealize.ShloMosaic.TcCoe Idealize.SL.Sem
open Cert.Proof.FfnKernel (hid)

/-- The reference's result at a row and a column: the residual row plus the down projection of the row's gated hidden
    units. -/
theorem value (x : FVec Ideal S65536x1024 .f32) (h : FVec Ideal S65536x1024 .bf16) (w : FVec Ideal S1024x5632 .f32)
    (d : FVec Ideal S2816x1024 .f32) (r : Fin 65536) (l : Fin 1024) :
    val_main_v7 (F := Ideal) x h w d (ix2 r l) = x (ix2 r l)
      + ∑ k, hid (fun e => h (ix2 r e)) (fun e k => w (ix2 e k)) k * d (ix2 k l) := by
  pointwise [val_main_v7, val_main_v6, val_main_v5, val_main_v4, val_main_v3, val_main_v2, val_main_v1, val_main_v0,
    val_main_call0_v0, val_main_call0_v1, val_main_call0_v2, val_main_call0_v3, val_main_call0_v4, val_main_call0_v5,
    val_main_call0_cst, val_main_call0_cst_0, hid]
  simp only [zero_sub]

end Cert.Proof.FfnReference

end
-- ==== Proof.FfnClaim.lean ====
module

public import proofs.«01_k».proof.Defs
public import proofs.«01_k».proof.Proof.Gen.KernelFfn.Frame
public import proofs.«01_k».proof.Proof.FfnReference

@[expose] public section

set_option maxRecDepth 16384

noncomputable section

namespace Cert.Proof.FfnClaim

open Idealize.ShloMosaic Idealize.ShloMosaic.TcCoe Idealize.SL.Sem

/-- The feed-forward call leaves its arguments as they were and its semaphores at zero. -/
theorem frame : Cert.quiescent_KernelFfn (hKernelFfn := Cert.KernelFfn.Gen.facts) :=
  fun m ρ _ => Cert.KernelFfn.Gen.frame m ρ

/-- So does the call on the ideal instance. -/
theorem frame_ideal : Cert.quiescent_KernelFfnIdeal (hKernelFfnIdeal := Cert.KernelFfnIdeal.Gen.facts) :=
  fun m ρ _ => Cert.KernelFfnIdeal.Gen.frame m ρ

/-- So does the reference. -/
theorem frame_reference : Cert.quiescent_ReferenceFfnIdeal (hReferenceFfnIdeal := Cert.ReferenceFfnIdeal.Gen.facts) :=
  fun m ρ _ => (θ_run Cert.ReferenceFfnIdeal.defs _ _).mono
    (fun r h => ⟨fun c => (h c).2, sem_eq_zero_of_no_sems (by decide) r.2⟩)
    (Cert.ReferenceFfnIdeal.Value.run (F := Ideal) m ρ)

/-- The feed-forward call computes the reference's gated feed-forward: equal results on equal arguments. -/
theorem algebraic : Cert.algebraic_KernelFfnIdeal_ReferenceFfnIdeal (hKernelFfnIdeal := Cert.KernelFfnIdeal.Gen.facts)
    (hReferenceFfnIdeal := Cert.ReferenceFfnIdeal.Gen.facts) := by
  intro m g m' g' _ hagree
  refine ⟨fun c => (Cert.KernelFfnIdeal.Gen.dats m 0 c).arrAt 4 Cert.KernelFfnIdeal.cfg0.N,
    Cert.KernelFfnIdeal.Value.run_blocks m g, ?_⟩
  refine (θ_run Cert.ReferenceFfnIdeal.defs _ _).mono (fun r h c =>
    ⟨((h c).1.trans (Cert.ReferenceFfnIdeal.Read.val_main_v7_eq _ _ _ _)).trans ?_, (h c).2⟩)
    (Cert.ReferenceFfnIdeal.Value.run (F := Ideal) m' g')
  rw [(hagree c).1, (hagree c).2.1, (hagree c).2.2.1, (hagree c).2.2.2]
  funext i
  rw [ValueIdx.eq_ix2 i]
  exact (Cert.Proof.FfnReference.value _ _ _ _ _ _).trans (Cert.Proof.FfnKernel.final m c _).symm

end Cert.Proof.FfnClaim

end
-- ==== Proof.MergeKernel.lean ====
module

public import proofs.«01_k».proof.Proof.Gen.KernelMergeIdeal.Value
public import Idealize.ShloMosaic.Lib.Pipeline.ValueKit

@[expose] public section

set_option maxRecDepth 16384

noncomputable section

namespace Cert.Proof.MergeKernel

open Cert.KernelMergeIdeal Cert.KernelMergeIdeal.Gen
open Idealize.ShloMosaic Idealize.ShloMosaic.TcCoe Idealize.SL.Sem
open Idealize.ShloMosaic.Pipeline (Dat)

/-- Channel `k` of the mixed branches of one row: each branch's projection times that channel's gate of that branch. -/
def mixed (a b : Fin 512 → EReal) (g : Fin 2048 → EReal) (wa wb : Fin 512 → Fin 1024 → EReal) (k : Fin 1024) : EReal :=
  g ⟨k, by omega⟩ * (∑ i, a i * wa i k) + g ⟨1024 + k, by omega⟩ * ∑ i, b i * wb i k

/-- Column `l` of the merged row: the residual plus the output projection of the mixed branches. -/
def merged (x : Fin 1024 → EReal) (a b : Fin 512 → EReal) (g : Fin 2048 → EReal) (wa wb : Fin 512 → Fin 1024 → EReal)
    (wo : Fin 1024 → Fin 1024 → EReal) (l : Fin 1024) : EReal :=
  x l + ∑ k, mixed a b g wa wb k * wo k l

/-- The reciprocal root of the mean square of a row. -/
def scale (x : Fin 1024 → EReal) : EReal :=
  Ideal.rsqrt (Ideal.div (∑ i, x i * x i) (Ideal.ofBits .f32 0x44800000#32) + Ideal.ofBits .f32 0x358637BD#32)

variable (m : (ℓ : Loc nD τ sig) → Buf (Elt Ideal) ℓ)

/-- Which blocks a grid point takes. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0]
    ∧ win0_8.index t = ![t.val, 0] ∧ win0_9.index t = ![t.val, 0] :=
  (by decide +kernel : ∀ t : Fin grid0.N, _)

section
variable (x0 : Vec Ideal S512x1024 .f32) (x1 : Vec Ideal S512x512 .bf16) (x2 : Vec Ideal S512x512 .bf16)
  (x3 : Vec Ideal S512x2048 .bf16) (x4 : Vec Ideal S512x1024 .bf16) (x5 : Vec Ideal S512x1024 .bf16)
  (x6 : Vec Ideal S1024x1024 .bf16) (x7 : Vec Ideal S1x1024 .f32) (r : Fin 512) (l : Fin 1024)

/-- A row of a block of the merged stream. -/
def row : Fin 1024 → EReal :=
  merged (fun k => x0 (ix2 r k)) (fun i => x1 (ix2 r i)) (fun i => x2 (ix2 r i)) (fun k => x3 (ix2 r k))
    (fun i k => x4 (ix2 i k)) (fun i k => x5 (ix2 i k)) (fun i k => x6 (ix2 i k))

/-- A block of the merged stream. -/
theorem block8 : out0_8 x0 x1 x2 x3 x4 x5 x6 x7 (ix2 r l) = row x0 x1 x2 x3 x4 x5 x6 r l := by
  frame_out
  pointwise [k0_pay2, k0_pay3, row, merged, mixed]

/-- A block of the normalised stream. -/
theorem block9 : out0_9 x0 x1 x2 x3 x4 x5 x6 x7 (ix2 r l) =
    row x0 x1 x2 x3 x4 x5 x6 r l * scale (row x0 x1 x2 x3 x4 x5 x6 r) * (show EReal from x7 (ix2 0 l)) := by
  frame_out
  pointwise [k0_pay1, k0_pay2, k0_pay3, row, merged, mixed, scale]

end

section
variable (c : Dev nD) (i : Fin 65536)

/-- Row `i` of the merged stream of the arguments. -/
def rowAt : Fin 1024 → EReal :=
  merged (fun k => m ((c : Thread nD τ).loc main_arg0) (ix2 i k)) (fun k => m ((c : Thread nD τ).loc main_arg1) (ix2 i k))
    (fun k => m ((c : Thread nD τ).loc main_arg2) (ix2 i k)) (fun k => m ((c : Thread nD τ).loc main_arg3) (ix2 i k))
    (fun e k => m ((c : Thread nD τ).loc main_arg4) (ix2 e k)) (fun e k => m ((c : Thread nD τ).loc main_arg5) (ix2 e k))
    (fun e k => m ((c : Thread nD τ).loc main_arg6) (ix2 e k))

end

/-- The merged stream: every point writes the rows it covers. -/
theorem final8 (c : Dev nD) (i : S65536x1024.Idx) : (dats m 0 c).arrAt 8 cfg0.N i = rowAt m c (i 0) (i 1) := by
  revert i
  refine congrFun ((dats m 0 c).arrAt_eq_of_covers 8 (fun i => rowAt m c (i 0) (i 1)) (by decide +kernel) fun t _ y => ?_)
  blk_simp
  rw [after0_8]
  idx_vars y
  rw [block8]
  simp only [row, rowAt, merged, mixed]
  blk_point [iblk, V, idx t]

/-- The normalised stream: every point writes the rows it covers. -/
theorem final9 (c : Dev nD) (i : S65536x1024.Idx) : (dats m 0 c).arrAt 9 cfg0.N i
    = rowAt m c (i 0) (i 1) * scale (rowAt m c (i 0))
      * (show EReal from m ((c : Thread nD τ).loc main_arg7) (ix1 (i 1))) := by
  revert i
  refine congrFun ((dats m 0 c).arrAt_eq_of_covers 9 (fun i => rowAt m c (i 0) (i 1) * scale (rowAt m c (i 0))
      * (show EReal from m ((c : Thread nD τ).loc main_arg7) (ix1 (i 1)))) (by decide +kernel) fun t _ y => ?_)
  blk_simp
  rw [after0_9]
  idx_vars y
  rw [block9]
  simp only [row, rowAt, scale, merged, mixed]
  blk_point [iblk, V, idx t]

end Cert.Proof.MergeKernel

end
-- ==== Proof.MergeReference.lean ====
module

public import proofs.«01_k».proof.Proof.Gen.ReferenceMergeIdeal.Read
public import proofs.«01_k».proof.Proof.MergeKernel
public import Idealize.ShloMosaic.Lib.Pointwise

@[expose] public section

set_option maxRecDepth 16384

noncomputable section

namespace Cert.Proof.MergeReference

open Cert.ReferenceMergeIdeal Cert.ReferenceMergeIdeal.Gen Cert.ReferenceMergeIdeal.Read
open Idealize.ShloMosaic Idealize.ShloMosaic.TcCoe Idealize.SL.Sem
open Cert.Proof.MergeKernel (merged mixed scale)

section
variable (x0 : FVec Ideal S65536x1024 .f32) (x1 x2 : FVec Ideal S65536x512 .bf16) (x3 : FVec Ideal S65536x2048 .bf16)
  (x4 x5 : FVec Ideal S512x1024 .f32) (x6 : FVec Ideal S1024x1024 .f32) (x7 : FVec Ideal S1024 .f32)
  (r : Fin 65536) (l : Fin 1024)

/-- A row of the reference's merged stream. -/
def row : Fin 1024 → EReal :=
  merged (fun k => x0 (ix2 r k)) (fun i => x1 (ix2 r i)) (fun i => x2 (ix2 r i)) (fun k => x3 (ix2 r k))
    (fun i k => x4 (ix2 i k)) (fun i k => x5 (ix2 i k)) (fun i k => x6 (ix2 i k))

/-- The reference's merged stream at a row and a column. -/
theorem value14 : val_main_v14 (F := Ideal) x0 x1 x2 x3 x4 x5 x6 (ix2 r l) = row x0 x1 x2 x3 x4 x5 x6 r l := by
  pointwise [val_main_v14, val_main_v13, val_main_v12, val_main_v11, val_main_v10, val_main_v9, val_main_v8,
    val_main_v7, val_main_v6, val_main_v5, val_main_v4, val_main_v3, val_main_v2, val_main_v1, val_main_v0, row, merged, mixed]

/-- The reference's normalised stream at a row and a column. -/
theorem value28 : val_main_v28 (F := Ideal) x0 x1 x2 x3 x4 x5 x6 x7 (ix2 r l)
    = row x0 x1 x2 x3 x4 x5 x6 r l * scale (row x0 x1 x2 x3 x4 x5 x6 r) * x7 (ix1 l) := by
  pointwise [val_main_v28, val_main_v27, val_main_v26, val_main_v25, val_main_v24, val_main_v23, val_main_v22, val_main_v21,
    val_main_v20, val_main_v19, val_main_v18, val_main_v17, val_main_v16, val_main_v15, val_main_cst, val_main_cst_0,
    val_main_cst_1, value14, scale]

end

end Cert.Proof.MergeReference

end
-- ==== Proof.MergeClaim.lean ====
module

public import proofs.«01_k».proof.Defs
public import proofs.«01_k».proof.Proof.Gen.KernelMerge.Frame
public import proofs.«01_k».proof.Proof.MergeReference

@[expose] public section

set_option maxRecDepth 16384

noncomputable section

namespace Cert.Proof.MergeClaim

open Idealize.ShloMosaic Idealize.ShloMosaic.TcCoe Idealize.SL.Sem

/-- The merge call leaves its arguments as they were and its semaphores at zero. -/
theorem frame : Cert.quiescent_KernelMerge (hKernelMerge := Cert.KernelMerge.Gen.facts) :=
  fun m ρ _ => Cert.KernelMerge.Gen.frame m ρ

/-- So does the call on the ideal instance. -/
theorem frame_ideal : Cert.quiescent_KernelMergeIdeal (hKernelMergeIdeal := Cert.KernelMergeIdeal.Gen.facts) :=
  fun m ρ _ => Cert.KernelMergeIdeal.Gen.frame m ρ

/-- So does the reference. -/
theorem frame_reference : Cert.quiescent_ReferenceMergeIdeal (hReferenceMergeIdeal := Cert.ReferenceMergeIdeal.Gen.facts) :=
  fun m ρ _ => (θ_run Cert.ReferenceMergeIdeal.defs _ _).mono
    (fun r h => ⟨fun c => (h c).2.2, sem_eq_zero_of_no_sems (by decide) r.2⟩)
    (Cert.ReferenceMergeIdeal.Value.run (F := Ideal) m ρ)

/-- The merge call computes the reference's merge and norm: equal results on equal arguments. -/
theorem algebraic : Cert.algebraic_KernelMergeIdeal_ReferenceMergeIdeal
    (hKernelMergeIdeal := Cert.KernelMergeIdeal.Gen.facts)
    (hReferenceMergeIdeal := Cert.ReferenceMergeIdeal.Gen.facts) := by
  intro m g m' g' _ hagree
  refine ⟨fun c => (Cert.KernelMergeIdeal.Gen.dats m 0 c).arrAt 8 Cert.KernelMergeIdeal.cfg0.N,
    fun c => (Cert.KernelMergeIdeal.Gen.dats m 0 c).arrAt 9 Cert.KernelMergeIdeal.cfg0.N,
    Cert.KernelMergeIdeal.Value.run_blocks m g, ?_⟩
  refine (θ_run Cert.ReferenceMergeIdeal.defs _ _).mono (fun r h c =>
    ⟨((h c).1.trans (Cert.ReferenceMergeIdeal.Read.val_main_v14_eq _ _ _ _ _ _ _)).trans ?_,
      ((h c).2.1.trans (Cert.ReferenceMergeIdeal.Read.val_main_v28_eq _ _ _ _ _ _ _ _)).trans ?_, (h c).2.2⟩)
    (Cert.ReferenceMergeIdeal.Value.run (F := Ideal) m' g')
  · obtain ⟨h0, h1, h2, h3, h4, h5, h6, h7⟩ := hagree c
    rw [h0, h1, h2, h3, h4, h5, h6]
    funext i
    rw [ValueIdx.eq_ix2 i]
    exact (Cert.Proof.MergeReference.value14 _ _ _ _ _ _ _ _ _).trans
      (Cert.Proof.MergeKernel.final8 m c (ix2 (i 0) (i 1))).symm
  · obtain ⟨h0, h1, h2, h3, h4, h5, h6, h7⟩ := hagree c
    rw [h0, h1, h2, h3, h4, h5, h6, h7]
    funext i
    rw [ValueIdx.eq_ix2 i]
    exact (Cert.Proof.MergeReference.value28 _ _ _ _ _ _ _ _ _ _).trans
      (Cert.Proof.MergeKernel.final9 m c (ix2 (i 0) (i 1))).symm

end Cert.Proof.MergeClaim

end
-- ==== Proof.InHost.lean ====
module

public import proofs.«01_k».proof.Proof.Gen.KernelInIdeal.Frame
public import Idealize.ShloMosaic.Lib.Pipeline.ValueKit

@[expose] public section

set_option maxRecDepth 16384

noncomputable section

namespace Cert.Proof.InHost

open Cert.KernelInIdeal Cert.KernelInIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The integer zero as a number. -/
theorem int_zero : (FloatOps.sitofp (F := Ideal) .f32 (0#32) : EReal) = 0 := by
  show (((0#32).toInt : ℝ) : EReal) = 0
  simp

/-- The norm's weights the kernel reads are the argument's. -/
theorem gmix_at (k : Fin 1024) : V m c main_v18 (ix2 0 k) = m ((c : Thread nD τ).loc main_arg1) (ix1 k) := by
  unfold V
  simp only [hostOps0, hostOps0_1, hostOps0_2, hostOps0_3, hostOps0_4, List.flatten_cons, List.flatten_nil, List.append_nil, List.cons_append, List.nil_append]
  after_results
  try simp -implicitDefEqProofs only [StableHlo.TRef.toBuf, StableHlo.TRef.ofBuf, cast_cast, cast_eq]
  pointwise

/-- The projection's weights the kernel reads: the columns after the gates' move before them. -/
theorem w_lo (e : Fin 1024) (n : Fin 2048) : V m c main_v7 (ix2 e ⟨n, by omega⟩) = m ((c : Thread nD τ).loc main_arg2) (ix2 e ⟨n, by omega⟩) := by
  unfold V
  simp only [hostOps0, hostOps0_1, hostOps0_2, hostOps0_3, hostOps0_4, List.flatten_cons, List.flatten_nil, List.append_nil, List.cons_append, List.nil_append]
  generalize (fun i => FloatOps.ofBits (F := Ideal) .bf16 (lit0 (S8x8.rowMajor i))) = f
  after_results
  pointwise
  after_results_steps
  try simp -implicitDefEqProofs only [StableHlo.TRef.toBuf, StableHlo.TRef.ofBuf, cast_cast, cast_eq]
  pointwise

/-- The columns from 2048 on are the argument's, eight further on. -/
theorem w_mid (e : Fin 1024) (n : Fin 3584) : V m c main_v7 (ix2 e ⟨2048 + n, by omega⟩) = m ((c : Thread nD τ).loc main_arg2) (ix2 e ⟨2056 + n, by omega⟩) := by
  unfold V
  simp only [hostOps0, hostOps0_1, hostOps0_2, hostOps0_3, hostOps0_4, List.flatten_cons, List.flatten_nil, List.append_nil, List.cons_append, List.nil_append]
  generalize (fun i => FloatOps.ofBits (F := Ideal) .bf16 (lit0 (S8x8.rowMajor i))) = f
  after_results
  pointwise
  after_results_steps
  try simp -implicitDefEqProofs only [StableHlo.TRef.toBuf, StableHlo.TRef.ofBuf, cast_cast, cast_eq]
  pointwise

/-- The last columns are the gates' eight, then zeros. -/
theorem w_gate (e : Fin 1024) (n : Fin 128) : V m c main_v7 (ix2 e ⟨5632 + n, by omega⟩) =
   (if h : n.val < 8 then m ((c : Thread nD τ).loc main_arg2) (ix2 e ⟨2048 + n, by omega⟩) else (show EReal from 0)) := by
  unfold V
  simp only [hostOps0, hostOps0_1, hostOps0_2, hostOps0_3, hostOps0_4, List.flatten_cons, List.flatten_nil, List.append_nil, List.cons_append, List.nil_append]
  generalize (fun i => FloatOps.ofBits (F := Ideal) .bf16 (lit0 (S8x8.rowMajor i))) = f
  after_results
  pointwise
  rw [dif_neg (by omega), dif_neg (by omega)]
  rw [show (ix2 e (⟨5632 + n.val - 2048 - 3584, by omega⟩ : Fin 128) : S1024x128.Idx) = ix2 e n from congrArg (ix2 e) (Fin.ext (by simp only []; omega))]
  after_results_steps
  try simp -implicitDefEqProofs only [StableHlo.TRef.toBuf, StableHlo.TRef.ofBuf, cast_cast, cast_eq]
  pointwise
  rw [int_zero]

/-- The gates' bias, then zeros. -/
theorem bg_at (n : Fin 128) : V m c main_v9 (ix2 0 n) =
   (if h : n.val < 8 then m ((c : Thread nD τ).loc main_arg3) (ix1 ⟨n, h⟩) else (show EReal from 0)) := by
  unfold V
  simp only [hostOps0, hostOps0_1, hostOps0_2, hostOps0_3, hostOps0_4, List.flatten_cons, List.flatten_nil, List.append_nil, List.cons_append, List.nil_append]
  after_results
  try simp -implicitDefEqProofs only [StableHlo.TRef.toBuf, StableHlo.TRef.ofBuf, cast_cast, cast_eq]
  pointwise
  rw [int_zero]

/-- The queries' head weights, once per head. -/
theorem gq_at (k : Fin 512) : V m c main_v13 (ix2 0 k) = m ((c : Thread nD τ).loc main_arg4) (ix1 ⟨k % 64, by omega⟩) := by
  unfold V
  simp only [hostOps0, hostOps0_1, hostOps0_2, hostOps0_3, hostOps0_4, List.flatten_cons, List.flatten_nil, List.append_nil, List.cons_append, List.nil_append]
  after_results
  try simp -implicitDefEqProofs only [StableHlo.TRef.toBuf, StableHlo.TRef.ofBuf, cast_cast, cast_eq]
  pointwise

/-- The keys' head weights, once per head. -/
theorem gk_at (k : Fin 512) : V m c main_v17 (ix2 0 k) = m ((c : Thread nD τ).loc main_arg5) (ix1 ⟨k % 64, by omega⟩) := by
  unfold V
  simp only [hostOps0, hostOps0_1, hostOps0_2, hostOps0_3, hostOps0_4, List.flatten_cons, List.flatten_nil, List.append_nil, List.cons_append, List.nil_append]
  after_results
  try simp -implicitDefEqProofs only [StableHlo.TRef.toBuf, StableHlo.TRef.ofBuf, cast_cast, cast_eq]
  pointwise

/-- An entry of the eight by eight identity. -/
theorem eye (i : Fin 64) : lit0 i = bif i.val % 9 == 0 then 0x3F80#16 else 0x0000#16 := by
  revert i
  decide +kernel

/-- The block-diagonal table: one where row and column are of one head, zero elsewhere. -/
theorem bd_at (k l : Fin 512) : (show EReal from V m c main_v1 (ix2 k l)) = if k.val / 64 = l.val / 64 then 1 else 0 := by
  refine Eq.trans (b := (FloatOps.ofBits (F := Ideal) .bf16 (lit0 ⟨8 * (k.val / 64) + l.val / 64, by omega⟩) : EReal)) ?_ ?_
  · unfold V
    simp only [hostOps0, hostOps0_1, hostOps0_2, hostOps0_3, hostOps0_4, List.flatten_cons, List.flatten_nil, List.append_nil, List.cons_append, List.nil_append]
    after_results
    try simp -implicitDefEqProofs only [StableHlo.TRef.toBuf, StableHlo.TRef.ofBuf, cast_cast, cast_eq]
    pointwise
    congr 2
    refine Fin.ext ((rowMajor_val2 _ 8 rfl).trans ?_)
    simp [Nat.mul_comm]
  · rw [eye]
    by_cases h : k.val / 64 = l.val / 64
    · rw [if_pos h, show (8 * (k.val / 64) + l.val / 64) % 9 = 0 by omega]
      exact Ideal.ofBits_one_bf16
    · rw [if_neg h, show ((8 * (k.val / 64) + l.val / 64) % 9 == 0) = false by simp; omega]
      exact Ideal.ofBits_zero_bf16

end Cert.Proof.InHost

end
-- ==== Proof.InKernel.lean ====
module

public import proofs.«01_k».proof.Proof.Gen.KernelInIdeal.Value
public import Idealize.ShloMosaic.Lib.Pipeline.ValueKit

@[expose] public section

set_option maxRecDepth 16384

noncomputable section

namespace Cert.Proof.InKernel

open Cert.KernelInIdeal Cert.KernelInIdeal.Gen
open Idealize.ShloMosaic Idealize.ShloMosaic.TcCoe Idealize.SL.Sem
open Idealize.ShloMosaic.Pipeline (Dat)

/-- The normalised row: the row over its root mean square, times the norm's weights. -/
def norm (x g : Fin 1024 → EReal) (e : Fin 1024) : EReal :=
  x e * Ideal.rsqrt (Ideal.div (∑ i, x i * x i) (Ideal.ofBits .f32 0x44800000#32) + Ideal.ofBits .f32 0x358637BD#32)
    * g e

/-- The logistic curve. -/
def logistic (z : EReal) : EReal := Ideal.div 1 (1 + Ideal.exp (0 - z))

/-- One entry of the kernel's head norm: the squares are summed over the columns of the same head, which the table `b`
    selects, and the sum of what the squares leave after rounding is added. -/
def headK (y b : Fin 512 → EReal) (g : EReal) (l : Fin 512) : EReal :=
  y l * Ideal.rsqrt ((∑ k, y k * y k * b k + ∑ k, (y k * y k - y k * y k) * b k) * Ideal.ofBits .f32 0x3C800000#32
    + Ideal.ofBits .f32 0x358637BD#32) * g

variable (m : (ℓ : Loc nD τ sig) → Buf (Elt Ideal) ℓ)

/-- Which blocks a grid point takes: its 512 rows of the input and of each result, and all of the weights. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![t.val, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] :=
  (by decide +kernel : ∀ t : Fin grid0.N, _)

section
variable (x0 : Vec Ideal S512x1024 .f32) (x1 : Vec Ideal S1x1024 .f32) (x2 : Vec Ideal S1024x5760 .bf16)
  (x3 : Vec Ideal S1x128 .f32) (x4 x5 : Vec Ideal S1x512 .f32) (x6 : Vec Ideal S512x512 .bf16) (r : Fin 512)

/-- Column `n` of the projection of row `r` of a block. -/
def proj (n : ℕ) (h : n < 5760 := by omega) : EReal :=
  ∑ e, norm (fun i => x0 (ix2 r i)) (fun i => x1 (ix2 0 i)) e * (show EReal from x2 (ix2 e ⟨n, h⟩))

/-- Result 1 of a block, at an index. -/
theorem block7 (l : Fin 1024) : out0_7 x0 x1 x2 x3 x4 x5 x6 (ix2 r l) = proj x0 x1 x2 r l := by
  frame_out
  pointwise [k0_pay1, k0_pay2, k0_pay3, k0_pay4, k0_pay5, k0_pay6, k0_pay7, k0_pay8, k0_pay9, k0_pay10, k0_pay11, k0_pay12, k0_pay13, k0_pay14, proj, norm]

/-- Result 2 of a block, at an index. -/
theorem block8 (l : Fin 512) : out0_8 x0 x1 x2 x3 x4 x5 x6 (ix2 r l) = proj x0 x1 x2 r (1024 + l) := by
  frame_out
  pointwise [k0_pay1, k0_pay2, k0_pay3, k0_pay4, k0_pay5, k0_pay6, k0_pay7, k0_pay8, k0_pay9, k0_pay10, k0_pay11, k0_pay12, k0_pay13, k0_pay14, proj, norm]

/-- Result 3 of a block, at an index. -/
theorem block9 (l : Fin 512) : out0_9 x0 x1 x2 x3 x4 x5 x6 (ix2 r l) = logistic (proj x0 x1 x2 r (1536 + l)) := by
  frame_out
  pointwise [k0_pay1, k0_pay2, k0_pay3, k0_pay4, k0_pay5, k0_pay6, k0_pay7, k0_pay8, k0_pay9, k0_pay10, k0_pay11, k0_pay12, k0_pay13, k0_pay14, proj, norm, logistic]

/-- Result 4 of a block, at an index. -/
theorem block10 (l : Fin 512) : out0_10 x0 x1 x2 x3 x4 x5 x6 (ix2 r l)
    = headK (fun k => proj x0 x1 x2 r (2048 + k)) (fun k => x6 (ix2 k l)) (x4 (ix2 0 l)) l
      * Ideal.ofBits .f32 0x3E000000#32 := by
  frame_out
  pointwise [k0_pay1, k0_pay2, k0_pay3, k0_pay4, k0_pay5, k0_pay6, k0_pay7, k0_pay8, k0_pay9, k0_pay10, k0_pay11, k0_pay12, k0_pay13, k0_pay14, proj, norm, headK]

/-- Result 5 of a block, at an index. -/
theorem block11 (l : Fin 512) : out0_11 x0 x1 x2 x3 x4 x5 x6 (ix2 r l)
    = headK (fun k => proj x0 x1 x2 r (2560 + k)) (fun k => x6 (ix2 k l)) (x5 (ix2 0 l)) l := by
  frame_out
  pointwise [k0_pay1, k0_pay2, k0_pay3, k0_pay4, k0_pay5, k0_pay6, k0_pay7, k0_pay8, k0_pay9, k0_pay10, k0_pay11, k0_pay12, k0_pay13, k0_pay14, proj, norm, headK]

/-- Result 6 of a block, at an index. -/
theorem block12 (l : Fin 512) : out0_12 x0 x1 x2 x3 x4 x5 x6 (ix2 r l) = proj x0 x1 x2 r (3072 + l) := by
  frame_out
  pointwise [k0_pay1, k0_pay2, k0_pay3, k0_pay4, k0_pay5, k0_pay6, k0_pay7, k0_pay8, k0_pay9, k0_pay10, k0_pay11, k0_pay12, k0_pay13, k0_pay14, proj, norm]

/-- Result 7 of a block, at an index. -/
theorem block13 (l : Fin 2048) : out0_13 x0 x1 x2 x3 x4 x5 x6 (ix2 r l) = logistic (proj x0 x1 x2 r (3584 + l)) := by
  frame_out
  pointwise [k0_pay1, k0_pay2, k0_pay3, k0_pay4, k0_pay5, k0_pay6, k0_pay7, k0_pay8, k0_pay9, k0_pay10, k0_pay11, k0_pay12, k0_pay13, k0_pay14, proj, norm, logistic]

/-- Result 8 of a block, at an index. -/
theorem block14 (l : Fin 128) : out0_14 x0 x1 x2 x3 x4 x5 x6 (ix2 r l)
    = proj x0 x1 x2 r (5632 + l) + (show EReal from x3 (ix2 0 l)) := by
  frame_out
  pointwise [k0_pay1, k0_pay2, k0_pay3, k0_pay4, k0_pay5, k0_pay6, k0_pay7, k0_pay8, k0_pay9, k0_pay10, k0_pay11, k0_pay12, k0_pay13, k0_pay14, proj, norm]

end

/-- Column `n` of the projection of row `i` of the stream, from the prepared weights. -/
abbrev prow (c : Dev nD) (i : Fin 65536) (n : ℕ) (h : n < 5760 := by omega) : EReal :=
  ∑ e, norm (fun k => m ((c : Thread nD τ).loc main_arg0) (ix2 i k)) (fun k => V m c main_v18 (ix2 0 k)) e
    * (show EReal from V m c main_v7 (ix2 e ⟨n, h⟩))

/-- What output 7 holds: the first columns. -/
def out7 (c : Dev nD) (i : S65536x1024.Idx) : EReal :=
  prow m c (i 0) (i 1) (by have := (i 1).isLt; simp at this; omega)

/-- Result 1 after the last grid point, at every index. -/
theorem final7 (c : Dev nD) (i : S65536x1024.Idx) : (dats m 0 c).arrAt 7 cfg0.N i = out7 m c i := by
  revert i
  refine congrFun ((dats m 0 c).arrAt_eq_of_covers 7 (out7 m c) (by decide +kernel) fun t _ y => ?_)
  blk_simp
  rw [after0_7]
  idx_vars y
  rw [block7]
  simp only [out7, proj, prow]
  blk_point [iblk, V_main_arg0, idx t]

/-- What output 8 holds: the next columns. -/
def out8 (c : Dev nD) (i : S65536x512.Idx) : EReal :=
  prow m c (i 0) (1024 + (i 1).val) (by have := (i 1).isLt; simp at this; omega)

/-- Result 2 after the last grid point, at every index. -/
theorem final8 (c : Dev nD) (i : S65536x512.Idx) : (dats m 0 c).arrAt 8 cfg0.N i = out8 m c i := by
  revert i
  refine congrFun ((dats m 0 c).arrAt_eq_of_covers 8 (out8 m c) (by decide +kernel) fun t _ y => ?_)
  blk_simp
  rw [after0_8]
  idx_vars y
  rw [block8]
  simp only [out8, proj, prow]
  blk_point [iblk, V_main_arg0, idx t]

/-- What output 9 holds: the output gate. -/
def out9 (c : Dev nD) (i : S65536x512.Idx) : EReal :=
  logistic (prow m c (i 0) (1536 + (i 1).val) (by have := (i 1).isLt; simp at this; omega))

/-- Result 3 after the last grid point, at every index. -/
theorem final9 (c : Dev nD) (i : S65536x512.Idx) : (dats m 0 c).arrAt 9 cfg0.N i = out9 m c i := by
  revert i
  refine congrFun ((dats m 0 c).arrAt_eq_of_covers 9 (out9 m c) (by decide +kernel) fun t _ y => ?_)
  blk_simp
  rw [after0_9]
  idx_vars y
  rw [block9]
  simp only [out9, proj, prow]
  blk_point [iblk, V_main_arg0, idx t]

/-- What output 10 holds: the scaled normed queries. -/
def out10 (c : Dev nD) (i : S65536x512.Idx) : EReal :=
  headK (fun k => prow m c (i 0) (2048 + k.val)) (fun k => V m c main_v1 (ix2 k (i 1))) (V m c main_v13 (ix2 0 (i 1))) (i 1)
    * Ideal.ofBits .f32 0x3E000000#32

/-- Result 4 after the last grid point, at every index. -/
theorem final10 (c : Dev nD) (i : S65536x512.Idx) : (dats m 0 c).arrAt 10 cfg0.N i = out10 m c i := by
  revert i
  refine congrFun ((dats m 0 c).arrAt_eq_of_covers 10 (out10 m c) (by decide +kernel) fun t _ y => ?_)
  blk_simp
  rw [after0_10]
  idx_vars y
  rw [block10]
  simp only [out10, proj, prow]
  blk_point [iblk, V_main_arg0, idx t]

/-- What output 11 holds: the normed keys. -/
def out11 (c : Dev nD) (i : S65536x512.Idx) : EReal :=
  headK (fun k => prow m c (i 0) (2560 + k.val)) (fun k => V m c main_v1 (ix2 k (i 1))) (V m c main_v17 (ix2 0 (i 1))) (i 1)

/-- Result 5 after the last grid point, at every index. -/
theorem final11 (c : Dev nD) (i : S65536x512.Idx) : (dats m 0 c).arrAt 11 cfg0.N i = out11 m c i := by
  revert i
  refine congrFun ((dats m 0 c).arrAt_eq_of_covers 11 (out11 m c) (by decide +kernel) fun t _ y => ?_)
  blk_simp
  rw [after0_11]
  idx_vars y
  rw [block11]
  simp only [out11, proj, prow]
  blk_point [iblk, V_main_arg0, idx t]

/-- What output 12 holds: the values. -/
def out12 (c : Dev nD) (i : S65536x512.Idx) : EReal :=
  prow m c (i 0) (3072 + (i 1).val) (by have := (i 1).isLt; simp at this; omega)

/-- Result 6 after the last grid point, at every index. -/
theorem final12 (c : Dev nD) (i : S65536x512.Idx) : (dats m 0 c).arrAt 12 cfg0.N i = out12 m c i := by
  revert i
  refine congrFun ((dats m 0 c).arrAt_eq_of_covers 12 (out12 m c) (by decide +kernel) fun t _ y => ?_)
  blk_simp
  rw [after0_12]
  idx_vars y
  rw [block12]
  simp only [out12, proj, prow]
  blk_point [iblk, V_main_arg0, idx t]

/-- What output 13 holds: the merge's gates. -/
def out13 (c : Dev nD) (i : S65536x2048.Idx) : EReal :=
  logistic (prow m c (i 0) (3584 + (i 1).val) (by have := (i 1).isLt; simp at this; omega))

/-- Result 7 after the last grid point, at every index. -/
theorem final13 (c : Dev nD) (i : S65536x2048.Idx) : (dats m 0 c).arrAt 13 cfg0.N i = out13 m c i := by
  revert i
  refine congrFun ((dats m 0 c).arrAt_eq_of_covers 13 (out13 m c) (by decide +kernel) fun t _ y => ?_)
  blk_simp
  rw [after0_13]
  idx_vars y
  rw [block13]
  simp only [out13, proj, prow]
  blk_point [iblk, V_main_arg0, idx t]

/-- What output 14 holds: the recurrence's gates, padded. -/
def out14 (c : Dev nD) (i : S65536x128.Idx) : EReal :=
  prow m c (i 0) (5632 + (i 1).val) (by have := (i 1).isLt; simp at this; omega) + (show EReal from V m c main_v9 (ix2 0 (i 1)))

/-- Result 8 after the last grid point, at every index. -/
theorem final14 (c : Dev nD) (i : S65536x128.Idx) : (dats m 0 c).arrAt 14 cfg0.N i = out14 m c i := by
  revert i
  refine congrFun ((dats m 0 c).arrAt_eq_of_covers 14 (out14 m c) (by decide +kernel) fun t _ y => ?_)
  blk_simp
  rw [after0_14]
  idx_vars y
  rw [block14]
  simp only [out14, proj, prow]
  blk_point [iblk, V_main_arg0, idx t]

end Cert.Proof.InKernel

end
-- ==== Proof.InReference.lean ====
module

public import proofs.«01_k».proof.Proof.Gen.ReferenceInIdeal.Read
public import proofs.«01_k».proof.Proof.InKernel
public import Idealize.ShloMosaic.Lib.Pointwise

@[expose] public section

set_option maxRecDepth 16384

noncomputable section

namespace Cert.Proof.InReference

open Cert.ReferenceInIdeal Cert.ReferenceInIdeal.Gen Cert.ReferenceInIdeal.Read
open Idealize.ShloMosaic Idealize.ShloMosaic.TcCoe Idealize.SL.Sem

/-- One entry of the reference's head norm: the mean of the squares of the 64 columns of the head. -/
def headR (y : Fin 512 → EReal) (g : Fin 64 → EReal) (l : Fin 512) : EReal :=
  y l * Ideal.rsqrt (Ideal.div (∑ j : Fin 64, y ⟨l / 64 * 64 + j, by omega⟩ * y ⟨l / 64 * 64 + j, by omega⟩)
    (Ideal.ofBits .f32 0x42800000#32) + Ideal.ofBits .f32 0x358637BD#32) * g ⟨l % 64, by omega⟩

section
variable (x0 : FVec Ideal S65536x1024 .f32) (x1 : FVec Ideal S1024 .f32) (x2 : FVec Ideal S1024x5640 .f32)
  (x3 : FVec Ideal S8 .f32) (x4 x5 : FVec Ideal S64 .f32) (r : Fin 65536)

/-- The integer zero as a number. -/
theorem int_zero : (FloatOps.sitofp (F := Ideal) .f32 (0#32) : EReal) = 0 := by
  show (((0#32).toInt : ℝ) : EReal) = 0
  simp

/-- Column `n` of the reference's projection of row `r`. -/
def col (n : ℕ) (h : n < 5640 := by omega) : EReal :=
  ∑ e, InKernel.norm (fun k => x0 (ix2 r k)) (fun k => x1 (ix1 k)) e * x2 (ix2 e ⟨n, h⟩)

/-- The reference's projection at a row and a column. -/
theorem value13 (n : Fin 5640) : val_main_v13 (F := Ideal) x0 x1 x2 (ix2 r n) = col x0 x1 x2 r n := by
  pointwise [val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, col, InKernel.norm]

/-- The reference's first result. -/
theorem value14 (l : Fin 1024) : val_main_v14 (F := Ideal) x0 x1 x2 (ix2 r l) = col x0 x1 x2 r l := by
  pointwise [val_main_v14, value13]

/-- The reference's second result: the recurrence's values. -/
theorem value22 (l : Fin 512) : val_main_v22 (F := Ideal) x0 x1 x2 (ix2 r l) = col x0 x1 x2 r (1024 + l) := by
  pointwise [val_main_v22, val_main_v15, value13]

/-- The third result: the recurrence's output gate. -/
theorem value29 (l : Fin 512) : val_main_v29 (F := Ideal) x0 x1 x2 (ix2 r l) = InKernel.logistic (col x0 x1 x2 r (1536 + l)) := by
  pointwise [val_main_v29, val_main_v28, val_main_v27, val_main_v26, val_main_v25, val_main_v24, val_main_v23, val_main_v16, val_main_cst_2, val_main_cst_3, value13, InKernel.logistic, zero_sub]

/-- The fourth result: the scaled normed queries. -/
theorem value47 (l : Fin 512) : val_main_v47 (F := Ideal) x0 x1 x2 x4 (ix2 r l)
    = headR (fun k => col x0 x1 x2 r (2056 + k)) (fun k => x4 (ix1 k)) l * Ideal.ofBits .f32 0x3E000000#32 := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v18, val_main_cst_4, val_main_cst_5, val_main_cst_6, val_main_cst_7, value13, headR]

/-- The fifth result: the normed keys. -/
theorem value63 (l : Fin 512) : val_main_v63 (F := Ideal) x0 x1 x2 x5 (ix2 r l)
    = headR (fun k => col x0 x1 x2 r (2568 + k)) (fun k => x5 (ix1 k)) l := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v19, val_main_cst_8, val_main_cst_9, val_main_cst_10, value13, headR]

/-- The sixth result: the values. -/
theorem value64 (l : Fin 512) : val_main_v64 (F := Ideal) x0 x1 x2 (ix2 r l) = col x0 x1 x2 r (3080 + l) := by
  pointwise [val_main_v64, val_main_v20, value13]

/-- The seventh result: the merge's gates. -/
theorem value71 (l : Fin 2048) : val_main_v71 (F := Ideal) x0 x1 x2 (ix2 r l) = InKernel.logistic (col x0 x1 x2 r (3592 + l)) := by
  pointwise [val_main_v71, val_main_v70, val_main_v69, val_main_v68, val_main_v67, val_main_v66, val_main_v65, val_main_v21, val_main_cst_11, val_main_cst_12, value13, InKernel.logistic, zero_sub]

/-- The eighth result: the recurrence's gates, zeros after the eight. -/
theorem value75 (l : Fin 128) : val_main_v75 (F := Ideal) x0 x1 x2 x3 (ix2 r l)
    = if h : l.val < 8 then col x0 x1 x2 r (2048 + l) + x3 (ix1 ⟨l, h⟩) else 0 := by
  pointwise [val_main_v75, val_main_v74, val_main_v73, val_main_v72, val_main_v17, val_main_call0_v0, val_main_c, value13]
  rw [int_zero]

end

end Cert.Proof.InReference

end
-- ==== Proof.InMath.lean ====
module

public import proofs.«01_k».proof.Proof.Finite
public import proofs.«01_k».proof.Proof.InKernel
public import proofs.«01_k».proof.Proof.InReference

@[expose] public section

set_option maxRecDepth 16384

noncomputable section

namespace Cert.Proof.InMath

open Cert.Proof.Finite Cert.Proof.InReference
open Idealize.ShloMosaic Idealize.ShloMosaic.TcCoe Idealize.SL.Sem

/-- An entry of the normalised row is a real number when the norm's weight is: an infinite entry makes the mean square
    infinite and its reciprocal root zero. -/
theorem norm_real (x g : Fin 1024 → EReal) (e : Fin 1024) (hg : ∃ r : ℝ, g e = r) : ∃ r : ℝ, InKernel.norm x g e = r := by
  obtain ⟨γ, hγ⟩ := hg
  have hn : (0 : EReal) ≤ Ideal.div (∑ i, x i * x i) (Ideal.ofBits .f32 0x44800000#32) := by
    rw [ofBits_1024]; exact div_nonneg (sum_sq_nonneg x) (by norm_num)
  have top (h : x e * x e = ⊤) : InKernel.norm x g e = 0 := by
    unfold InKernel.norm
    rw [sum_sq_top x e h, ofBits_1024, Ideal.div_coe (by norm_num), EReal.top_mul_coe_of_pos (by norm_num),
      EReal.top_add_of_ne_bot (ne_bot_of_gt eps_pos), show Ideal.rsqrt ⊤ = 0 from rfl, mul_zero, zero_mul]
  obtain ⟨ρ, hρ⟩ := rsqrt_real (lt_of_lt_of_le eps_pos (le_add_of_nonneg_left hn))
  rcases h : x e with _ | _ | r
  · exact ⟨0, top (by rw [h]; rfl)⟩
  · exact ⟨0, top (by rw [h]; rfl)⟩
  · refine ⟨r * ρ * γ, ?_⟩
    unfold InKernel.norm
    rw [hρ, hγ]
    erw [h]
    rw [EReal.coe_mul, EReal.coe_mul]
    rfl

/-- A column of the projection is real when the norm's weights and the column's weights are. -/
theorem col_real (x g w : Fin 1024 → EReal) (hg : ∀ e, ∃ r : ℝ, g e = r) (hw : ∀ e, ∃ r : ℝ, w e = r) :
    ∃ r : ℝ, ∑ e, InKernel.norm x g e * w e = r := by
  choose n hn using fun e => norm_real x g e (hg e)
  choose v hv using hw
  exact ⟨∑ e, n e * v e, by simp only [hn, hv, ← EReal.coe_mul, coe_sum]⟩

/-- A sum over the columns of one head: of all 512 columns those the table selects. -/
theorem sum_head (f : Fin 512 → ℝ) (l : Fin 512) :
    ∑ k : Fin 512, f k * (if k.val / 64 = l.val / 64 then 1 else 0) = ∑ j : Fin 64, f ⟨l / 64 * 64 + j, by omega⟩ := by
  rw [← Equiv.sum_comp (finProdFinEquiv (m := 8) (n := 64)), Fintype.sum_prod_type,
    Finset.sum_eq_single (⟨l / 64, by omega⟩ : Fin 8)]
  · refine Finset.sum_congr rfl fun j _ => ?_
    have e : (finProdFinEquiv (m := 8) (n := 64) (⟨l / 64, by omega⟩, j)) = ⟨l / 64 * 64 + j, by omega⟩ :=
      Fin.ext (by simp [finProdFinEquiv]; omega)
    rw [e, if_pos (by show (l.val / 64 * 64 + j.val) / 64 = _; omega), mul_one]
  · intro a _ ha
    refine Finset.sum_eq_zero fun j _ => ?_
    rw [if_neg, mul_zero]
    intro e
    refine ha (Fin.ext ?_)
    have : (finProdFinEquiv (m := 8) (n := 64) (a, j)).val = j.val + 64 * a.val := rfl
    rw [this] at e
    show a.val = l.val / 64
    omega
  · intro h; exact absurd (Finset.mem_univ _) h

/-- The kernel's head norm, whose table selects the columns of the head, is the reference's. -/
theorem head (y b : Fin 512 → EReal) (g : Fin 64 → EReal) (l : Fin 512) (hy : ∀ k, ∃ r : ℝ, y k = r)
    (hb : ∀ k : Fin 512, b k = if k.val / 64 = l.val / 64 then 1 else 0) :
    InKernel.headK y b (g ⟨l % 64, by omega⟩) l = headR y g l := by
  choose z hz using hy
  have hb' (k : Fin 512) : b k = ((if k.val / 64 = l.val / 64 then 1 else 0 : ℝ) : EReal) := by
    rw [hb]; split_ifs <;> simp
  have hs : ∑ k, y k * y k * b k = ∑ j : Fin 64, y ⟨l / 64 * 64 + j, by omega⟩ * y ⟨l / 64 * 64 + j, by omega⟩ := by
    simp only [hz, hb', ← EReal.coe_mul, coe_sum]
    rw [sum_head (fun k => z k * z k)]
  have h0 : ∑ k, (y k * y k - y k * y k) * b k = 0 := by
    refine Finset.sum_eq_zero fun k _ => ?_
    rw [hz, ← EReal.coe_mul, ← EReal.coe_sub, sub_self, EReal.coe_zero, zero_mul]
  unfold InKernel.headK headR
  rw [hs, h0, add_zero, ofBits_64th, ofBits_64, Ideal.div_coe (by norm_num)]

end Cert.Proof.InMath

end
-- ==== Proof.InRows.lean ====
module

public import proofs.«01_k».proof.Proof.InHost
public import proofs.«01_k».proof.Proof.InKernel
public import proofs.«01_k».proof.Proof.InMath

@[expose] public section

set_option maxRecDepth 16384

noncomputable section

namespace Cert.Proof.InRows

open Cert.KernelInIdeal Cert.KernelInIdeal.Gen
open Cert.Proof.InHost Cert.Proof.InKernel
open Idealize.ShloMosaic Idealize.ShloMosaic.TcCoe Idealize.SL.Sem

variable (m : (ℓ : Loc nD τ sig) → Buf (Elt Ideal) ℓ) (c : Dev nD) (i : Fin 65536)

/-- A column of the reference's projection of the kernel's arguments. -/
abbrev rcol (n : ℕ) (h : n < 5640 := by omega) : EReal :=
  InReference.col (m ((c : Thread nD τ).loc main_arg0)) (m ((c : Thread nD τ).loc main_arg1))
    (m ((c : Thread nD τ).loc main_arg2)) i n h

/-- The kernel's first columns are the reference's. -/
theorem prow_lo (n : ℕ) (h : n < 2048) : prow m c i (n) = rcol m c i (n) :=
  Finset.sum_congr rfl fun e _ => congrArg₂ (· * ·)
    (congrFun (congrArg (InKernel.norm _) (funext fun k => gmix_at m c k)) e) (w_lo m c e ⟨n, h⟩)

/-- The columns from 2048 on are the reference's, eight further on. -/
theorem prow_mid (n : ℕ) (h : n < 3584) : prow m c i (2048 + n) = rcol m c i (2056 + n) :=
  Finset.sum_congr rfl fun e _ => congrArg₂ (· * ·)
    (congrFun (congrArg (InKernel.norm _) (funext fun k => gmix_at m c k)) e) (w_mid m c e ⟨n, h⟩)

/-- The same, by the column's number. -/
theorem prow_shift (p q : ℕ) (h1 : 2048 ≤ p) (h2 : p < 5632) (hq : q = p + 8) :
    prow m c i p = rcol m c i q (by omega) := by
  obtain ⟨n, rfl⟩ := Nat.exists_eq_add_of_le h1
  obtain rfl : q = 2056 + n := by omega
  exact prow_mid m c i n (by omega)

/-- The last columns start with the gates'. -/
theorem prow_gate (n : ℕ) (h : n < 8) : prow m c i (5632 + n) = rcol m c i (2048 + n) :=
  Finset.sum_congr rfl fun e _ => congrArg₂ (· * ·)
    (congrFun (congrArg (InKernel.norm _) (funext fun k => gmix_at m c k)) e) ((w_gate m c e ⟨n, by omega⟩).trans (dif_pos h))

/-- After the gates' columns there are zeros. -/
theorem prow_pad (n : ℕ) (h : ¬ n < 8) (h' : n < 128) : prow m c i (5632 + n) = 0 :=
  Finset.sum_eq_zero fun e _ => (congrArg₂ (· * ·) rfl ((w_gate m c e ⟨n, h'⟩).trans (dif_neg h))).trans (mul_zero _)

/-- The kernel's normed heads are the reference's, where the norm's weights and the projection's are real numbers. -/
theorem heads (hg : ∀ k, ∃ r : ℝ, m ((c : Thread nD τ).loc main_arg1) k = (r : EReal))
    (hw : ∀ k, ∃ r : ℝ, m ((c : Thread nD τ).loc main_arg2) k = (r : EReal))
    (p q : ℕ) (h1 : 2048 ≤ p) (h2 : p + 512 ≤ 5632) (hq : q = p + 8) (G : Fin 512 → EReal) (g : Fin 64 → EReal)
    (hG : ∀ k : Fin 512, G k = g ⟨k % 64, by omega⟩) (l : Fin 512) :
    headK (fun k => prow m c i (p + k.val)) (fun k => V m c main_v1 (ix2 k l)) (G l) l
      = InReference.headR (fun k => rcol m c i (q + k.val)) g l := by
  rw [hG]
  refine (InMath.head _ _ g l (fun k => ?_) (fun k => bd_at m c k l)).trans
    (congrArg (fun y => InReference.headR y g l) (funext fun k => prow_shift m c i (p + k.val) (q + k.val) (by omega) (by omega) (by omega)))
  rw [prow_shift m c i (p + k.val) (q + k.val) (by omega) (by omega) (by omega)]
  exact InMath.col_real _ _ _ (fun e => hg _) (fun e => hw _)

/-- The padded gates. -/
theorem gates (l : Fin 128) : prow m c i (5632 + l.val) + (show EReal from V m c main_v9 (ix2 0 l))
    = if h : l.val < 8 then rcol m c i (2048 + l.val) + m ((c : Thread nD τ).loc main_arg3) (ix1 ⟨l, h⟩) else 0 := by
  by_cases h : l.val < 8
  · rw [dif_pos h, prow_gate m c i l.val h]
    exact congrArg (_ + ·) ((bg_at m c l).trans (dif_pos h))
  · rw [dif_neg h, prow_pad m c i l.val h l.isLt, zero_add]
    exact (bg_at m c l).trans (dif_neg h)

end Cert.Proof.InRows

end
-- ==== Proof.InClaim.lean ====
module

public import proofs.«01_k».proof.Defs
public import proofs.«01_k».proof.Proof.Gen.Pre_finite_in
public import proofs.«01_k».proof.Proof.Gen.KernelIn.Frame
public import proofs.«01_k».proof.Proof.InRows

@[expose] public section

set_option maxRecDepth 16384

noncomputable section

namespace Cert.Proof.InClaim

open Idealize.ShloMosaic Idealize.ShloMosaic.TcCoe Idealize.SL.Sem

/-- The projection call leaves its arguments as they were and its semaphores at zero. -/
theorem frame : Cert.quiescent_KernelIn (hKernelIn := Cert.KernelIn.Gen.facts) :=
  fun m ρ _ => Cert.KernelIn.Gen.frame m ρ

/-- So does the call on the ideal instance. -/
theorem frame_ideal : Cert.quiescent_KernelInIdeal (hKernelInIdeal := Cert.KernelInIdeal.Gen.facts) :=
  fun m ρ _ => Cert.KernelInIdeal.Gen.frame m ρ

/-- So does the reference. -/
theorem frame_reference : Cert.quiescent_ReferenceInIdeal (hReferenceInIdeal := Cert.ReferenceInIdeal.Gen.facts) :=
  fun m ρ _ => (θ_run Cert.ReferenceInIdeal.defs _ _).mono
    (fun r h => ⟨fun c => (h c).2.2.2.2.2.2.2.2, sem_eq_zero_of_no_sems (by decide) r.2⟩)
    (Cert.ReferenceInIdeal.Value.run (F := Ideal) m ρ)

/-- On arguments the precondition passes, so do both sides. -/
theorem frame_ideal_pre : Cert.quiescent_KernelInIdeal_pre_finite_in (hKernelInIdeal := Cert.KernelInIdeal.Gen.facts)
    (hPre_finite_in := Cert.Pre_finite_in.Gen.facts) :=
  fun m ρ _ => Cert.KernelInIdeal.Gen.frame m ρ

/-- So does the reference on such arguments. -/
theorem frame_reference_pre : Cert.quiescent_ReferenceInIdeal_pre_finite_in
    (hReferenceInIdeal := Cert.ReferenceInIdeal.Gen.facts) (hPre_finite_in := Cert.Pre_finite_in.Gen.facts) :=
  fun m ρ _ => frame_reference m ρ (by trivial)

/-- What the precondition says: the norm's weights and the projection's are real numbers. -/
theorem finite (x0 : FVec Ideal Cert.Pre_finite_in.S65536x1024 .f32) (x1 : FVec Ideal Cert.Pre_finite_in.S1024 .f32)
    (x2 : FVec Ideal Cert.Pre_finite_in.S1024x5640 .f32) (x3 : FVec Ideal Cert.Pre_finite_in.S8 .f32)
    (x4 x5 : FVec Ideal Cert.Pre_finite_in.S64 .f32)
    (h : @Cert.Pre_finite_in.fn Cert.Pre_finite_in.Gen.facts Ideal _ x0 x1 x2 x3 x4 x5 = fun _ => 1#1) :
    (∀ k, ∃ r : ℝ, x1 k = (r : EReal)) ∧ ∀ k, ∃ r : ℝ, x2 k = (r : EReal) := by
  have h0 := congrFun h (Shape.Idx.first (by decide))
  obtain ⟨ha, hb⟩ := IntOp.andi_eq_one.1 h0
  exact ⟨fun k => Cert.Proof.Finite.real_of_cmp (Host.reduce_andi_all _ _ _ _ _ ha k),
    fun k => Cert.Proof.Finite.real_of_cmp (Host.reduce_andi_all _ _ _ _ _ hb k)⟩

section
variable (m : (ℓ : Loc Cert.KernelInIdeal.nD Cert.KernelInIdeal.τ Cert.KernelInIdeal.sig) → Buf (Elt Ideal) ℓ)
  (c : Dev Cert.KernelInIdeal.nD)

/-- Result 0 of the reference on the kernel's arguments is the kernel's. -/
theorem result0 :
    Cert.ReferenceInIdeal.Read.val_main_v14 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2))
      = (Cert.KernelInIdeal.Gen.dats m 0 c).arrAt 7 Cert.KernelInIdeal.cfg0.N := by
  funext i
  rw [ValueIdx.eq_ix2 i]
  refine (InReference.value14 _ _ _ _ _).trans (Eq.trans ?_ (InKernel.final7 m c (ix2 (i 0) (i 1))).symm)
  unfold InKernel.out7
  exact (InRows.prow_lo m c (i 0) (i 1).val (by have := (i 1).isLt; simp at this; omega)).symm

/-- Result 1 of the reference on the kernel's arguments is the kernel's. -/
theorem result1 :
    Cert.ReferenceInIdeal.Read.val_main_v22 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2))
      = (Cert.KernelInIdeal.Gen.dats m 0 c).arrAt 8 Cert.KernelInIdeal.cfg0.N := by
  funext i
  rw [ValueIdx.eq_ix2 i]
  refine (InReference.value22 _ _ _ _ _).trans (Eq.trans ?_ (InKernel.final8 m c (ix2 (i 0) (i 1))).symm)
  unfold InKernel.out8
  exact (InRows.prow_lo m c (i 0) (1024 + (i 1).val) (by have := (i 1).isLt; simp at this; omega)).symm

/-- Result 2 of the reference on the kernel's arguments is the kernel's. -/
theorem result2 :
    Cert.ReferenceInIdeal.Read.val_main_v29 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2))
      = (Cert.KernelInIdeal.Gen.dats m 0 c).arrAt 9 Cert.KernelInIdeal.cfg0.N := by
  funext i
  rw [ValueIdx.eq_ix2 i]
  refine (InReference.value29 _ _ _ _ _).trans (Eq.trans ?_ (InKernel.final9 m c (ix2 (i 0) (i 1))).symm)
  unfold InKernel.out9
  exact congrArg InKernel.logistic (InRows.prow_lo m c (i 0) (1536 + (i 1).val) (by have := (i 1).isLt; simp at this; omega)).symm

/-- Result 3 of the reference on the kernel's arguments is the kernel's. -/
theorem result3
    (hg : ∀ k, ∃ r : ℝ, (m ((c : Thread Cert.KernelInIdeal.nD Cert.KernelInIdeal.τ).loc Cert.KernelInIdeal.main_arg1)) k = (r : EReal)) (hw : ∀ k, ∃ r : ℝ, (m ((c : Thread Cert.KernelInIdeal.nD Cert.KernelInIdeal.τ).loc Cert.KernelInIdeal.main_arg2)) k = (r : EReal)) :
    Cert.ReferenceInIdeal.Read.val_main_v47 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2)) (m ((c : Thread Cert.KernelInIdeal.nD Cert.KernelInIdeal.τ).loc Cert.KernelInIdeal.main_arg4))
      = (Cert.KernelInIdeal.Gen.dats m 0 c).arrAt 10 Cert.KernelInIdeal.cfg0.N := by
  funext i
  rw [ValueIdx.eq_ix2 i]
  refine (InReference.value47 _ _ _ _ _ _).trans (Eq.trans ?_ (InKernel.final10 m c (ix2 (i 0) (i 1))).symm)
  unfold InKernel.out10
  exact congrArg (· * _) (InRows.heads m c (i 0) hg hw 2048 2056 (by omega) (by omega) rfl (fun k => Cert.KernelInIdeal.Gen.V m c Cert.KernelInIdeal.main_v13 (ix2 0 k)) _ (InHost.gq_at m c) (i 1)).symm

/-- Result 4 of the reference on the kernel's arguments is the kernel's. -/
theorem result4
    (hg : ∀ k, ∃ r : ℝ, (m ((c : Thread Cert.KernelInIdeal.nD Cert.KernelInIdeal.τ).loc Cert.KernelInIdeal.main_arg1)) k = (r : EReal)) (hw : ∀ k, ∃ r : ℝ, (m ((c : Thread Cert.KernelInIdeal.nD Cert.KernelInIdeal.τ).loc Cert.KernelInIdeal.main_arg2)) k = (r : EReal)) :
    Cert.ReferenceInIdeal.Read.val_main_v63 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2)) (m ((c : Thread Cert.KernelInIdeal.nD Cert.KernelInIdeal.τ).loc Cert.KernelInIdeal.main_arg5))
      = (Cert.KernelInIdeal.Gen.dats m 0 c).arrAt 11 Cert.KernelInIdeal.cfg0.N := by
  funext i
  rw [ValueIdx.eq_ix2 i]
  refine (InReference.value63 _ _ _ _ _ _).trans (Eq.trans ?_ (InKernel.final11 m c (ix2 (i 0) (i 1))).symm)
  unfold InKernel.out11
  exact (InRows.heads m c (i 0) hg hw 2560 2568 (by omega) (by omega) rfl (fun k => Cert.KernelInIdeal.Gen.V m c Cert.KernelInIdeal.main_v17 (ix2 0 k)) _ (InHost.gk_at m c) (i 1)).symm

/-- Result 5 of the reference on the kernel's arguments is the kernel's. -/
theorem result5 :
    Cert.ReferenceInIdeal.Read.val_main_v64 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2))
      = (Cert.KernelInIdeal.Gen.dats m 0 c).arrAt 12 Cert.KernelInIdeal.cfg0.N := by
  funext i
  rw [ValueIdx.eq_ix2 i]
  refine (InReference.value64 _ _ _ _ _).trans (Eq.trans ?_ (InKernel.final12 m c (ix2 (i 0) (i 1))).symm)
  unfold InKernel.out12
  exact (InRows.prow_shift m c (i 0) (3072 + (i 1).val) (3080 + (i 1).val) (by have := (i 1).isLt; simp at this; omega) (by have := (i 1).isLt; simp at this; omega) (by have := (i 1).isLt; simp at this; omega)).symm

/-- Result 6 of the reference on the kernel's arguments is the kernel's. -/
theorem result6 :
    Cert.ReferenceInIdeal.Read.val_main_v71 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2))
      = (Cert.KernelInIdeal.Gen.dats m 0 c).arrAt 13 Cert.KernelInIdeal.cfg0.N := by
  funext i
  rw [ValueIdx.eq_ix2 i]
  refine (InReference.value71 _ _ _ _ _).trans (Eq.trans ?_ (InKernel.final13 m c (ix2 (i 0) (i 1))).symm)
  unfold InKernel.out13
  exact congrArg InKernel.logistic (InRows.prow_shift m c (i 0) (3584 + (i 1).val) (3592 + (i 1).val) (by have := (i 1).isLt; simp at this; omega) (by have := (i 1).isLt; simp at this; omega) (by have := (i 1).isLt; simp at this; omega)).symm

/-- Result 7 of the reference on the kernel's arguments is the kernel's. -/
theorem result7 :
    Cert.ReferenceInIdeal.Read.val_main_v75 (F := Ideal) (m ((c : Thread Cert.KernelInIdeal.nD Cert.KernelInIdeal.τ).loc Cert.KernelInIdeal.main_arg0)) (m ((c : Thread Cert.KernelInIdeal.nD Cert.KernelInIdeal.τ).loc Cert.KernelInIdeal.main_arg1)) (m ((c : Thread Cert.KernelInIdeal.nD Cert.KernelInIdeal.τ).loc Cert.KernelInIdeal.main_arg2)) (m ((c : Thread Cert.KernelInIdeal.nD Cert.KernelInIdeal.τ).loc Cert.KernelInIdeal.main_arg3))
      = (Cert.KernelInIdeal.Gen.dats m 0 c).arrAt 14 Cert.KernelInIdeal.cfg0.N := by
  funext i
  rw [ValueIdx.eq_ix2 i]
  refine (InReference.value75 _ _ _ _ _ _).trans (Eq.trans ?_ (InKernel.final14 m c (ix2 (i 0) (i 1))).symm)
  unfold InKernel.out14
  exact (InRows.gates m c (i 0) (i 1)).symm

end

set_option maxHeartbeats 2000000 in
/-- The projection call computes the reference's norm, projection, head norms and gates: equal results on equal arguments. -/
theorem algebraic : Cert.algebraic_KernelInIdeal_ReferenceInIdeal_pre_finite_in
    (hKernelInIdeal := Cert.KernelInIdeal.Gen.facts) (hReferenceInIdeal := Cert.ReferenceInIdeal.Gen.facts)
    (hPre_finite_in := Cert.Pre_finite_in.Gen.facts) := by
  intro m g m' g' hpre hagree
  refine ⟨fun c => (Cert.KernelInIdeal.Gen.dats m 0 c).arrAt 7 Cert.KernelInIdeal.cfg0.N,
    fun c => (Cert.KernelInIdeal.Gen.dats m 0 c).arrAt 8 Cert.KernelInIdeal.cfg0.N,
    fun c => (Cert.KernelInIdeal.Gen.dats m 0 c).arrAt 9 Cert.KernelInIdeal.cfg0.N,
    fun c => (Cert.KernelInIdeal.Gen.dats m 0 c).arrAt 10 Cert.KernelInIdeal.cfg0.N,
    fun c => (Cert.KernelInIdeal.Gen.dats m 0 c).arrAt 11 Cert.KernelInIdeal.cfg0.N,
    fun c => (Cert.KernelInIdeal.Gen.dats m 0 c).arrAt 12 Cert.KernelInIdeal.cfg0.N,
    fun c => (Cert.KernelInIdeal.Gen.dats m 0 c).arrAt 13 Cert.KernelInIdeal.cfg0.N,
    fun c => (Cert.KernelInIdeal.Gen.dats m 0 c).arrAt 14 Cert.KernelInIdeal.cfg0.N,
    Cert.KernelInIdeal.Value.run_blocks m g, ?_⟩
  refine (θ_run Cert.ReferenceInIdeal.defs _ _).mono (fun r h c => ⟨((h c).1.trans (Cert.ReferenceInIdeal.Read.val_main_v14_eq _ _ _)).trans ?_,
    ((h c).2.1.trans (Cert.ReferenceInIdeal.Read.val_main_v22_eq _ _ _)).trans ?_,
    ((h c).2.2.1.trans (Cert.ReferenceInIdeal.Read.val_main_v29_eq _ _ _)).trans ?_,
    ((h c).2.2.2.1.trans (Cert.ReferenceInIdeal.Read.val_main_v47_eq _ _ _ _)).trans ?_,
    ((h c).2.2.2.2.1.trans (Cert.ReferenceInIdeal.Read.val_main_v63_eq _ _ _ _)).trans ?_,
    ((h c).2.2.2.2.2.1.trans (Cert.ReferenceInIdeal.Read.val_main_v64_eq _ _ _)).trans ?_,
    ((h c).2.2.2.2.2.2.1.trans (Cert.ReferenceInIdeal.Read.val_main_v71_eq _ _ _)).trans ?_,
    ((h c).2.2.2.2.2.2.2.1.trans (Cert.ReferenceInIdeal.Read.val_main_v75_eq _ _ _ _)).trans ?_,
    (h c).2.2.2.2.2.2.2.2⟩)
    (Cert.ReferenceInIdeal.Value.run (F := Ideal) m' g')
  · obtain ⟨h0, h1, h2, h3, h4, h5⟩ := hagree c
    obtain ⟨hg, hw⟩ := finite _ _ _ _ _ _ (hpre c)
    rw [h0, h1, h2]
    exact result0 m c
  · obtain ⟨h0, h1, h2, h3, h4, h5⟩ := hagree c
    obtain ⟨hg, hw⟩ := finite _ _ _ _ _ _ (hpre c)
    rw [h0, h1, h2]
    exact result1 m c
  · obtain ⟨h0, h1, h2, h3, h4, h5⟩ := hagree c
    obtain ⟨hg, hw⟩ := finite _ _ _ _ _ _ (hpre c)
    rw [h0, h1, h2]
    exact result2 m c
  · obtain ⟨h0, h1, h2, h3, h4, h5⟩ := hagree c
    obtain ⟨hg, hw⟩ := finite _ _ _ _ _ _ (hpre c)
    rw [h0, h1, h2, h4]
    exact result3 m c hg hw
  · obtain ⟨h0, h1, h2, h3, h4, h5⟩ := hagree c
    obtain ⟨hg, hw⟩ := finite _ _ _ _ _ _ (hpre c)
    rw [h0, h1, h2, h5]
    exact result4 m c hg hw
  · obtain ⟨h0, h1, h2, h3, h4, h5⟩ := hagree c
    obtain ⟨hg, hw⟩ := finite _ _ _ _ _ _ (hpre c)
    rw [h0, h1, h2]
    exact result5 m c
  · obtain ⟨h0, h1, h2, h3, h4, h5⟩ := hagree c
    obtain ⟨hg, hw⟩ := finite _ _ _ _ _ _ (hpre c)
    rw [h0, h1, h2]
    exact result6 m c
  · obtain ⟨h0, h1, h2, h3, h4, h5⟩ := hagree c
    obtain ⟨hg, hw⟩ := finite _ _ _ _ _ _ (hpre c)
    rw [h0, h1, h2, h3]
    exact result7 m c

end Cert.Proof.InClaim

end
-- ==== Proof.MlFrame.lean ====
module

public import proofs.«01_k».proof.Defs
public import proofs.«01_k».proof.Proof.Gen.KernelMl.Frame
public import proofs.«01_k».proof.Proof.Gen.KernelMlIdeal.Value
public import proofs.«01_k».proof.Proof.Gen.ReferenceMlIdeal.Read

@[expose] public section

set_option maxRecDepth 16384

noncomputable section

namespace Cert.Proof.MlFrame

open Idealize.ShloMosaic Idealize.ShloMosaic.TcCoe Idealize.SL.Sem

/-- The recurrence leaves its arguments as they were and its semaphores at zero. -/
theorem frame : Cert.quiescent_KernelMl (hKernelMl := Cert.KernelMl.Gen.facts) :=
  fun m ρ _ => Cert.KernelMl.Gen.frame m ρ

/-- So does the call on the ideal instance. -/
theorem frame_ideal : Cert.quiescent_KernelMlIdeal (hKernelMlIdeal := Cert.KernelMlIdeal.Gen.facts) :=
  fun m ρ _ => Cert.KernelMlIdeal.Gen.frame m ρ

/-- So does the reference. -/
theorem frame_reference : Cert.quiescent_ReferenceMlIdeal (hReferenceMlIdeal := Cert.ReferenceMlIdeal.Gen.facts) :=
  fun m ρ _ => (θ_run Cert.ReferenceMlIdeal.defs _ _).mono
    (fun r h => ⟨fun c => (h c).2, sem_eq_zero_of_no_sems (by decide) r.2⟩)
    (Cert.ReferenceMlIdeal.Value.run (F := Ideal) m ρ)

end Cert.Proof.MlFrame

end
-- ==== Proof.MlTableA.lean ====
module

public import proofs.«01_k».proof.KernelMlIdeal
public import Mathlib.Tactic.IntervalCases

@[expose] public section

set_option maxRecDepth 16384

noncomputable section

namespace Cert.Proof.MlTable

open Cert.KernelMlIdeal
open Idealize.ShloMosaic Idealize.ShloMosaic.TcCoe Idealize.SL.Sem

/-- An entry: a one up to the row's own column. -/
def entry (j r : ℕ) : BitVec 16 := bif Nat.ble r j then 0x3F80#16 else 0x0000#16

set_option maxHeartbeats 8000000 in
/-- The rows from 0 on. -/
theorem part_0 (i n : ℕ) (hn : n < 128) (h : i / 128 % 128 = n) :
    lit0t1_0 i = entry (64 * 0 + n / 2) (n % 2 * 128 + i % 128) := by
  delta lit0t1_0
  delta lit0t0_0 lit0t0_1 lit0t0_2 lit0t0_3 lit0t0_4 lit0t0_5 lit0t0_6 lit0t0_7 lit0t0_8 lit0t0_9 lit0t0_10 lit0t0_11 lit0t0_12 lit0t0_13 lit0t0_14 lit0t0_15 lit0t0_16 lit0t0_17 lit0t0_18 lit0t0_19 lit0t0_20 lit0t0_21 lit0t0_22 lit0t0_23 lit0t0_24 lit0t0_25 lit0t0_26 lit0t0_27 lit0t0_28 lit0t0_29 lit0t0_30 lit0t0_31 lit0t0_32 lit0t0_33 lit0t0_34 lit0t0_35 lit0t0_36 lit0t0_37 lit0t0_38 lit0t0_39 lit0t0_40 lit0t0_41 lit0t0_42 lit0t0_43 lit0t0_44 lit0t0_45 lit0t0_46 lit0t0_47 lit0t0_48 lit0t0_49 lit0t0_50 lit0t0_51 lit0t0_52 lit0t0_53 lit0t0_54 lit0t0_55 lit0t0_56 lit0t0_57 lit0t0_58 lit0t0_59 lit0t0_60 lit0t0_61 lit0t0_62 lit0t0_63 lit0t0_64 lit0t0_65 lit0t0_66 lit0t0_67 lit0t0_68 lit0t0_69 lit0t0_70 lit0t0_71 lit0t0_72 lit0t0_73 lit0t0_74 lit0t0_75 lit0t0_76 lit0t0_77 lit0t0_78 lit0t0_79 lit0t0_80 lit0t0_81 lit0t0_82 lit0t0_83 lit0t0_84 lit0t0_85 lit0t0_86 lit0t0_87 lit0t0_88 lit0t0_89 lit0t0_90 lit0t0_91 lit0t0_92 lit0t0_93 lit0t0_94 lit0t0_95 lit0t0_96 lit0t0_97 lit0t0_98 lit0t0_99 lit0t0_100 lit0t0_101 lit0t0_102 lit0t0_103 lit0t0_104 lit0t0_105 lit0t0_106 lit0t0_107 lit0t0_108 lit0t0_109 lit0t0_110 lit0t0_111 lit0t0_112 lit0t0_113 lit0t0_114 lit0t0_115 lit0t0_116 lit0t0_117 lit0t0_118 lit0t0_119 lit0t0_120 lit0t0_121 lit0t0_122 lit0t0_123 lit0t0_124 lit0t0_125 lit0t0_126 lit0t0_127
  rw [h]
  clear h
  have h : i % 128 < 128 := Nat.mod_lt _ (by decide)
  revert h
  generalize i % 128 = c
  revert c
  interval_cases n <;> decide +kernel

set_option maxHeartbeats 8000000 in
/-- The rows from 64 on. -/
theorem part_1 (i n : ℕ) (hn : n < 128) (h : i / 128 % 128 = n) :
    lit0t1_1 i = entry (64 * 1 + n / 2) (n % 2 * 128 + i % 128) := by
  delta lit0t1_1
  delta lit0t0_128 lit0t0_129 lit0t0_130 lit0t0_131 lit0t0_132 lit0t0_133 lit0t0_134 lit0t0_135 lit0t0_136 lit0t0_137 lit0t0_138 lit0t0_139 lit0t0_140 lit0t0_141 lit0t0_142 lit0t0_143 lit0t0_144 lit0t0_145 lit0t0_146 lit0t0_147 lit0t0_148 lit0t0_149 lit0t0_150 lit0t0_151 lit0t0_152 lit0t0_153 lit0t0_154 lit0t0_155 lit0t0_156 lit0t0_157 lit0t0_158 lit0t0_159 lit0t0_160 lit0t0_161 lit0t0_162 lit0t0_163 lit0t0_164 lit0t0_165 lit0t0_166 lit0t0_167 lit0t0_168 lit0t0_169 lit0t0_170 lit0t0_171 lit0t0_172 lit0t0_173 lit0t0_174 lit0t0_175 lit0t0_176 lit0t0_177 lit0t0_178 lit0t0_179 lit0t0_180 lit0t0_181 lit0t0_182 lit0t0_183 lit0t0_184 lit0t0_185 lit0t0_186 lit0t0_187 lit0t0_188 lit0t0_189 lit0t0_190 lit0t0_191 lit0t0_192 lit0t0_193 lit0t0_194 lit0t0_195 lit0t0_196 lit0t0_197 lit0t0_198 lit0t0_199 lit0t0_200 lit0t0_201 lit0t0_202 lit0t0_203 lit0t0_204 lit0t0_205 lit0t0_206 lit0t0_207 lit0t0_208 lit0t0_209 lit0t0_210 lit0t0_211 lit0t0_212 lit0t0_213 lit0t0_214 lit0t0_215 lit0t0_216 lit0t0_217 lit0t0_218 lit0t0_219 lit0t0_220 lit0t0_221 lit0t0_222 lit0t0_223 lit0t0_224 lit0t0_225 lit0t0_226 lit0t0_227 lit0t0_228 lit0t0_229 lit0t0_230 lit0t0_231 lit0t0_232 lit0t0_233 lit0t0_234 lit0t0_235 lit0t0_236 lit0t0_237 lit0t0_238 lit0t0_239 lit0t0_240 lit0t0_241 lit0t0_242 lit0t0_243 lit0t0_244 lit0t0_245 lit0t0_246 lit0t0_247 lit0t0_248 lit0t0_249 lit0t0_250 lit0t0_251 lit0t0_252 lit0t0_253 lit0t0_254 lit0t0_255
  rw [h]
  clear h
  have h : i % 128 < 128 := Nat.mod_lt _ (by decide)
  revert h
  generalize i % 128 = c
  revert c
  interval_cases n <;> decide +kernel

end Cert.Proof.MlTable

end
-- ==== Proof.MlTableB.lean ====
module

public import proofs.«01_k».proof.KernelMlIdeal
public import Mathlib.Tactic.IntervalCases

@[expose] public section

set_option maxRecDepth 16384

noncomputable section

namespace Cert.Proof.MlTable

open Cert.KernelMlIdeal
open Idealize.ShloMosaic Idealize.ShloMosaic.TcCoe Idealize.SL.Sem

/-- An lower: a one up to the row's own column. -/
def lower (j r : ℕ) : BitVec 16 := bif Nat.ble r j then 0x3F80#16 else 0x0000#16

set_option maxHeartbeats 8000000 in
/-- The rows from 128 on. -/
theorem part_2 (i n : ℕ) (hn : n < 128) (h : i / 128 % 128 = n) :
    lit0t1_2 i = lower (64 * 2 + n / 2) (n % 2 * 128 + i % 128) := by
  delta lit0t1_2
  delta lit0t0_256 lit0t0_257 lit0t0_258 lit0t0_259 lit0t0_260 lit0t0_261 lit0t0_262 lit0t0_263 lit0t0_264 lit0t0_265 lit0t0_266 lit0t0_267 lit0t0_268 lit0t0_269 lit0t0_270 lit0t0_271 lit0t0_272 lit0t0_273 lit0t0_274 lit0t0_275 lit0t0_276 lit0t0_277 lit0t0_278 lit0t0_279 lit0t0_280 lit0t0_281 lit0t0_282 lit0t0_283 lit0t0_284 lit0t0_285 lit0t0_286 lit0t0_287 lit0t0_288 lit0t0_289 lit0t0_290 lit0t0_291 lit0t0_292 lit0t0_293 lit0t0_294 lit0t0_295 lit0t0_296 lit0t0_297 lit0t0_298 lit0t0_299 lit0t0_300 lit0t0_301 lit0t0_302 lit0t0_303 lit0t0_304 lit0t0_305 lit0t0_306 lit0t0_307 lit0t0_308 lit0t0_309 lit0t0_310 lit0t0_311 lit0t0_312 lit0t0_313 lit0t0_314 lit0t0_315 lit0t0_316 lit0t0_317 lit0t0_318 lit0t0_319 lit0t0_320 lit0t0_321 lit0t0_322 lit0t0_323 lit0t0_324 lit0t0_325 lit0t0_326 lit0t0_327 lit0t0_328 lit0t0_329 lit0t0_330 lit0t0_331 lit0t0_332 lit0t0_333 lit0t0_334 lit0t0_335 lit0t0_336 lit0t0_337 lit0t0_338 lit0t0_339 lit0t0_340 lit0t0_341 lit0t0_342 lit0t0_343 lit0t0_344 lit0t0_345 lit0t0_346 lit0t0_347 lit0t0_348 lit0t0_349 lit0t0_350 lit0t0_351 lit0t0_352 lit0t0_353 lit0t0_354 lit0t0_355 lit0t0_356 lit0t0_357 lit0t0_358 lit0t0_359 lit0t0_360 lit0t0_361 lit0t0_362 lit0t0_363 lit0t0_364 lit0t0_365 lit0t0_366 lit0t0_367 lit0t0_368 lit0t0_369 lit0t0_370 lit0t0_371 lit0t0_372 lit0t0_373 lit0t0_374 lit0t0_375 lit0t0_376 lit0t0_377 lit0t0_378 lit0t0_379 lit0t0_380 lit0t0_381 lit0t0_382 lit0t0_383
  rw [h]
  clear h
  have h : i % 128 < 128 := Nat.mod_lt _ (by decide)
  revert h
  generalize i % 128 = c
  revert c
  interval_cases n <;> decide +kernel

set_option maxHeartbeats 8000000 in
/-- The rows from 192 on. -/
theorem part_3 (i n : ℕ) (hn : n < 128) (h : i / 128 % 128 = n) :
    lit0t1_3 i = lower (64 * 3 + n / 2) (n % 2 * 128 + i % 128) := by
  delta lit0t1_3
  delta lit0t0_384 lit0t0_385 lit0t0_386 lit0t0_387 lit0t0_388 lit0t0_389 lit0t0_390 lit0t0_391 lit0t0_392 lit0t0_393 lit0t0_394 lit0t0_395 lit0t0_396 lit0t0_397 lit0t0_398 lit0t0_399 lit0t0_400 lit0t0_401 lit0t0_402 lit0t0_403 lit0t0_404 lit0t0_405 lit0t0_406 lit0t0_407 lit0t0_408 lit0t0_409 lit0t0_410 lit0t0_411 lit0t0_412 lit0t0_413 lit0t0_414 lit0t0_415 lit0t0_416 lit0t0_417 lit0t0_418 lit0t0_419 lit0t0_420 lit0t0_421 lit0t0_422 lit0t0_423 lit0t0_424 lit0t0_425 lit0t0_426 lit0t0_427 lit0t0_428 lit0t0_429 lit0t0_430 lit0t0_431 lit0t0_432 lit0t0_433 lit0t0_434 lit0t0_435 lit0t0_436 lit0t0_437 lit0t0_438 lit0t0_439 lit0t0_440 lit0t0_441 lit0t0_442 lit0t0_443 lit0t0_444 lit0t0_445 lit0t0_446 lit0t0_447 lit0t0_448 lit0t0_449 lit0t0_450 lit0t0_451 lit0t0_452 lit0t0_453 lit0t0_454 lit0t0_455 lit0t0_456 lit0t0_457 lit0t0_458 lit0t0_459 lit0t0_460 lit0t0_461 lit0t0_462 lit0t0_463 lit0t0_464 lit0t0_465 lit0t0_466 lit0t0_467 lit0t0_468 lit0t0_469 lit0t0_470 lit0t0_471 lit0t0_472 lit0t0_473 lit0t0_474 lit0t0_475 lit0t0_476 lit0t0_477 lit0t0_478 lit0t0_479 lit0t0_480 lit0t0_481 lit0t0_482 lit0t0_483 lit0t0_484 lit0t0_485 lit0t0_486 lit0t0_487 lit0t0_488 lit0t0_489 lit0t0_490 lit0t0_491 lit0t0_492 lit0t0_493 lit0t0_494 lit0t0_495 lit0t0_496 lit0t0_497 lit0t0_498 lit0t0_499 lit0t0_500 lit0t0_501 lit0t0_502 lit0t0_503 lit0t0_504 lit0t0_505 lit0t0_506 lit0t0_507 lit0t0_508 lit0t0_509 lit0t0_510 lit0t0_511
  rw [h]
  clear h
  have h : i % 128 < 128 := Nat.mod_lt _ (by decide)
  revert h
  generalize i % 128 = c
  revert c
  interval_cases n <;> decide +kernel

end Cert.Proof.MlTable

end
-- ==== Proof.MlTable.lean ====
module

public import proofs.«01_k».proof.Proof.MlTableA
public import Mathlib.Tactic.IntervalCases
public import proofs.«01_k».proof.Proof.MlTableB

@[expose] public section

set_option maxRecDepth 16384

noncomputable section

namespace Cert.Proof.MlTable

open Cert.KernelMlIdeal
open Idealize.ShloMosaic Idealize.ShloMosaic.TcCoe Idealize.SL.Sem

/-- The table of the running sums, by row and column. -/
theorem table (i : Fin 65536) : lit0 i = entry (i.val / 256) (i.val % 256) := by
  obtain ⟨i, hi⟩ := i
  show lit0t i = entry (i / 256) (i % 256)
  have hn : i / 128 % 128 < 128 := Nat.mod_lt _ (by decide)
  obtain ⟨a, ha⟩ : ∃ a, i / 16384 = a := ⟨_, rfl⟩
  have e1 : i / 256 = 64 * a + i / 128 % 128 / 2 := by omega
  have e2 : i % 256 = i / 128 % 128 % 2 * 128 + i % 128 := by omega
  have h4 : a < 4 := by omega
  rw [e1, e2]
  delta lit0t
  rw [ha]
  clear ha e1 e2
  interval_cases a
  · exact part_0 i _ hn rfl
  · exact part_1 i _ hn rfl
  · exact part_2 i _ hn rfl
  · exact part_3 i _ hn rfl

end Cert.Proof.MlTable

end
-- ==== Proof.MlHost.lean ====
module

public import proofs.«01_k».proof.Proof.Gen.KernelMlIdeal.Frame
public import proofs.«01_k».proof.Proof.MlTable
public import Idealize.ShloMosaic.Lib.Pipeline.ValueKit

@[expose] public section

set_option maxRecDepth 16384

noncomputable section

namespace Cert.Proof.MlHost

open Idealize.ShloMosaic Idealize.ShloMosaic.TcCoe Idealize.SL.Sem
open Cert.KernelMlIdeal Cert.KernelMlIdeal.Gen
open Idealize.ShloMosaic.Pipeline (Dat)

variable (m : (ℓ : Loc nD τ sig) → Buf (Elt Ideal) ℓ) (c : Dev nD)

/-- The gates along rows are the argument's, turned. -/
theorem grow_at (b : Fin 16) (j : Fin 8) (s : Fin 4096) : V m c main_v2 (ix3 b ⟨j.val, by omega⟩ s) = m ((c : Thread nD τ).loc main_arg3) (ix3 b s j) := by
  unfold V
  simp only [hostOps0, hostOps0_1, hostOps0_2, List.flatten_cons, List.flatten_nil, List.append_nil, List.cons_append, List.nil_append]
  after_results
  try simp -implicitDefEqProofs only [StableHlo.TRef.toBuf, StableHlo.TRef.ofBuf, cast_cast, cast_eq]
  unfold pad
  rw [dif_pos (by
    intro a
    fin_cases a
    · exact ⟨Nat.zero_le _, Nat.mod_one _, by show (b.val - 0) / 1 < 16; omega⟩
    · exact ⟨Nat.zero_le _, Nat.mod_one _, by show (j.val - 0) / 1 < 8; omega⟩
    · exact ⟨Nat.zero_le _, Nat.mod_one _, by show (s.val - 0) / 1 < 4096; omega⟩)]
  unfold transpose
  refine congrArg _ (funext fun a => ?_)
  refine Fin.ext ?_
  fin_cases a
  · show (b.val - 0) / 1 = b.val; omega
  · show (s.val - 0) / 1 = s.val; omega
  · show (j.val - 0) / 1 = j.val; omega

/-- The convolution's constants are the argument's. -/
theorem bias_at (k : Fin 1024) : V m c main_v3 (ix2 0 k) = m ((c : Thread nD τ).loc main_arg5) (ix1 k) := by
  unfold V
  simp only [hostOps0, hostOps0_1, hostOps0_2, List.flatten_cons, List.flatten_nil, List.append_nil, List.cons_append, List.nil_append]
  after_results
  try simp -implicitDefEqProofs only [StableHlo.TRef.toBuf, StableHlo.TRef.ofBuf, cast_cast, cast_eq]
  pointwise

/-- An entry of the table as a number. -/
theorem entry_at (j l : Fin 256) : (FloatOps.ofBits (F := Ideal) .bf16 (lit0 (S256x256.rowMajor (ix2 j l))) : EReal) = if l.val ≤ j.val then 1 else 0 := by
  have h : (S256x256.rowMajor (ix2 j l)).val = j.val * 256 + l.val := Shape.rowMajor_val_two _
  have hl : lit0 (S256x256.rowMajor (ix2 j l)) = MlTable.entry j.val l.val := (MlTable.table _).trans (by
    rw [h, show (j.val * 256 + l.val) / 256 = j.val by omega, show (j.val * 256 + l.val) % 256 = l.val by omega])
  refine (congrArg (FloatOps.ofBits (F := Ideal) .bf16) hl).trans ?_
  unfold MlTable.entry
  by_cases hl : l.val ≤ j.val
  · rw [if_pos hl, show Nat.ble l.val j.val = true by simpa using hl]
    exact Ideal.ofBits_one_bf16
  · rw [if_neg hl, show Nat.ble l.val j.val = false by
      rw [Bool.eq_false_iff]
      simpa using hl]
    exact Ideal.ofBits_zero_bf16

/-- The table of the sums down a column. -/
theorem tril_at (j l : Fin 256) : V m c main_cst (ix2 j l) = (if l.val ≤ j.val then (1 : EReal) else 0) := by
  refine Eq.trans ?_ (entry_at j l)
  unfold V
  simp only [hostOps0, hostOps0_1, hostOps0_2, List.flatten_cons, List.flatten_nil, List.append_nil, List.cons_append, List.nil_append]
  after_results

/-- The table of the sums along a row. -/
theorem triu_at (j l : Fin 256) : V m c main_v0 (ix2 l j) = (if l.val ≤ j.val then (1 : EReal) else 0) := by
  refine Eq.trans ?_ (entry_at j l)
  unfold V
  simp only [hostOps0, hostOps0_1, hostOps0_2, List.flatten_cons, List.flatten_nil, List.append_nil, List.cons_append, List.nil_append]
  after_results
  pointwise

end Cert.Proof.MlHost

end
-- ==== Proof.MlTile.lean ====
module

public import proofs.«01_k».proof.Proof.Gen.KernelMlIdeal.Frame
public import Idealize.ShloMosaic.Lib.Pipeline.ValueKit

@[expose] public section

set_option maxRecDepth 16384

noncomputable section

namespace Cert.Proof.MlTile

open Cert.KernelMlIdeal Cert.KernelMlIdeal.Gen
open Idealize.ShloMosaic Idealize.ShloMosaic.TcCoe Idealize.SL.Sem

/-- The largest entry of a row of a tile. -/
def top (f : Fin 256 → EReal) : EReal := (Finset.univ : Finset (Fin 256)).fold max ⊥ f

/-- The logarithms of the weights of row `r`: nothing past the row's own column. -/
def logd (b br ir : Fin 256 → EReal) (r s : Fin 256) : EReal := if s.val ≤ r.val then b r - br s + ir s else ⊥

/-- The largest logarithm of row `r`, the carried state's among them. -/
def mt (b br ir : Fin 256 → EReal) (mp : EReal) (r : Fin 256) : EReal := max (b r + mp) (top (logd b br ir r))

/-- Column `e` of row `r` of the weighted sums: the carried state's share and the tile's. -/
def mix (b br ir : Fin 256 → EReal) (mp : EReal) (q k : Fin 256 → Fin 128 → EReal) (v : Fin 256 → EReal) (C : Fin 128 → EReal) (r : Fin 256) : EReal :=
  Ideal.exp (b r + mp - mt b br ir mp r) * (∑ l, q r l * C l)
    + ∑ s, (∑ l, q r l * k s l) * Ideal.exp (logd b br ir r s - mt b br ir mp r) * v s

/-- The largest logarithm after the tile. -/
def mnext (b br ir : Fin 256 → EReal) (mp : EReal) : EReal := max (b 255 + mp) (top (fun s => b 255 - br s + ir s))

/-- An entry of the carried state after the tile. -/
def cnext (b br ir ic : Fin 256 → EReal) (mp : EReal) (k v : Fin 256 → EReal) (C : EReal) : EReal :=
  Ideal.exp (b 255 + mp - mnext b br ir mp) * C + ∑ s, k s * Ideal.exp (b 255 - b s + ic s - mnext b br ir mp) * v s

/-- A word at most another selects as the numbers do. -/
theorem select_le (x r : Fin 256) (a b : EReal) :
    Scalar.select (IntOp.cmpi .sle (BitVec.ofNat 32 x.val) (BitVec.ofNat 32 r.val)) a b = if x.val ≤ r.val then a else b := by
  rw [WordCmp.cmpi_sle_ofNat (by omega) (by omega)]
  by_cases h : x.val ≤ r.val <;> simp [h, Scalar.select]

/-- A gated entry of the result: the weighted values over their normaliser. -/
def gate (o n d m : EReal) : EReal := o * Ideal.div n (max (FloatOps.absf (F := Ideal) (φ := .f32) d) (Ideal.exp (0 - m)))

/-- The word of minus infinity. -/
theorem word_bot : Ideal.ofBits .f32 0xFF800000#32 = ⊥ := by
  simp [Ideal.ofBits, Ideal.ieee]

section
variable (v44 v47 : Vec Ideal S256x512 .f32) (v49 v84 : Vec Ideal S256x8 .f32) (v51 v104 : Vec Ideal S16x256 .f32)
  (v109 : Vec Ideal S256x1 .f32) (v110 : Vec Ideal S1x256 .f32)
  (mp : Vec Ideal S1x1 .f32) (vm om : Vec Ideal S1x256x128 .bf16) (cc : Vec Ideal S1x128x256 .f32) (r s : Fin 256) (l : Fin 128) (d : Fin 128)

/-- The first head's logarithms of the weights. -/
theorem logd0 : (k0_pay27 (F := Ideal) v51 k0_pay21 v109 v110 (ix2 r s) : EReal)
    = logd (fun r => v109 (ix2 r 0)) (fun s => v110 (ix2 0 s)) (fun s => v51 (ix2 0 s)) r s := by
  pointwise [k0_pay27, k0_pay25, k0_pay21, select_le, logd, word_bot]

/-- Their largest of a row. -/
theorem mt0 : (k0_pay28 (F := Ideal) v51 k0_pay21 v109 v110 mp (ix2 r 0) : EReal)
    = mt (fun r => v109 (ix2 r 0)) (fun s => v110 (ix2 0 s)) (fun s => v51 (ix2 0 s)) (mp (ix2 0 0)) r := by
  pointwise [k0_pay28, logd0, mt, top, word_bot]

/-- The first head's weighted values. -/
theorem num0 : (k0_pay32 (F := Ideal) v44 v47 v51 k0_pay21 (k0_pay22 (F := Ideal)) v109 v110 mp vm cc (ix2 r ⟨l.val, by omega⟩) : EReal)
    = mix (fun r => v109 (ix2 r 0)) (fun s => v110 (ix2 0 s)) (fun s => v51 (ix2 0 s)) (mp (ix2 0 0)) (fun r l => v44 (ix2 r ⟨l.val, by omega⟩)) (fun s l => v47 (ix2 s ⟨l.val, by omega⟩)) (fun s => vm (ix3 0 s l)) (fun d => cc (ix3 0 d ⟨l.val, by omega⟩)) r := by
  pointwise [k0_pay32, k0_pay31, k0_pay30, k0_pay29, k0_pay22, logd0, mt0, mix, word_bot]

/-- Their normaliser. -/
theorem den0 : (k0_pay32 (F := Ideal) v44 v47 v51 k0_pay21 (k0_pay22 (F := Ideal)) v109 v110 mp vm cc (ix2 r ⟨128 + l.val, by omega⟩) : EReal)
    = mix (fun r => v109 (ix2 r 0)) (fun s => v110 (ix2 0 s)) (fun s => v51 (ix2 0 s)) (mp (ix2 0 0)) (fun r l => v44 (ix2 r ⟨l.val, by omega⟩)) (fun s l => v47 (ix2 s ⟨l.val, by omega⟩)) (fun _ => 1) (fun d => cc (ix3 0 d ⟨128 + l.val, by omega⟩)) r := by
  pointwise [k0_pay32, k0_pay31, k0_pay30, k0_pay29, k0_pay22, logd0, mt0, mix, word_bot]

/-- The first head's part of the block of the result. -/
theorem out0 : (k0_pay36 (k0_pay33 v44 v47 v51 k0_pay21 (k0_pay22 (F := Ideal)) v109 v110 mp vm cc) (k0_pay34 v44 v47 v51 k0_pay21 (k0_pay22 (F := Ideal)) v109 v110 mp vm cc) (k0_pay35 v51 k0_pay21 v109 v110 mp) om (ix3 0 r l) : EReal)
    = gate (om (ix3 0 r l)) (mix (fun r => v109 (ix2 r 0)) (fun s => v110 (ix2 0 s)) (fun s => v51 (ix2 0 s)) (mp (ix2 0 0)) (fun r l => v44 (ix2 r ⟨l.val, by omega⟩)) (fun s l => v47 (ix2 s ⟨l.val, by omega⟩)) (fun s => vm (ix3 0 s l)) (fun d => cc (ix3 0 d ⟨l.val, by omega⟩)) r)
        (mix (fun r => v109 (ix2 r 0)) (fun s => v110 (ix2 0 s)) (fun s => v51 (ix2 0 s)) (mp (ix2 0 0)) (fun r l => v44 (ix2 r ⟨l.val, by omega⟩)) (fun s l => v47 (ix2 s ⟨l.val, by omega⟩)) (fun _ => 1) (fun d => cc (ix3 0 d ⟨128 + l.val, by omega⟩)) r) (mt (fun r => v109 (ix2 r 0)) (fun s => v110 (ix2 0 s)) (fun s => v51 (ix2 0 s)) (mp (ix2 0 0)) r) := by
  pointwise [k0_pay36, k0_pay33, k0_pay34, k0_pay35, num0, den0, mt0, gate, word_bot]

/-- The first head's largest logarithm after the tile. -/
theorem max0 : (k0_pay40 v109 v110 (k0_pay25 v51) mp (ix2 0 l) : EReal) = mnext (fun r => v109 (ix2 r 0)) (fun s => v110 (ix2 0 s)) (fun s => v51 (ix2 0 s)) (mp (ix2 0 0)) := by
  pointwise [k0_pay40, k0_pay38, k0_pay37, k0_pay25, mnext, top, word_bot]

/-- The first head's carried values after the tile. -/
theorem val0 : (k0_pay39 v109 v110 (k0_pay25 v51) (k0_pay26 v49) mp (k0_pay29 v47) (k0_pay30 (k0_pay22 (F := Ideal)) vm) (k0_pay31 cc) (ix3 0 d ⟨l.val, by omega⟩) : EReal)
    = cnext (fun r => v109 (ix2 r 0)) (fun s => v110 (ix2 0 s)) (fun s => v51 (ix2 0 s)) (fun s => v49 (ix2 s 0)) (mp (ix2 0 0)) (fun s => v47 (ix2 s ⟨d.val, by omega⟩)) (fun s => vm (ix3 0 s l)) (cc (ix3 0 d ⟨l.val, by omega⟩)) := by
  pointwise [k0_pay39, k0_pay38, k0_pay37, k0_pay25, k0_pay26, k0_pay29, k0_pay30, k0_pay31, k0_pay22, cnext, mnext, top, word_bot]

/-- The first head's carried normaliser after the tile. -/
theorem norm0 : (k0_pay39 v109 v110 (k0_pay25 v51) (k0_pay26 v49) mp (k0_pay29 v47) (k0_pay30 (k0_pay22 (F := Ideal)) vm) (k0_pay31 cc) (ix3 0 d ⟨128 + l.val, by omega⟩) : EReal)
    = cnext (fun r => v109 (ix2 r 0)) (fun s => v110 (ix2 0 s)) (fun s => v51 (ix2 0 s)) (fun s => v49 (ix2 s 0)) (mp (ix2 0 0)) (fun s => v47 (ix2 s ⟨d.val, by omega⟩)) (fun _ => 1) (cc (ix3 0 d ⟨128 + l.val, by omega⟩)) := by
  pointwise [k0_pay39, k0_pay38, k0_pay37, k0_pay25, k0_pay26, k0_pay29, k0_pay30, k0_pay31, k0_pay22, cnext, mnext, top, word_bot]

/-- The second head's logarithms of the weights. -/
theorem logd1 : (k0_pay45 (F := Ideal) v51 v84 v104 k0_pay21 (ix2 r s) : EReal)
    = logd (fun r => v84 (ix2 r 5)) (fun s => v104 (ix2 5 s)) (fun s => v51 (ix2 1 s)) r s := by
  pointwise [k0_pay45, k0_pay41, k0_pay42, k0_pay43, k0_pay21, select_le, logd, word_bot]

/-- Their largest of a row. -/
theorem mt1 : (k0_pay46 (F := Ideal) v51 v84 v104 k0_pay21 mp (ix2 r 0) : EReal)
    = mt (fun r => v84 (ix2 r 5)) (fun s => v104 (ix2 5 s)) (fun s => v51 (ix2 1 s)) (mp (ix2 0 0)) r := by
  pointwise [k0_pay46, k0_pay41, logd1, mt, top, word_bot]

/-- The second head's weighted values. -/
theorem num1 : (k0_pay50 (F := Ideal) v44 v47 v51 v84 v104 k0_pay21 (k0_pay22 (F := Ideal)) mp vm cc (ix2 r ⟨l.val, by omega⟩) : EReal)
    = mix (fun r => v84 (ix2 r 5)) (fun s => v104 (ix2 5 s)) (fun s => v51 (ix2 1 s)) (mp (ix2 0 0)) (fun r l => v44 (ix2 r ⟨128 + l.val, by omega⟩)) (fun s l => v47 (ix2 s ⟨128 + l.val, by omega⟩)) (fun s => vm (ix3 0 s l)) (fun d => cc (ix3 0 d ⟨l.val, by omega⟩)) r := by
  pointwise [k0_pay50, k0_pay41, k0_pay47, k0_pay48, k0_pay49, k0_pay22, logd1, mt1, mix, word_bot]

/-- Their normaliser. -/
theorem den1 : (k0_pay50 (F := Ideal) v44 v47 v51 v84 v104 k0_pay21 (k0_pay22 (F := Ideal)) mp vm cc (ix2 r ⟨128 + l.val, by omega⟩) : EReal)
    = mix (fun r => v84 (ix2 r 5)) (fun s => v104 (ix2 5 s)) (fun s => v51 (ix2 1 s)) (mp (ix2 0 0)) (fun r l => v44 (ix2 r ⟨128 + l.val, by omega⟩)) (fun s l => v47 (ix2 s ⟨128 + l.val, by omega⟩)) (fun _ => 1) (fun d => cc (ix3 0 d ⟨128 + l.val, by omega⟩)) r := by
  pointwise [k0_pay50, k0_pay41, k0_pay47, k0_pay48, k0_pay49, k0_pay22, logd1, mt1, mix, word_bot]

/-- The second head's part of the block of the result. -/
theorem out1 : (k0_pay54 (k0_pay46 v51 v84 v104 k0_pay21 mp) (k0_pay51 v44 v47 v51 v84 v104 k0_pay21 (k0_pay22 (F := Ideal)) mp vm cc) (k0_pay52 v44 v47 v51 v84 v104 k0_pay21 (k0_pay22 (F := Ideal)) mp vm cc) (k0_pay53 (F := Ideal)) om (ix3 0 r l) : EReal)
    = gate (om (ix3 0 r l)) (mix (fun r => v84 (ix2 r 5)) (fun s => v104 (ix2 5 s)) (fun s => v51 (ix2 1 s)) (mp (ix2 0 0)) (fun r l => v44 (ix2 r ⟨128 + l.val, by omega⟩)) (fun s l => v47 (ix2 s ⟨128 + l.val, by omega⟩)) (fun s => vm (ix3 0 s l)) (fun d => cc (ix3 0 d ⟨l.val, by omega⟩)) r)
        (mix (fun r => v84 (ix2 r 5)) (fun s => v104 (ix2 5 s)) (fun s => v51 (ix2 1 s)) (mp (ix2 0 0)) (fun r l => v44 (ix2 r ⟨128 + l.val, by omega⟩)) (fun s l => v47 (ix2 s ⟨128 + l.val, by omega⟩)) (fun _ => 1) (fun d => cc (ix3 0 d ⟨128 + l.val, by omega⟩)) r) (mt (fun r => v84 (ix2 r 5)) (fun s => v104 (ix2 5 s)) (fun s => v51 (ix2 1 s)) (mp (ix2 0 0)) r) := by
  pointwise [k0_pay54, k0_pay51, k0_pay52, k0_pay53, num1, den1, mt1, gate, word_bot]

/-- The second head's largest logarithm after the tile. -/
theorem max1 : (k0_pay59 (k0_pay58 (k0_pay41 v84) (k0_pay42 v104) (k0_pay43 v51) mp) (ix2 0 l) : EReal) = mnext (fun r => v84 (ix2 r 5)) (fun s => v104 (ix2 5 s)) (fun s => v51 (ix2 1 s)) (mp (ix2 0 0)) := by
  pointwise [k0_pay59, k0_pay58, k0_pay56, k0_pay55, k0_pay41, k0_pay42, k0_pay43, mnext, top, word_bot]

/-- The second head's carried values after the tile. -/
theorem val1 : (k0_pay57 (k0_pay41 v84) (k0_pay42 v104) (k0_pay43 v51) (k0_pay44 v49) mp (k0_pay47 v47) (k0_pay48 (k0_pay22 (F := Ideal)) vm) (k0_pay49 cc) (ix3 0 d ⟨l.val, by omega⟩) : EReal)
    = cnext (fun r => v84 (ix2 r 5)) (fun s => v104 (ix2 5 s)) (fun s => v51 (ix2 1 s)) (fun s => v49 (ix2 s 1)) (mp (ix2 0 0)) (fun s => v47 (ix2 s ⟨128 + d.val, by omega⟩)) (fun s => vm (ix3 0 s l)) (cc (ix3 0 d ⟨l.val, by omega⟩)) := by
  pointwise [k0_pay57, k0_pay56, k0_pay55, k0_pay41, k0_pay42, k0_pay43, k0_pay44, k0_pay47, k0_pay48, k0_pay49, k0_pay22, cnext, mnext, top, word_bot]

/-- The second head's carried normaliser after the tile. -/
theorem norm1 : (k0_pay57 (k0_pay41 v84) (k0_pay42 v104) (k0_pay43 v51) (k0_pay44 v49) mp (k0_pay47 v47) (k0_pay48 (k0_pay22 (F := Ideal)) vm) (k0_pay49 cc) (ix3 0 d ⟨128 + l.val, by omega⟩) : EReal)
    = cnext (fun r => v84 (ix2 r 5)) (fun s => v104 (ix2 5 s)) (fun s => v51 (ix2 1 s)) (fun s => v49 (ix2 s 1)) (mp (ix2 0 0)) (fun s => v47 (ix2 s ⟨128 + d.val, by omega⟩)) (fun _ => 1) (cc (ix3 0 d ⟨128 + l.val, by omega⟩)) := by
  pointwise [k0_pay57, k0_pay56, k0_pay55, k0_pay41, k0_pay42, k0_pay43, k0_pay44, k0_pay47, k0_pay48, k0_pay49, k0_pay22, cnext, mnext, top, word_bot]

/-- The third head's logarithms of the weights. -/
theorem logd2 : (k0_pay64 (F := Ideal) v51 v84 v104 k0_pay21 (ix2 r s) : EReal)
    = logd (fun r => v84 (ix2 r 6)) (fun s => v104 (ix2 6 s)) (fun s => v51 (ix2 2 s)) r s := by
  pointwise [k0_pay64, k0_pay60, k0_pay61, k0_pay62, k0_pay21, select_le, logd, word_bot]

/-- Their largest of a row. -/
theorem mt2 : (k0_pay65 (F := Ideal) v51 v84 v104 k0_pay21 mp (ix2 r 0) : EReal)
    = mt (fun r => v84 (ix2 r 6)) (fun s => v104 (ix2 6 s)) (fun s => v51 (ix2 2 s)) (mp (ix2 0 0)) r := by
  pointwise [k0_pay65, k0_pay60, logd2, mt, top, word_bot]

/-- The third head's weighted values. -/
theorem num2 : (k0_pay69 (F := Ideal) v44 v47 v51 v84 v104 k0_pay21 (k0_pay22 (F := Ideal)) mp vm cc (ix2 r ⟨l.val, by omega⟩) : EReal)
    = mix (fun r => v84 (ix2 r 6)) (fun s => v104 (ix2 6 s)) (fun s => v51 (ix2 2 s)) (mp (ix2 0 0)) (fun r l => v44 (ix2 r ⟨256 + l.val, by omega⟩)) (fun s l => v47 (ix2 s ⟨256 + l.val, by omega⟩)) (fun s => vm (ix3 0 s l)) (fun d => cc (ix3 0 d ⟨l.val, by omega⟩)) r := by
  pointwise [k0_pay69, k0_pay60, k0_pay66, k0_pay67, k0_pay68, k0_pay22, logd2, mt2, mix, word_bot]

/-- Their normaliser. -/
theorem den2 : (k0_pay69 (F := Ideal) v44 v47 v51 v84 v104 k0_pay21 (k0_pay22 (F := Ideal)) mp vm cc (ix2 r ⟨128 + l.val, by omega⟩) : EReal)
    = mix (fun r => v84 (ix2 r 6)) (fun s => v104 (ix2 6 s)) (fun s => v51 (ix2 2 s)) (mp (ix2 0 0)) (fun r l => v44 (ix2 r ⟨256 + l.val, by omega⟩)) (fun s l => v47 (ix2 s ⟨256 + l.val, by omega⟩)) (fun _ => 1) (fun d => cc (ix3 0 d ⟨128 + l.val, by omega⟩)) r := by
  pointwise [k0_pay69, k0_pay60, k0_pay66, k0_pay67, k0_pay68, k0_pay22, logd2, mt2, mix, word_bot]

/-- The third head's part of the block of the result. -/
theorem out2 : (k0_pay72 (k0_pay65 v51 v84 v104 k0_pay21 mp) (k0_pay70 v44 v47 v51 v84 v104 k0_pay21 (k0_pay22 (F := Ideal)) mp vm cc) (k0_pay71 v44 v47 v51 v84 v104 k0_pay21 (k0_pay22 (F := Ideal)) mp vm cc) om (ix3 0 r l) : EReal)
    = gate (om (ix3 0 r l)) (mix (fun r => v84 (ix2 r 6)) (fun s => v104 (ix2 6 s)) (fun s => v51 (ix2 2 s)) (mp (ix2 0 0)) (fun r l => v44 (ix2 r ⟨256 + l.val, by omega⟩)) (fun s l => v47 (ix2 s ⟨256 + l.val, by omega⟩)) (fun s => vm (ix3 0 s l)) (fun d => cc (ix3 0 d ⟨l.val, by omega⟩)) r)
        (mix (fun r => v84 (ix2 r 6)) (fun s => v104 (ix2 6 s)) (fun s => v51 (ix2 2 s)) (mp (ix2 0 0)) (fun r l => v44 (ix2 r ⟨256 + l.val, by omega⟩)) (fun s l => v47 (ix2 s ⟨256 + l.val, by omega⟩)) (fun _ => 1) (fun d => cc (ix3 0 d ⟨128 + l.val, by omega⟩)) r) (mt (fun r => v84 (ix2 r 6)) (fun s => v104 (ix2 6 s)) (fun s => v51 (ix2 2 s)) (mp (ix2 0 0)) r) := by
  pointwise [k0_pay72, k0_pay70, k0_pay71, num2, den2, mt2, gate, word_bot]

/-- The third head's largest logarithm after the tile. -/
theorem max2 : (k0_pay77 (k0_pay76 (k0_pay60 v84) (k0_pay61 v104) (k0_pay62 v51) mp) (ix2 0 l) : EReal) = mnext (fun r => v84 (ix2 r 6)) (fun s => v104 (ix2 6 s)) (fun s => v51 (ix2 2 s)) (mp (ix2 0 0)) := by
  pointwise [k0_pay77, k0_pay76, k0_pay74, k0_pay73, k0_pay60, k0_pay61, k0_pay62, mnext, top, word_bot]

/-- The third head's carried values after the tile. -/
theorem val2 : (k0_pay75 (k0_pay60 v84) (k0_pay61 v104) (k0_pay62 v51) (k0_pay63 v49) mp (k0_pay66 v47) (k0_pay67 (k0_pay22 (F := Ideal)) vm) (k0_pay68 cc) (ix3 0 d ⟨l.val, by omega⟩) : EReal)
    = cnext (fun r => v84 (ix2 r 6)) (fun s => v104 (ix2 6 s)) (fun s => v51 (ix2 2 s)) (fun s => v49 (ix2 s 2)) (mp (ix2 0 0)) (fun s => v47 (ix2 s ⟨256 + d.val, by omega⟩)) (fun s => vm (ix3 0 s l)) (cc (ix3 0 d ⟨l.val, by omega⟩)) := by
  pointwise [k0_pay75, k0_pay74, k0_pay73, k0_pay60, k0_pay61, k0_pay62, k0_pay63, k0_pay66, k0_pay67, k0_pay68, k0_pay22, cnext, mnext, top, word_bot]

/-- The third head's carried normaliser after the tile. -/
theorem norm2 : (k0_pay75 (k0_pay60 v84) (k0_pay61 v104) (k0_pay62 v51) (k0_pay63 v49) mp (k0_pay66 v47) (k0_pay67 (k0_pay22 (F := Ideal)) vm) (k0_pay68 cc) (ix3 0 d ⟨128 + l.val, by omega⟩) : EReal)
    = cnext (fun r => v84 (ix2 r 6)) (fun s => v104 (ix2 6 s)) (fun s => v51 (ix2 2 s)) (fun s => v49 (ix2 s 2)) (mp (ix2 0 0)) (fun s => v47 (ix2 s ⟨256 + d.val, by omega⟩)) (fun _ => 1) (cc (ix3 0 d ⟨128 + l.val, by omega⟩)) := by
  pointwise [k0_pay75, k0_pay74, k0_pay73, k0_pay60, k0_pay61, k0_pay62, k0_pay63, k0_pay66, k0_pay67, k0_pay68, k0_pay22, cnext, mnext, top, word_bot]

/-- The fourth head's logarithms of the weights. -/
theorem logd3 : (k0_pay82 (F := Ideal) v51 v84 v104 k0_pay21 (ix2 r s) : EReal)
    = logd (fun r => v84 (ix2 r 7)) (fun s => v104 (ix2 7 s)) (fun s => v51 (ix2 3 s)) r s := by
  pointwise [k0_pay82, k0_pay78, k0_pay79, k0_pay80, k0_pay21, select_le, logd, word_bot]

/-- Their largest of a row. -/
theorem mt3 : (k0_pay83 (F := Ideal) v51 v84 v104 k0_pay21 mp (ix2 r 0) : EReal)
    = mt (fun r => v84 (ix2 r 7)) (fun s => v104 (ix2 7 s)) (fun s => v51 (ix2 3 s)) (mp (ix2 0 0)) r := by
  pointwise [k0_pay83, k0_pay78, logd3, mt, top, word_bot]

/-- The fourth head's weighted values. -/
theorem num3 : (k0_pay87 (F := Ideal) v44 v47 v51 v84 v104 k0_pay21 (k0_pay22 (F := Ideal)) mp vm cc (ix2 r ⟨l.val, by omega⟩) : EReal)
    = mix (fun r => v84 (ix2 r 7)) (fun s => v104 (ix2 7 s)) (fun s => v51 (ix2 3 s)) (mp (ix2 0 0)) (fun r l => v44 (ix2 r ⟨384 + l.val, by omega⟩)) (fun s l => v47 (ix2 s ⟨384 + l.val, by omega⟩)) (fun s => vm (ix3 0 s l)) (fun d => cc (ix3 0 d ⟨l.val, by omega⟩)) r := by
  pointwise [k0_pay87, k0_pay78, k0_pay84, k0_pay85, k0_pay86, k0_pay22, logd3, mt3, mix, word_bot]

/-- Their normaliser. -/
theorem den3 : (k0_pay87 (F := Ideal) v44 v47 v51 v84 v104 k0_pay21 (k0_pay22 (F := Ideal)) mp vm cc (ix2 r ⟨128 + l.val, by omega⟩) : EReal)
    = mix (fun r => v84 (ix2 r 7)) (fun s => v104 (ix2 7 s)) (fun s => v51 (ix2 3 s)) (mp (ix2 0 0)) (fun r l => v44 (ix2 r ⟨384 + l.val, by omega⟩)) (fun s l => v47 (ix2 s ⟨384 + l.val, by omega⟩)) (fun _ => 1) (fun d => cc (ix3 0 d ⟨128 + l.val, by omega⟩)) r := by
  pointwise [k0_pay87, k0_pay78, k0_pay84, k0_pay85, k0_pay86, k0_pay22, logd3, mt3, mix, word_bot]

/-- The fourth head's part of the block of the result. -/
theorem out3 : (k0_pay89 (k0_pay83 v51 v84 v104 k0_pay21 mp) (k0_pay87 v44 v47 v51 v84 v104 k0_pay21 (k0_pay22 (F := Ideal)) mp vm cc) (k0_pay88 v44 v47 v51 v84 v104 k0_pay21 (k0_pay22 (F := Ideal)) mp vm cc) om (ix3 0 r l) : EReal)
    = gate (om (ix3 0 r l)) (mix (fun r => v84 (ix2 r 7)) (fun s => v104 (ix2 7 s)) (fun s => v51 (ix2 3 s)) (mp (ix2 0 0)) (fun r l => v44 (ix2 r ⟨384 + l.val, by omega⟩)) (fun s l => v47 (ix2 s ⟨384 + l.val, by omega⟩)) (fun s => vm (ix3 0 s l)) (fun d => cc (ix3 0 d ⟨l.val, by omega⟩)) r)
        (mix (fun r => v84 (ix2 r 7)) (fun s => v104 (ix2 7 s)) (fun s => v51 (ix2 3 s)) (mp (ix2 0 0)) (fun r l => v44 (ix2 r ⟨384 + l.val, by omega⟩)) (fun s l => v47 (ix2 s ⟨384 + l.val, by omega⟩)) (fun _ => 1) (fun d => cc (ix3 0 d ⟨128 + l.val, by omega⟩)) r) (mt (fun r => v84 (ix2 r 7)) (fun s => v104 (ix2 7 s)) (fun s => v51 (ix2 3 s)) (mp (ix2 0 0)) r) := by
  pointwise [k0_pay89, k0_pay88, num3, den3, mt3, gate, word_bot]

/-- The fourth head's largest logarithm after the tile. -/
theorem max3 : (k0_pay1 (k0_pay93 (k0_pay78 v84) (k0_pay79 v104) (k0_pay80 v51) mp) (ix2 0 l) : EReal) = mnext (fun r => v84 (ix2 r 7)) (fun s => v104 (ix2 7 s)) (fun s => v51 (ix2 3 s)) (mp (ix2 0 0)) := by
  pointwise [k0_pay1, k0_pay93, k0_pay91, k0_pay90, k0_pay78, k0_pay79, k0_pay80, mnext, top, word_bot]

/-- The fourth head's carried values after the tile. -/
theorem val3 : (k0_pay92 (k0_pay78 v84) (k0_pay79 v104) (k0_pay80 v51) (k0_pay81 v49) mp (k0_pay84 v47) (k0_pay85 (k0_pay22 (F := Ideal)) vm) (k0_pay86 cc) (ix3 0 d ⟨l.val, by omega⟩) : EReal)
    = cnext (fun r => v84 (ix2 r 7)) (fun s => v104 (ix2 7 s)) (fun s => v51 (ix2 3 s)) (fun s => v49 (ix2 s 3)) (mp (ix2 0 0)) (fun s => v47 (ix2 s ⟨384 + d.val, by omega⟩)) (fun s => vm (ix3 0 s l)) (cc (ix3 0 d ⟨l.val, by omega⟩)) := by
  pointwise [k0_pay92, k0_pay91, k0_pay90, k0_pay78, k0_pay79, k0_pay80, k0_pay81, k0_pay84, k0_pay85, k0_pay86, k0_pay22, cnext, mnext, top, word_bot]

/-- The fourth head's carried normaliser after the tile. -/
theorem norm3 : (k0_pay92 (k0_pay78 v84) (k0_pay79 v104) (k0_pay80 v51) (k0_pay81 v49) mp (k0_pay84 v47) (k0_pay85 (k0_pay22 (F := Ideal)) vm) (k0_pay86 cc) (ix3 0 d ⟨128 + l.val, by omega⟩) : EReal)
    = cnext (fun r => v84 (ix2 r 7)) (fun s => v104 (ix2 7 s)) (fun s => v51 (ix2 3 s)) (fun s => v49 (ix2 s 3)) (mp (ix2 0 0)) (fun s => v47 (ix2 s ⟨384 + d.val, by omega⟩)) (fun _ => 1) (cc (ix3 0 d ⟨128 + l.val, by omega⟩)) := by
  pointwise [k0_pay92, k0_pay91, k0_pay90, k0_pay78, k0_pay79, k0_pay80, k0_pay81, k0_pay84, k0_pay85, k0_pay86, k0_pay22, cnext, mnext, top, word_bot]

end

end Cert.Proof.MlTile

end
-- ==== Proof.MlStep.lean ====
module

public import proofs.«01_k».proof.Proof.MlTile

@[expose] public section

set_option maxRecDepth 16384

noncomputable section

namespace Cert.Proof.MlStep

open Cert.KernelMlIdeal Cert.KernelMlIdeal.Gen
open Idealize.ShloMosaic Idealize.ShloMosaic.TcCoe Idealize.SL.Sem
open Cert.Proof.MlTile

/-- Lane `l` of head `h`. -/
def lane (h : Fin 4) (l : Fin 128) : Fin 512 := ⟨128 * h.val + l.val, by omega⟩

/-- The curve `z / (1 + exp (-z))`. -/
def silu (z : EReal) : EReal := z * Ideal.div 1 (1 + Ideal.exp (0 - z))

/-- Row `n` of the buffer of the convolution: eight rows of the chunk before, then the chunk. -/
def line (hal : Fin 8 → Fin 1024 → EReal) (x0 : Vec Ideal S1x256x1024 .f32) (n : Fin 264) (c : Fin 1024) : EReal :=
  if h : n.val < 8 then hal ⟨n.val, h⟩ c else x0 (ix3 0 ⟨n.val - 8, by omega⟩ c)

/-- The convolution at row `r`. -/
def conv (X : Fin 264 → Fin 1024 → EReal) (x5 : Vec Ideal S4x1024 .f32) (x6 : Vec Ideal S1x1024 .f32) (r : Fin 256) (c : Fin 1024) : EReal :=
  x6 (ix2 0 c) + x5 (ix2 0 c) * X ⟨5 + r.val, by omega⟩ c + x5 (ix2 1 c) * X ⟨6 + r.val, by omega⟩ c
    + x5 (ix2 2 c) * X ⟨7 + r.val, by omega⟩ c + x5 (ix2 3 c) * X ⟨8 + r.val, by omega⟩ c

/-- A query. -/
def qe (X : Fin 264 → Fin 1024 → EReal) (x5 : Vec Ideal S4x1024 .f32) (x6 : Vec Ideal S1x1024 .f32) (h : Fin 4) (r : Fin 256) (l : Fin 128) : EReal :=
  silu (conv X x5 x6 r ⟨(lane h l).val, by omega⟩)

/-- A key. -/
def ke (X : Fin 264 → Fin 1024 → EReal) (x5 : Vec Ideal S4x1024 .f32) (x6 : Vec Ideal S1x1024 .f32) (h : Fin 4) (r : Fin 256) (l : Fin 128) : EReal :=
  silu (conv X x5 x6 r ⟨512 + (lane h l).val, by omega⟩) * Ideal.ofBits .f32 0x3DB504F3#32

/-- The running sums of the forget gates, down a column. -/
def bc (x3 : Vec Ideal S1x256x8 .f32) (x7 : Vec Ideal S256x256 .bf16) (h : Fin 4) (r : Fin 256) : EReal :=
  k0_pay19 (k0_pay16 x3) (k0_pay17 x3) (k0_pay18 x3) x7 x7 x7 (ix2 r ⟨4 + h.val, by omega⟩)

/-- The running sums of the forget gates, along a row. -/
def br (x4 : Vec Ideal S1x16x256 .f32) (x8 : Vec Ideal S256x256 .bf16) (h : Fin 4) (s : Fin 256) : EReal :=
  k0_pay20 (k0_pay15 x4) x8 x8 x8 (ix2 ⟨4 + h.val, by omega⟩ s)

/-- The input gates, along a row. -/
def ir (x4 : Vec Ideal S1x16x256 .f32) (h : Fin 4) (s : Fin 256) : EReal := k0_pay13 x4 (ix2 ⟨h.val, by omega⟩ s)

/-- The input gates, down a column. -/
def ic (x3 : Vec Ideal S1x256x8 .f32) (h : Fin 4) (s : Fin 256) : EReal := k0_pay12 x3 (ix2 s ⟨h.val, by omega⟩)

section
variable (hal : Fin 8 → Fin 1024 → EReal) (C : Fin 4 → Fin 128 → Fin 256 → EReal) (M : Fin 4 → EReal)
  (x0 : Vec Ideal S1x256x1024 .f32) (x1 : Vec Ideal S1x256x512 .bf16) (x2 : Vec Ideal S1x256x512 .bf16) (x3 : Vec Ideal S1x256x8 .f32) (x4 : Vec Ideal S1x16x256 .f32) (x5 : Vec Ideal S4x1024 .f32) (x6 : Vec Ideal S1x1024 .f32) (x7 : Vec Ideal S256x256 .bf16) (x8 : Vec Ideal S256x256 .bf16)

/-- A block of the result, over the state `hal`, `C`, `M` before it. -/
def outE (h : Fin 4) (r : Fin 256) (l : Fin 128) : EReal :=
  gate (x2 (ix3 0 r (lane h l)))
    (mix (bc x3 x7 h) (br x4 x8 h) (ir x4 h) (M h) (qe (line hal x0) x5 x6 h) (ke (line hal x0) x5 x6 h) (fun s => x1 (ix3 0 s (lane h l))) (fun d => C h d ⟨l.val, by omega⟩) r)
    (mix (bc x3 x7 h) (br x4 x8 h) (ir x4 h) (M h) (qe (line hal x0) x5 x6 h) (ke (line hal x0) x5 x6 h) (fun _ => 1) (fun d => C h d ⟨128 + l.val, by omega⟩) r)
    (mt (bc x3 x7 h) (br x4 x8 h) (ir x4 h) (M h) r)

/-- The largest logarithm after the block. -/
def maxE (h : Fin 4) : EReal := mnext (bc x3 x7 h) (br x4 x8 h) (ir x4 h) (M h)

/-- The values carried out of the block. -/
def valE (h : Fin 4) (d l : Fin 128) : EReal :=
  cnext (bc x3 x7 h) (br x4 x8 h) (ir x4 h) (ic x3 h) (M h) (fun s => ke (line hal x0) x5 x6 h s d) (fun s => x1 (ix3 0 s (lane h l))) (C h d ⟨l.val, by omega⟩)

/-- The normaliser carried out of the block. -/
def normE (h : Fin 4) (d l : Fin 128) : EReal :=
  cnext (bc x3 x7 h) (br x4 x8 h) (ir x4 h) (ic x3 h) (M h) (fun s => ke (line hal x0) x5 x6 h s d) (fun _ => 1) (C h d ⟨128 + l.val, by omega⟩)

end

section
variable (v8 v12 v17 v22 v27 : Vec Ideal S1x1024 .f32) (v13 v18 v23 v28 : Vec Ideal S256x1024 .f32) (r : Fin 256) (l : Fin 512)

/-- The queries' half of the convolution. -/
theorem qlane : (k0_pay10 (k0_pay6 v8 v12 v13 v17 v18 v22 v23) (k0_pay7 v27 v28) (ix2 r l) : EReal)
    = silu (v8 (ix2 0 ⟨l.val, by omega⟩) + v12 (ix2 0 ⟨l.val, by omega⟩) * v13 (ix2 r ⟨l.val, by omega⟩) + v17 (ix2 0 ⟨l.val, by omega⟩) * v18 (ix2 r ⟨l.val, by omega⟩)
      + v22 (ix2 0 ⟨l.val, by omega⟩) * v23 (ix2 r ⟨l.val, by omega⟩) + v27 (ix2 0 ⟨l.val, by omega⟩) * v28 (ix2 r ⟨l.val, by omega⟩)) := by
  pointwise [k0_pay10, k0_pay9, k0_pay6, k0_pay7, silu]

/-- The keys' half of the convolution. -/
theorem klane : (k0_pay11 (k0_pay6 v8 v12 v13 v17 v18 v22 v23) (k0_pay7 v27 v28) (ix2 r l) : EReal)
    = silu (v8 (ix2 0 ⟨512 + l.val, by omega⟩) + v12 (ix2 0 ⟨512 + l.val, by omega⟩) * v13 (ix2 r ⟨512 + l.val, by omega⟩) + v17 (ix2 0 ⟨512 + l.val, by omega⟩) * v18 (ix2 r ⟨512 + l.val, by omega⟩)
      + v22 (ix2 0 ⟨512 + l.val, by omega⟩) * v23 (ix2 r ⟨512 + l.val, by omega⟩) + v27 (ix2 0 ⟨512 + l.val, by omega⟩) * v28 (ix2 r ⟨512 + l.val, by omega⟩)) * Ideal.ofBits .f32 0x3DB504F3#32 := by
  pointwise [k0_pay11, k0_pay9, k0_pay6, k0_pay7, silu]

end

/-- The first head's running sums of the forget gates are a column of all of them. -/
theorem bc0 (x3 : Vec Ideal S1x256x8 .f32) (x7 : Vec Ideal S256x256 .bf16) (r : Fin 256) :
    (k0_pay23 (k0_pay16 x3) (k0_pay17 x3) (k0_pay18 x3) x7 x7 x7 (ix2 r 0) : EReal) = k0_pay19 (k0_pay16 x3) (k0_pay17 x3) (k0_pay18 x3) x7 x7 x7 (ix2 r 4) := by
  pointwise [k0_pay23]

/-- And a row of them. -/
theorem br0 (x4 : Vec Ideal S1x16x256 .f32) (x8 : Vec Ideal S256x256 .bf16) (s : Fin 256) :
    (k0_pay24 (k0_pay15 x4) x8 x8 x8 (ix2 0 s) : EReal) = k0_pay20 (k0_pay15 x4) x8 x8 x8 (ix2 4 s) := by
  pointwise [k0_pay24]

section Loads
variable {sig : RefSig} {κ : Kind} {sp : Space} {s : Shape} {e : EltTy} {Val : EltTy → Type}
open View

/-- A read at another store's place passes a store apart from it. -/
theorem canon_skip [∀ e, Nonempty (Val e)] (r : Rect s) (w : r.shape.Idx → Val e) (L : List (Piece Val s e)) (r' : Rect s) (x : r'.shape.Idx)
    (h : LoadRect.disj r r'.toLoadRect = true) : canon (⟨r, w⟩ :: L) (r'.emb x) = canon L (r'.emb x) :=
  canon_cons_of_not_mem _ _ (LoadRect.idx_not_mem_of_disj h x)

/-- The same over what a buffer held before. -/
theorem read_skip (v : View sig κ sp s e) (f : v.ty.Contents Val) (r : Rect s) (w : r.shape.Idx → Val e) (L : List (Piece Val s e)) (r' : Rect s) (x : r'.shape.Idx)
    (h : LoadRect.disj r r'.toLoadRect = true) : v.read Val (v.writes Val f (⟨r, w⟩ :: L)) (r'.emb x) = v.read Val (v.writes Val f L) (r'.emb x) := by
  rw [writes_cons, read_slice_write_of_not_mem]
  rw [Rect.map_emb_univ]
  exact LoadRect.idx_not_mem_of_disj h x

end Loads

section
variable (arg12 : Memref sig .tc .vmem S264x1024 .f32) (harg12 : arg12.IsWhole) (x0 : Vec Ideal S1x256x1024 .f32) (xs0 : Vec Ideal S264x1024 .f32)

/-- The chunk's rows in the buffer of the convolution. -/
theorem rows_high (n : Fin 264) (hn : ¬ n.val < 8) (c : Fin 1024) :
    (ix2 n c : S264x1024.Idx) = (Rect.unit (s := S264x1024) ![8, 0] ![256, 1024] inb_S264x1024_S256x1024_8_0).emb (ix2 ⟨n.val - 8, by omega⟩ c) := by
  funext a
  refine Fin.ext ?_
  match a with
  | ⟨0, _⟩ => show n.val = 8 + 1 * (n.val - 8); omega
  | ⟨1, _⟩ => show c.val = 0 + 1 * c.val; omega

/-- The rows of the chunk before. -/
theorem rows_low (n : Fin 264) (hn : n.val < 8) (c : Fin 1024) :
    (ix2 n c : S264x1024.Idx) = (Rect.unit (s := S264x1024) ![0, 0] ![8, 1024] inb_S264x1024_S8x1024_0_0).emb (ix2 ⟨n.val, hn⟩ c) := by
  funext a
  refine Fin.ext ?_
  match a with
  | ⟨0, _⟩ => show n.val = 0 + 1 * n.val; omega
  | ⟨1, _⟩ => show c.val = 0 + 1 * c.val; omega

/-- What is stored of a chunk into the convolution's buffer: the chunk. -/
theorem pay5 (r : Fin 256) (c : Fin 1024) : (k0_pay5 x0 (ix2 r c) : EReal) = x0 (ix3 0 r c) := by
  pointwise [k0_pay5]

/-- What is stored before a sequence's first chunk: zeros. -/
theorem pay2 (r : Fin 8) (c : Fin 1024) : (k0_pay2 (F := Ideal) (ix2 r c) : EReal) = 0 := by
  pointwise [k0_pay2]

/-- The buffer of the convolution after the chunk came in. -/
theorem line_B (n : Fin 264) (c : Fin 1024) :
    (View.read (Elt Ideal) arg12.view (arg12.view.writes (Elt Ideal) (harg12.unread xs0) [⟨Rect.unit ![8, 0] ![256, 1024] inb_S264x1024_S256x1024_8_0, k0_pay5 x0⟩]) (ix2 n c) : EReal)
      = line (fun n c => xs0 (ix2 ⟨n.val, by omega⟩ c)) x0 n c := by
  unfold line
  split_ifs with h
  · rw [rows_low n h c, read_skip _ _ _ _ _ _ _ (by decide), View.writes_nil, harg12.read_unread, ← rows_low n h c]
  · rw [rows_high n h c, View.read_writes_cons_emb, pay5]

/-- The same at a sequence's first chunk. -/
theorem line_A (n : Fin 264) (c : Fin 1024) :
    (View.canon (Val := Elt Ideal) (s := S264x1024) (e := .f32) [⟨Rect.unit ![8, 0] ![256, 1024] inb_S264x1024_S256x1024_8_0, k0_pay5 x0⟩, ⟨Rect.unit ![0, 0] ![8, 1024] inb_S264x1024_S8x1024_0_0, k0_pay2 (F := Ideal)⟩] (ix2 n c) : EReal)
      = line (fun _ _ => 0) x0 n c := by
  unfold line
  split_ifs with h
  · rw [rows_low n h c, canon_skip _ _ _ _ _ (by decide), View.canon_cons_emb, pay2]
  · rw [rows_high n h c, View.canon_cons_emb, pay5]

/-- Which row of the buffer a row of a load is. -/
theorem row_eq {k : ℕ} (hk : k + 256 ≤ 264) (inb) (r : Fin 256) (c : Fin 1024) :
    (Rect.unit (s := S264x1024) ![k, 0] ![256, 1024] inb).emb (ix2 r c) = ix2 ⟨k + r.val, by omega⟩ c := by
  funext a
  refine Fin.ext ?_
  match a with
  | ⟨0, _⟩ => show k + 1 * r.val = k + r.val; omega
  | ⟨1, _⟩ => show 0 + 1 * c.val = c.val; omega

/-- A load of 256 rows of the buffer from the k-th on reads those rows. -/
theorem ld_row (X : Vec Ideal S264x1024 .f32) {k : ℕ} (hk : k + 256 ≤ 264) (inb) (r : Fin 256) (c : Fin 1024) :
    (View.ld X (Rect.unit (s := S264x1024) ![k, 0] ![256, 1024] inb) (show S256x1024.Idx from ix2 r c) : EReal) = X (ix2 ⟨k + r.val, by omega⟩ c) :=
  congrArg X (row_eq hk inb r c)

/-- The rows the convolution reads for one of its taps, after an earlier chunk. -/
theorem tap_B {k : ℕ} (hk : k + 256 ≤ 264) (inb) (r : Fin 256) (c : Fin 1024) :
    (View.ld (View.read (Elt Ideal) arg12.view (arg12.view.writes (Elt Ideal) (harg12.unread xs0) [⟨Rect.unit ![8, 0] ![256, 1024] inb_S264x1024_S256x1024_8_0, k0_pay5 x0⟩]))
      (Rect.unit (s := S264x1024) ![k, 0] ![256, 1024] inb) (show S256x1024.Idx from ix2 r c) : EReal) = line (fun n c => xs0 (ix2 ⟨n.val, by omega⟩ c)) x0 ⟨k + r.val, by omega⟩ c := by
  exact (ld_row _ hk inb r c).trans (line_B arg12 harg12 x0 xs0 _ c)

/-- The rows it reads at a sequence's first chunk. -/
theorem tap_A {k : ℕ} (hk : k + 256 ≤ 264) (inb) (r : Fin 256) (c : Fin 1024) :
    (arg12.view.readCov (Val := Elt Ideal) [⟨Rect.unit ![8, 0] ![256, 1024] inb_S264x1024_S256x1024_8_0, k0_pay5 x0⟩, ⟨Rect.unit ![0, 0] ![8, 1024] inb_S264x1024_S8x1024_0_0, k0_pay2 (F := Ideal)⟩]
      (Rect.unit (s := S264x1024) ![k, 0] ![256, 1024] inb).toLoadRect (show S256x1024.Idx from ix2 r c) : EReal) = line (fun _ _ => 0) x0 ⟨k + r.val, by omega⟩ c := by
  rw [View.readCov_eq_canon']
  exact (ld_row _ hk inb r c).trans (line_A x0 _ c)

/-- The rows of the chunk itself, whatever the rows before it hold. -/
theorem tap_own (hal : Fin 8 → Fin 1024 → EReal) (r : Fin 256) (c : Fin 1024) :
    (arg12.view.readCov (Val := Elt Ideal) [⟨Rect.unit ![8, 0] ![256, 1024] inb_S264x1024_S256x1024_8_0, k0_pay5 x0⟩]
      (Rect.unit (s := S264x1024) ![8, 0] ![256, 1024] inb_S264x1024_S256x1024_8_0).toLoadRect (show S256x1024.Idx from ix2 r c) : EReal) = line hal x0 ⟨8 + r.val, by omega⟩ c := by
  rw [View.readCov_cons_toLoadRect, pay5, line, dif_neg (by simp)]
  congr 2
  exact Fin.ext (by simp)

end

end Cert.Proof.MlStep

end
-- ==== Proof.MlMath.lean ====
module

public import proofs.«01_k».proof.Proof.MlTile
public import proofs.«01_k».proof.Proof.SbMath
public import proofs.«01_k».proof.Proof.Finite

@[expose] public section

set_option maxRecDepth 16384

noncomputable section

namespace Cert.Proof.MlMath

open Idealize.ShloMosaic Idealize.ShloMosaic.TcCoe Idealize.SL.Sem
open Cert.Proof.MlTile

/-- The running sums of the forget gates. -/
def P (f : ℕ → ℝ) (n : ℕ) : ℝ := ∑ s ∈ Finset.range n, f s

/-- An input gate over the running sum after it. -/
def g (f i : ℕ → ℝ) (s : ℕ) : ℝ := i s - P f (s + 1)

/-- The largest of the first `n` of those, and zero. -/
def G (f i : ℕ → ℝ) : ℕ → ℝ
  | 0 => 0
  | n + 1 => max (G f i n) (g f i n)

/-- The running sum after one more gate. -/
theorem P_succ (f : ℕ → ℝ) (n : ℕ) : P f (n + 1) = P f n + f n := Finset.sum_range_succ f n

/-- A running maximum is below a bound when its start and every later entry is. -/
theorem run_le (H h : ℕ → ℝ) (hH : ∀ n, H (n + 1) = max (H n) (h n)) (p n : ℕ) (c : EReal) :
    ((H (p + n) : ℝ) : EReal) ≤ c ↔ ((H p : ℝ) : EReal) ≤ c ∧ ∀ s, s < n → ((h (p + s) : ℝ) : EReal) ≤ c := by
  induction n with
  | zero => simp
  | succ n ih =>
    rw [show p + (n + 1) = p + n + 1 by ring, hH, EReal.coe_strictMono.monotone.map_max, max_le_iff, ih]
    constructor
    · rintro ⟨⟨h1, h2⟩, h3⟩
      refine ⟨h1, fun s hs => ?_⟩
      rcases Nat.lt_succ_iff_lt_or_eq.mp hs with h | h
      · exact h2 s h
      · rw [h]; exact h3
    · rintro ⟨h1, h2⟩
      exact ⟨⟨h1, fun s hs => h2 s (by omega)⟩, h2 n (by omega)⟩

/-- A running maximum goes on by the largest of the next `n` entries. -/
theorem run_max (H h : ℕ → ℝ) (hH : ∀ n, H (n + 1) = max (H n) (h n)) (p n N : ℕ) (hn : n ≤ N) :
    max ((H p : ℝ) : EReal) ((Finset.univ : Finset (Fin N)).fold max ⊥ (fun s => if s.val < n then ((h (p + s.val) : ℝ) : EReal) else ⊥))
      = ((H (p + n) : ℝ) : EReal) := by
  refine eq_of_forall_ge_iff fun c => ?_
  rw [run_le H h hH, max_le_iff, Finset.fold_max_le]
  refine and_congr_right fun _ => ⟨fun k s hs => ?_, fun k => ⟨bot_le, fun s _ => ?_⟩⟩
  · have := k.2 ⟨s, by omega⟩ (Finset.mem_univ _)
    rwa [if_pos hs] at this
  · by_cases hs : s.val < n
    · rw [if_pos hs]; exact k _ hs
    · rw [if_neg hs]; exact bot_le

/-- The same over a constant added to every entry. -/
theorem run_G (f i : ℕ → ℝ) (a : ℝ) (p n N : ℕ) (hn : n ≤ N) :
    max ((a + G f i p : ℝ) : EReal) ((Finset.univ : Finset (Fin N)).fold max ⊥ (fun s => if s.val < n then ((a + g f i (p + s.val) : ℝ) : EReal) else ⊥))
      = ((a + G f i (p + n) : ℝ) : EReal) :=
  run_max (fun n => a + G f i n) (fun n => a + g f i n) (fun n => (max_add_add_left _ _ _).symm) p n N hn

/-- An entry of the weighted sums of row `t`. -/
def mixR (f i : ℕ → ℝ) (q k : ℕ → Fin 128 → ℝ) (v : ℕ → ℝ) (t : ℕ) : ℝ :=
  ∑ s ∈ Finset.range (t + 1), (∑ l, q t l * k s l) * Real.exp (g f i s - G f i (t + 1)) * v s

/-- An entry of the state carried before row `p`. -/
def stR (f i : ℕ → ℝ) (k v : ℕ → ℝ) (p : ℕ) : ℝ :=
  ∑ s ∈ Finset.range p, k s * Real.exp (g f i s - G f i p) * v s

/-- An entry of the result. -/
def spec (f i : ℕ → ℝ) (q k : ℕ → Fin 128 → ℝ) (v : ℕ → ℝ) (o : EReal) (t : ℕ) : EReal :=
  gate o ((mixR f i q k v t : ℝ) : EReal) ((mixR f i q k (fun _ => 1) t : ℝ) : EReal) ((P f (t + 1) + G f i (t + 1) : ℝ) : EReal)

section
variable (f i : ℕ → ℝ) (p : ℕ) (b br ir ic : Fin 256 → EReal) (mp : EReal)
  (hb : ∀ r, b r = ((P f (p + r.val + 1) - P f p : ℝ) : EReal)) (hbr : ∀ r, br r = ((P f (p + r.val + 1) - P f p : ℝ) : EReal))
  (hir : ∀ r, ir r = ((i (p + r.val) : ℝ) : EReal)) (hic : ∀ r, ic r = ((i (p + r.val) : ℝ) : EReal)) (hmp : mp = ((P f p + G f i p : ℝ) : EReal))

include hb hbr hir in
/-- A logarithm of a weight. -/
theorem logd_eq (r s : Fin 256) : logd b br ir r s = if s.val < r.val + 1 then ((P f (p + r.val + 1) + g f i (p + s.val) : ℝ) : EReal) else ⊥ := by
  unfold logd g
  by_cases h : s.val ≤ r.val
  · rw [if_pos h, if_pos (by omega), hb, hbr, hir, ← EReal.coe_sub, ← EReal.coe_add]
    congr 1
    ring
  · rw [if_neg h, if_neg (by omega)]

include hb hmp in
/-- The carried state's logarithm. -/
theorem start_eq (r : Fin 256) : b r + mp = ((P f (p + r.val + 1) + G f i p : ℝ) : EReal) := by
  rw [hb, hmp, ← EReal.coe_add]
  congr 1
  ring

include hb hbr hir hmp in
/-- The largest logarithm of a row. -/
theorem mt_eq (r : Fin 256) : mt b br ir mp r = ((P f (p + r.val + 1) + G f i (p + r.val + 1) : ℝ) : EReal) := by
  unfold MlTile.mt top
  rw [start_eq f i p b mp hb hmp, show logd b br ir r = _ from funext fun s => logd_eq f i p b br ir hb hbr hir r s]
  exact run_G f i _ p (r.val + 1) 256 (by omega)

include hb hbr hir hmp in
/-- The largest logarithm after the chunk. -/
theorem mnext_eq : mnext b br ir mp = ((P f (p + 256) + G f i (p + 256) : ℝ) : EReal) := by
  unfold mnext top
  rw [start_eq f i p b mp hb hmp]
  refine Eq.trans ?_ (run_G f i (P f (p + 256)) p 256 256 le_rfl)
  refine congrArg (max _) (congrArg (Finset.fold max ⊥ · _) (funext fun s => ?_))
  rw [if_pos s.isLt, hb, hbr, hir, ← EReal.coe_sub, ← EReal.coe_add]
  congr 1
  unfold g
  show P f (p + 256) - P f p - (P f (p + s.val + 1) - P f p) + i (p + s.val) = _
  ring

include hb hbr hir hmp in
/-- A row of the weighted sums. -/
theorem mix_eq (q k : ℕ → Fin 128 → ℝ) (v : ℕ → ℝ) (qe ke : Fin 256 → Fin 128 → EReal) (ve : Fin 256 → EReal) (C : Fin 128 → EReal)
    (hq : ∀ r l, qe r l = ((q (p + r.val) l : ℝ) : EReal)) (hk : ∀ r l, ke r l = ((k (p + r.val) l : ℝ) : EReal))
    (hv : ∀ r, ve r = ((v (p + r.val) : ℝ) : EReal)) (hC : ∀ l, C l = ((stR f i (fun s => k s l) v p : ℝ) : EReal)) (r : Fin 256) :
    mix b br ir mp qe ke ve C r = ((mixR f i q k v (p + r.val) : ℝ) : EReal) := by
  unfold mix
  rw [mt_eq f i p b br ir mp hb hbr hir hmp, start_eq f i p b mp hb hmp]
  have e1 : Ideal.exp (((P f (p + r.val + 1) + G f i p : ℝ) : EReal) - ((P f (p + r.val + 1) + G f i (p + r.val + 1) : ℝ) : EReal)) * (∑ l, qe r l * C l)
      = ((∑ s ∈ Finset.range p, (∑ l, q (p + r.val) l * k s l) * Real.exp (g f i s - G f i (p + r.val + 1)) * v s : ℝ) : EReal) := by
    simp only [hq, hC]
    rw [← EReal.coe_sub, Ideal.exp_coe]
    simp only [← EReal.coe_mul]
    rw [Finite.coe_sum, ← EReal.coe_mul]
    congr 1
    unfold stR
    simp only [Finset.mul_sum, Finset.sum_mul]
    rw [Finset.sum_comm]
    refine Finset.sum_congr rfl fun s _ => Finset.sum_congr rfl fun l _ => ?_
    rw [show g f i s - G f i (p + r.val + 1) = (P f (p + r.val + 1) + G f i p - (P f (p + r.val + 1) + G f i (p + r.val + 1))) + (g f i s - G f i p) by ring, Real.exp_add]
    ring
  have e2 : (∑ s, (∑ l, qe r l * ke s l) * Ideal.exp (logd b br ir r s - ((P f (p + r.val + 1) + G f i (p + r.val + 1) : ℝ) : EReal)) * ve s)
      = ((∑ s ∈ Finset.range (r.val + 1), (∑ l, q (p + r.val) l * k (p + s) l) * Real.exp (g f i (p + s) - G f i (p + r.val + 1)) * v (p + s) : ℝ) : EReal) := by
    have e : ∀ s : Fin 256, (∑ l, qe r l * ke s l) * Ideal.exp (logd b br ir r s - ((P f (p + r.val + 1) + G f i (p + r.val + 1) : ℝ) : EReal)) * ve s
        = (((fun s : ℕ => if s < r.val + 1 then (∑ l, q (p + r.val) l * k (p + s) l) * Real.exp (g f i (p + s) - G f i (p + r.val + 1)) * v (p + s) else 0) s.val : ℝ) : EReal) := by
      intro s
      simp only [hq, hk, hv, ← EReal.coe_mul]
      rw [Finite.coe_sum, logd_eq f i p b br ir hb hbr hir]
      by_cases h : s.val < r.val + 1
      · rw [if_pos h, if_pos h, ← EReal.coe_sub, Ideal.exp_coe, ← EReal.coe_mul, ← EReal.coe_mul]
        congr 4
        ring
      · rw [if_neg h, if_neg h, EReal.bot_sub, Ideal.exp_bot, mul_zero, zero_mul, EReal.coe_zero]
    rw [Finset.sum_congr rfl fun s _ => e s, Finite.coe_sum, Fin.sum_univ_eq_sum_range (fun s : ℕ => if s < r.val + 1 then (∑ l, q (p + r.val) l * k (p + s) l) * Real.exp (g f i (p + s) - G f i (p + r.val + 1)) * v (p + s) else 0) 256,
      ← Finset.sum_filter]
    congr 1
    refine Finset.sum_congr (Finset.ext fun s => ?_) fun _ _ => rfl
    simp only [Finset.mem_filter, Finset.mem_range]
    omega
  rw [e1, e2, ← EReal.coe_add]
  congr 1
  unfold mixR
  rw [show p + r.val + 1 = p + (r.val + 1) by ring]
  exact (Finset.sum_range_add _ p (r.val + 1)).symm

include hb hbr hir hic hmp in
/-- An entry of the state after the chunk. -/
theorem cnext_eq (k v : ℕ → ℝ) (ke ve : Fin 256 → EReal) (C : EReal)
    (hk : ∀ r, ke r = ((k (p + r.val) : ℝ) : EReal)) (hv : ∀ r, ve r = ((v (p + r.val) : ℝ) : EReal)) (hC : C = ((stR f i k v p : ℝ) : EReal)) :
    cnext b br ir ic mp ke ve C = ((stR f i k v (p + 256) : ℝ) : EReal) := by
  unfold cnext
  rw [mnext_eq f i p b br ir mp hb hbr hir hmp, start_eq f i p b mp hb hmp, hC, ← EReal.coe_sub, Ideal.exp_coe, ← EReal.coe_mul]
  have e : ∀ s : Fin 256, ke s * Ideal.exp (b 255 - b s + ic s - ((P f (p + 256) + G f i (p + 256) : ℝ) : EReal)) * ve s
      = (((fun s : ℕ => k (p + s) * Real.exp (g f i (p + s) - G f i (p + 256)) * v (p + s)) s.val : ℝ) : EReal) := by
    intro s
    rw [hk, hv, hb, hb, hic, ← EReal.coe_sub, ← EReal.coe_add, ← EReal.coe_sub, Ideal.exp_coe, ← EReal.coe_mul, ← EReal.coe_mul]
    congr 4
    unfold g
    show P f (p + 256) - P f p - (P f (p + s.val + 1) - P f p) + i (p + s.val) - _ = _
    ring
  rw [Finset.sum_congr rfl fun s _ => e s, Finite.coe_sum, Fin.sum_univ_eq_sum_range (fun s : ℕ => k (p + s) * Real.exp (g f i (p + s) - G f i (p + 256)) * v (p + s)) 256, ← EReal.coe_add]
  congr 1
  unfold stR
  rw [Finset.sum_range_add, Finset.mul_sum]
  congr 1
  refine Finset.sum_congr rfl fun s _ => ?_
  show Real.exp (P f (p + 256) + G f i p - (P f (p + 256) + G f i (p + 256))) * _ = _
  rw [show g f i s - G f i (p + 256) = (P f (p + 256) + G f i p - (P f (p + 256) + G f i (p + 256))) + (g f i s - G f i p) by ring, Real.exp_add]
  ring

end

end Cert.Proof.MlMath

end
-- ==== Proof.MlGate.lean ====
module

public import proofs.«01_k».proof.Proof.MlStep
public import proofs.«01_k».proof.Proof.MlMath

@[expose] public section

set_option maxRecDepth 16384

noncomputable section

namespace Cert.Proof.MlGate

open Idealize.ShloMosaic Idealize.ShloMosaic.TcCoe Idealize.SL.Sem
open Cert.KernelMlIdeal Cert.KernelMlIdeal.Gen
open Cert.Proof.MlTile Cert.Proof.MlStep Cert.Proof.MlMath Cert.Proof.SbMath

/-- An input gate along a row. -/
theorem ir_at (x4 : Vec Ideal S1x16x256 .f32) (h : Fin 4) (s : Fin 256) : ir x4 h s = x4 (ix3 0 ⟨h.val, by omega⟩ s) := by
  unfold ir
  pointwise [k0_pay13]

/-- An input gate down a column. -/
theorem ic_at (x3 : Vec Ideal S1x256x8 .f32) (h : Fin 4) (s : Fin 256) : ic x3 h s = x3 (ix3 0 s ⟨h.val, by omega⟩) := by
  unfold ic
  pointwise [k0_pay12]

/-- The logarithm of a forget gate, down a column. -/
theorem col (x3 : Vec Ideal S1x256x8 .f32) (s : Fin 256) (j : Fin 8) : (k0_pay14 x3 (ix2 s j) : EReal) = SbTile.ls (x3 (ix3 0 s j)) := by
  pointwise [k0_pay14, k0_pay12, SbTile.ls, Ideal.log1p]

/-- The logarithm of a forget gate, along a row. -/
theorem row (x4 : Vec Ideal S1x16x256 .f32) (j : Fin 16) (s : Fin 256) : (k0_pay15 x4 (ix2 j s) : EReal) = SbTile.ls (x4 (ix3 0 j s)) := by
  pointwise [k0_pay15, k0_pay13, SbTile.ls, Ideal.log1p]

/-- A number and what it leaves after rounding, and what that leaves, against a column of weights. -/
def sum3 (t L : Fin 256 → EReal) : EReal := (∑ s, t s * L s) + (∑ s, t s * (L s - L s)) + ∑ s, t s * (L s - L s - (L s - L s))

/-- The running sums down a column are such sums. -/
theorem bc_sum (x3 : Vec Ideal S1x256x8 .f32) (x7 : Vec Ideal S256x256 .bf16) (h : Fin 4) (r : Fin 256) :
    bc x3 x7 h r = sum3 (fun s => x7 (ix2 r s)) (fun s => SbTile.ls (x3 (ix3 0 s ⟨4 + h.val, by omega⟩))) := by
  unfold bc sum3
  pointwise [k0_pay19, k0_pay18, k0_pay17, k0_pay16, col]

/-- And those along a row. -/
theorem br_sum (x4 : Vec Ideal S1x16x256 .f32) (x8 : Vec Ideal S256x256 .bf16) (h : Fin 4) (s : Fin 256) :
    br x4 x8 h s = sum3 (fun j => x8 (ix2 j s)) (fun j => SbTile.ls (x4 (ix3 0 ⟨4 + h.val, by omega⟩ j))) := by
  unfold br sum3
  pointwise [k0_pay20, row, mul_comm]

/-- A running sum of reals over the table's row. -/
theorem sum3_eq (f : ℕ → ℝ) (p : ℕ) (r : Fin 256) (t L : Fin 256 → EReal) (ht : ∀ s, t s = if s.val ≤ r.val then 1 else 0) (hL : ∀ s, L s = ((f (p + s.val) : ℝ) : EReal)) :
    sum3 t L = ((P f (p + r.val + 1) - P f p : ℝ) : EReal) := by
  unfold sum3
  simp only [hL, ht, ← EReal.coe_sub, sub_self, EReal.coe_zero, sub_zero, mul_zero, Finset.sum_const_zero, add_zero]
  have e : ∀ s : Fin 256, (if s.val ≤ r.val then (1 : EReal) else 0) * ((f (p + s.val) : ℝ) : EReal) = (((fun s : ℕ => if s < r.val + 1 then f (p + s) else 0) s.val : ℝ) : EReal) := by
    intro s
    by_cases h : s.val ≤ r.val
    · show _ = ((if s.val < r.val + 1 then f (p + s.val) else 0 : ℝ) : EReal)
      rw [if_pos h, one_mul, if_pos (by omega)]
    · show _ = ((if s.val < r.val + 1 then f (p + s.val) else 0 : ℝ) : EReal)
      rw [if_neg h, zero_mul, if_neg (by omega), EReal.coe_zero]
  rw [Finset.sum_congr rfl fun s _ => e s, Finite.coe_sum, Fin.sum_univ_eq_sum_range (fun s : ℕ => if s < r.val + 1 then f (p + s) else 0) 256, ← Finset.sum_filter]
  congr 1
  unfold P
  rw [show p + r.val + 1 = p + (r.val + 1) by ring, Finset.sum_range_add, add_sub_cancel_left]
  refine Finset.sum_congr (Finset.ext fun s => ?_) fun _ _ => rfl
  simp only [Finset.mem_filter, Finset.mem_range]
  omega

end Cert.Proof.MlGate

end
-- ==== Proof.MlChunk.lean ====
module

public import proofs.«01_k».proof.Proof.MlGate

@[expose] public section

set_option maxRecDepth 16384

noncomputable section

namespace Cert.Proof.MlChunk

open Idealize.ShloMosaic Idealize.ShloMosaic.TcCoe Idealize.SL.Sem
open Cert.KernelMlIdeal Cert.KernelMlIdeal.Gen
open Cert.Proof.MlTile Cert.Proof.MlStep Cert.Proof.MlMath Cert.Proof.MlGate Cert.Proof.SbMath

/-- The scale of the keys is a real. -/
theorem scale_real : ∃ κ : ℝ, Ideal.ofBits .f32 0x3DB504F3#32 = (κ : EReal) :=
  ⟨11863283 / 134217728, by
    simp [Ideal.ofBits, Ideal.ieee, -EReal.coe_mul]
    norm_num⟩

/-- The scale of the keys. -/
def scale : ℝ := (Ideal.ofBits .f32 0x3DB504F3#32).toReal

/-- It is what the word denotes. -/
theorem scale_eq : Ideal.ofBits .f32 0x3DB504F3#32 = (scale : EReal) := by
  obtain ⟨κ, hκ⟩ := scale_real
  unfold scale
  rw [hκ, EReal.toReal_coe]

/-- The curve on the reals. -/
def siluR (z : ℝ) : ℝ := z * (1 / (1 + Real.exp (-z)))

/-- The curve of a real. -/
theorem silu_coe (z : ℝ) : silu (z : EReal) = ((siluR z : ℝ) : EReal) := by
  unfold silu siluR
  have h : (1 + Real.exp (-z)) ≠ 0 := by positivity
  rw [← EReal.coe_zero, ← EReal.coe_sub, Ideal.exp_coe, zero_sub, ← EReal.coe_one, ← EReal.coe_add, Ideal.div_coe h, ← EReal.coe_mul, ← EReal.coe_mul, one_mul]

section
variable (x : ℕ → Fin 1024 → ℝ) (w : Fin 4 → Fin 1024 → ℝ) (β : Fin 1024 → ℝ) (v : ℕ → Fin 512 → ℝ) (γ : ℕ → Fin 8 → ℝ)

/-- The rows of the convolution's input, after three of zeros. -/
def padR (n : ℕ) (c : Fin 1024) : ℝ := if n < 3 then 0 else x (n - 3) c

/-- The convolution. -/
def convR (t : ℕ) (c : Fin 1024) : ℝ := β c + w 0 c * padR x t c + w 1 c * padR x (t + 1) c + w 2 c * padR x (t + 2) c + w 3 c * padR x (t + 3) c

/-- The queries. -/
def qR (h : Fin 4) (t : ℕ) (l : Fin 128) : ℝ := siluR (convR x w β t ⟨(lane h l).val, by omega⟩)

/-- The keys. -/
def kR (h : Fin 4) (t : ℕ) (l : Fin 128) : ℝ := siluR (convR x w β t ⟨512 + (lane h l).val, by omega⟩) * scale

/-- The logarithms of the forget gates. -/
def fR (h : Fin 4) (t : ℕ) : ℝ := lsR (γ t ⟨4 + h.val, by omega⟩)

/-- The input gates. -/
def iR (h : Fin 4) (t : ℕ) : ℝ := γ t ⟨h.val, by omega⟩

/-- The blocks of the chunk at row `p`. -/
structure Blocks (p : ℕ) (x0 : Vec Ideal S1x256x1024 .f32) (x1 : Vec Ideal S1x256x512 .bf16) (x3 : Vec Ideal S1x256x8 .f32) (x4 : Vec Ideal S1x16x256 .f32)
    (x5 : Vec Ideal S4x1024 .f32) (x6 : Vec Ideal S1x1024 .f32) (x7 : Vec Ideal S256x256 .bf16) (x8 : Vec Ideal S256x256 .bf16) : Prop where
  hx : ∀ (r : Fin 256) (c : Fin 1024), (x0 (ix3 0 r c) : EReal) = ((x (p + r.val) c : ℝ) : EReal)
  hv : ∀ (r : Fin 256) (l : Fin 512), (x1 (ix3 0 r l) : EReal) = ((v (p + r.val) l : ℝ) : EReal)
  hc : ∀ (r : Fin 256) (j : Fin 8), (x3 (ix3 0 r j) : EReal) = ((γ (p + r.val) j : ℝ) : EReal)
  hr : ∀ (j : Fin 8) (r : Fin 256), (x4 (ix3 0 ⟨j.val, by omega⟩ r) : EReal) = ((γ (p + r.val) j : ℝ) : EReal)
  hw : ∀ (k : Fin 4) (c : Fin 1024), (x5 (ix2 k c) : EReal) = ((w k c : ℝ) : EReal)
  hβ : ∀ c : Fin 1024, (x6 (ix2 0 c) : EReal) = ((β c : ℝ) : EReal)
  h7 : ∀ r s : Fin 256, (x7 (ix2 r s) : EReal) = if s.val ≤ r.val then 1 else 0
  h8 : ∀ r s : Fin 256, (x8 (ix2 s r) : EReal) = if s.val ≤ r.val then 1 else 0

/-- The state before row `p`. -/
structure State (p : ℕ) (hal : Fin 8 → Fin 1024 → EReal) (C : Fin 4 → Fin 128 → Fin 256 → EReal) (M : Fin 4 → EReal) : Prop where
  hh : ∀ (n : Fin 8), 5 ≤ n.val → ∀ c, hal n c = ((padR x (p + n.val - 5) c : ℝ) : EReal)
  hval : ∀ (h : Fin 4) (d l : Fin 128), C h d ⟨l.val, by omega⟩ = ((stR (fR γ h) (iR γ h) (fun s => kR x w β h s d) (fun s => v s (lane h l)) p : ℝ) : EReal)
  hnorm : ∀ (h : Fin 4) (d l : Fin 128), C h d ⟨128 + l.val, by omega⟩ = ((stR (fR γ h) (iR γ h) (fun s => kR x w β h s d) (fun _ => 1) p : ℝ) : EReal)
  hM : ∀ h : Fin 4, M h = ((P (fR γ h) p + G (fR γ h) (iR γ h) p : ℝ) : EReal)

/-- A sequence starts from nothing. -/
theorem state_zero : State x w β v γ 0 (fun _ _ => 0) (fun _ _ _ => 0) (fun _ => 0) where
  hh n hn c := by rw [padR, if_pos (by omega), EReal.coe_zero]
  hval h d l := by rw [stR, Finset.range_zero, Finset.sum_empty, EReal.coe_zero]
  hnorm h d l := by rw [stR, Finset.range_zero, Finset.sum_empty, EReal.coe_zero]
  hM h := by rw [P, G, Finset.range_zero, Finset.sum_empty, add_zero, EReal.coe_zero]

variable {x w β v γ} {p : ℕ} {hal : Fin 8 → Fin 1024 → EReal} {C : Fin 4 → Fin 128 → Fin 256 → EReal} {M : Fin 4 → EReal}
  {x0 : Vec Ideal S1x256x1024 .f32} {x1 x2 : Vec Ideal S1x256x512 .bf16} {x3 : Vec Ideal S1x256x8 .f32} {x4 : Vec Ideal S1x16x256 .f32}
  {x5 : Vec Ideal S4x1024 .f32} {x6 : Vec Ideal S1x1024 .f32} {x7 : Vec Ideal S256x256 .bf16} {x8 : Vec Ideal S256x256 .bf16}
  (B : Blocks x w β v γ p x0 x1 x3 x4 x5 x6 x7 x8) (S : State x w β v γ p hal C M)
include B

include S in
/-- A row of the convolution's buffer. -/
theorem line_eq (n : ℕ) (hn : n < 259) (c : Fin 1024) : line hal x0 ⟨5 + n, by omega⟩ c = ((padR x (p + n) c : ℝ) : EReal) := by
  unfold line
  by_cases h : 5 + n < 8
  · rw [dif_pos h, S.hh _ (by show 5 ≤ 5 + n; omega)]
    congr 2
    show p + (5 + n) - 5 = p + n
    omega
  · rw [dif_neg h, B.hx, padR, if_neg (by omega)]
    congr 2
    show p + (5 + n - 8) = p + n - 3
    omega

include S in
/-- The convolution at a row of the chunk. -/
theorem conv_eq (r : Fin 256) (c : Fin 1024) : conv (line hal x0) x5 x6 r c = ((convR x w β (p + r.val) c : ℝ) : EReal) := by
  unfold conv convR
  have e : ∀ k (hk : k < 4), line hal x0 ⟨5 + k + r.val, by omega⟩ c = ((padR x (p + r.val + k) c : ℝ) : EReal) := fun k hk => by
    refine Eq.trans ?_ ((line_eq B S (r.val + k) (by omega) c).trans (by rw [show p + (r.val + k) = p + r.val + k by ring]))
    congr 1
    exact Fin.ext (by show 5 + k + r.val = 5 + (r.val + k); omega)
  have e0 := e 0 (by omega)
  have e1 := e 1 (by omega)
  have e2 := e 2 (by omega)
  have e3 := e 3 (by omega)
  simp only [Nat.add_zero, Nat.reduceAdd] at e0 e1 e2 e3
  rw [e0, e1, e2, e3, B.hβ, B.hw, B.hw, B.hw, B.hw]
  simp only [← EReal.coe_mul, ← EReal.coe_add]

include S in
/-- A query of the chunk. -/
theorem q_eq (h : Fin 4) (r : Fin 256) (l : Fin 128) : qe (line hal x0) x5 x6 h r l = ((qR x w β h (p + r.val) l : ℝ) : EReal) := by
  unfold qe qR
  rw [conv_eq B S, silu_coe]

include S in
/-- A key of the chunk. -/
theorem k_eq (h : Fin 4) (r : Fin 256) (l : Fin 128) : ke (line hal x0) x5 x6 h r l = ((kR x w β h (p + r.val) l : ℝ) : EReal) := by
  unfold ke kR
  rw [conv_eq B S, silu_coe, scale_eq, EReal.coe_mul]

/-- The running sums of the chunk's forget gates, down a column. -/
theorem bc_eq (h : Fin 4) (r : Fin 256) : bc x3 x7 h r = ((P (fR γ h) (p + r.val + 1) - P (fR γ h) p : ℝ) : EReal) := by
  rw [bc_sum]
  refine sum3_eq (fR γ h) p r _ _ (fun s => B.h7 r s) fun s => ?_
  rw [B.hc, ls_coe]
  rfl

/-- And along a row. -/
theorem br_eq (h : Fin 4) (r : Fin 256) : br x4 x8 h r = ((P (fR γ h) (p + r.val + 1) - P (fR γ h) p : ℝ) : EReal) := by
  rw [br_sum]
  refine sum3_eq (fR γ h) p r _ _ (fun s => B.h8 r s) fun s => ?_
  have e := B.hr ⟨4 + h.val, by omega⟩ s
  refine (congrArg SbTile.ls e).trans ?_
  rw [ls_coe]
  rfl

/-- The chunk's input gates along a row. -/
theorem ir_eq (h : Fin 4) (r : Fin 256) : ir x4 h r = ((iR γ h (p + r.val) : ℝ) : EReal) :=
  (ir_at x4 h r).trans (B.hr ⟨h.val, by omega⟩ r)

/-- And down a column. -/
theorem ic_eq (h : Fin 4) (r : Fin 256) : ic x3 h r = ((iR γ h (p + r.val) : ℝ) : EReal) :=
  (ic_at x3 h r).trans (B.hc r ⟨h.val, by omega⟩)

include S in
/-- A block of the result. -/
theorem out_eq (h : Fin 4) (r : Fin 256) (l : Fin 128) : outE hal C M x0 x1 x2 x3 x4 x5 x6 x7 x8 h r l
    = spec (fR γ h) (iR γ h) (qR x w β h) (kR x w β h) (fun s => v s (lane h l)) (x2 (ix3 0 r (lane h l))) (p + r.val) := by
  unfold outE spec
  rw [mix_eq (fR γ h) (iR γ h) p _ _ _ _ (bc_eq B h) (br_eq B h) (ir_eq B h) (S.hM h) (qR x w β h) (kR x w β h) (fun s => v s (lane h l)) _ _ _ _
      (q_eq B S h) (k_eq B S h) (fun r => B.hv r _) (fun d => S.hval h d l),
    mix_eq (fR γ h) (iR γ h) p _ _ _ _ (bc_eq B h) (br_eq B h) (ir_eq B h) (S.hM h) (qR x w β h) (kR x w β h) (fun _ => 1) _ _ _ _
      (q_eq B S h) (k_eq B S h) (fun r => EReal.coe_one.symm) (fun d => S.hnorm h d l),
    mt_eq (fR γ h) (iR γ h) p _ _ _ _ (bc_eq B h) (br_eq B h) (ir_eq B h) (S.hM h)]

include S in
/-- The state after the chunk. -/
theorem state_next : State x w β v γ (p + 256) (fun n c => x0 (ix3 0 ⟨248 + n.val, by omega⟩ c))
    (fun h d e => if he : e.val < 128 then valE hal C M x0 x1 x3 x4 x5 x6 x7 x8 h d ⟨e.val, he⟩ else normE hal C M x0 x3 x4 x5 x6 x7 x8 h d ⟨e.val - 128, by omega⟩)
    (fun h => maxE M x3 x4 x7 x8 h) where
  hh n hn c := by
    rw [B.hx, padR, if_neg (by omega)]
    congr 2
    show p + (248 + n.val) = p + 256 + n.val - 5 - 3
    omega
  hval h d l := by
    rw [dif_pos l.isLt]
    exact cnext_eq (fR γ h) (iR γ h) p _ _ _ _ _ (bc_eq B h) (br_eq B h) (ir_eq B h) (ic_eq B h) (S.hM h) (fun s => kR x w β h s d) (fun s => v s (lane h l)) _ _ _
      (fun r => k_eq B S h r d) (fun r => B.hv r _) (S.hval h d l)
  hnorm h d l := by
    rw [dif_neg (by simp)]
    refine cnext_eq (fR γ h) (iR γ h) p _ _ _ _ _ (bc_eq B h) (br_eq B h) (ir_eq B h) (ic_eq B h) (S.hM h) (fun s => kR x w β h s d) (fun _ => 1) _ _ _
      (fun r => k_eq B S h r d) (fun r => EReal.coe_one.symm) ?_
    refine Eq.trans ?_ (S.hnorm h d l)
    congr 1
    exact Fin.ext (by show 128 + (128 + l.val - 128) = 128 + l.val; omega)
  hM h := mnext_eq (fR γ h) (iR γ h) p _ _ _ _ (bc_eq B h) (br_eq B h) (ir_eq B h) (S.hM h)

end

end Cert.Proof.MlChunk

end
-- ==== Proof.MlRows.lean ====
module

public import proofs.«01_k».proof.Proof.MlHost
public import proofs.«01_k».proof.Proof.MlChunk
public import Idealize.ShloMosaic.Lib.Pipeline.ValueKit

@[expose] public section

set_option maxRecDepth 16384

noncomputable section

namespace Cert.Proof.MlRows

open Idealize.ShloMosaic Idealize.ShloMosaic.TcCoe Idealize.SL.Sem
open Cert.KernelMlIdeal Cert.KernelMlIdeal.Gen
open Cert.Proof.MlTile Cert.Proof.MlStep Cert.Proof.MlMath Cert.Proof.MlChunk Cert.Proof.MlHost
open Idealize.ShloMosaic.Pipeline (Dat)

variable (m : (ℓ : Loc nD τ sig) → Buf (Elt Ideal) ℓ)

/-- Which blocks a grid point takes: its batch and its chunk. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, 0, t.val % 16]
    ∧ win0_5.index t = ![0, 0] ∧ win0_6.index t = ![0, 0] ∧ win0_7.index t = ![0, 0] ∧ win0_8.index t = ![0, 0]
    ∧ win0_9.index t = ![t.val / 16, t.val % 16, 0] :=
  (by decide +kernel : ∀ t : Fin grid0.N, _)

/-- There are 256 grid points. -/
theorem lt (t : Fin cfg0.N) : t.val < 256 := lt_of_lt_of_eq t.isLt (by decide +kernel)

section

variable (c : Dev nD) (t : Fin cfg0.N)

/-- The block of the queries' and keys' projection. -/
theorem x_at (r : Fin 256) (k : Fin 1024) : iblk m c 0 t (ix3 0 r k)
    = m ((c : Thread nD τ).loc main_arg0) (ix3 ⟨t.val / 16, by have := lt t; omega⟩ ⟨256 * (t.val % 16) + r.val, by omega⟩ k) := by
  blk_point [iblk, V_main_arg0, idx t]

/-- The values' block. -/
theorem v_at (r : Fin 256) (k : Fin 512) : iblk m c 1 t (ix3 0 r k)
    = m ((c : Thread nD τ).loc main_arg1) (ix3 ⟨t.val / 16, by have := lt t; omega⟩ ⟨256 * (t.val % 16) + r.val, by omega⟩ k) := by
  blk_point [iblk, V_main_arg1, idx t]

/-- The output gates' block. -/
theorem o_at (r : Fin 256) (k : Fin 512) : iblk m c 2 t (ix3 0 r k)
    = m ((c : Thread nD τ).loc main_arg2) (ix3 ⟨t.val / 16, by have := lt t; omega⟩ ⟨256 * (t.val % 16) + r.val, by omega⟩ k) := by
  blk_point [iblk, V_main_arg2, idx t]

/-- The gates' block. -/
theorem col_at (r : Fin 256) (k : Fin 8) : iblk m c 3 t (ix3 0 r k)
    = m ((c : Thread nD τ).loc main_arg3) (ix3 ⟨t.val / 16, by have := lt t; omega⟩ ⟨256 * (t.val % 16) + r.val, by omega⟩ k) := by
  blk_point [iblk, V_main_arg3, idx t]

/-- The turned gates' block. -/
theorem row_at (j : Fin 8) (r : Fin 256) : iblk m c 4 t (ix3 0 ⟨j.val, by omega⟩ r)
    = m ((c : Thread nD τ).loc main_arg3) (ix3 ⟨t.val / 16, by have := lt t; omega⟩ ⟨256 * (t.val % 16) + r.val, by omega⟩ j) := by
  refine Eq.trans ?_ (grow_at m c _ _ _)
  blk_point [iblk, idx t]

/-- The convolution's weights. -/
theorem w_at (k : Fin 4) (l : Fin 1024) : iblk m c 5 t (ix2 k l) = m ((c : Thread nD τ).loc main_arg4) (ix2 k l) := by
  blk_point [iblk, V_main_arg4, idx t]

/-- The convolution's constants. -/
theorem β_at (l : Fin 1024) : iblk m c 6 t (ix2 0 l) = m ((c : Thread nD τ).loc main_arg5) (ix1 l) := by
  refine Eq.trans ?_ (bias_at m c _)
  blk_point [iblk, idx t]

/-- The table of the sums down a column. -/
theorem down_at (r s : Fin 256) : iblk m c 7 t (ix2 r s) = (if s.val ≤ r.val then (1 : EReal) else 0) := by
  refine Eq.trans ?_ (tril_at m c _ _)
  blk_point [iblk, idx t]

/-- The table of the sums along a row. -/
theorem along_at (r s : Fin 256) : iblk m c 8 t (ix2 s r) = (if s.val ≤ r.val then (1 : EReal) else 0) := by
  refine Eq.trans ?_ (triu_at m c _ _)
  blk_point [iblk, idx t]

end

section

variable (c : Dev nD)

/-- The queries' and keys' projection as real numbers. -/
def xR (b : Fin 16) (n : ℕ) (k : Fin 1024) : ℝ := (show EReal from m ((c : Thread nD τ).loc main_arg0) (ix3 b ⟨n % 4096, Nat.mod_lt _ (by decide)⟩ k)).toReal
/-- The values as real numbers. -/
def vR (b : Fin 16) (n : ℕ) (k : Fin 512) : ℝ := (show EReal from m ((c : Thread nD τ).loc main_arg1) (ix3 b ⟨n % 4096, Nat.mod_lt _ (by decide)⟩ k)).toReal
/-- The gates as real numbers. -/
def γR (b : Fin 16) (n : ℕ) (k : Fin 8) : ℝ := (show EReal from m ((c : Thread nD τ).loc main_arg3) (ix3 b ⟨n % 4096, Nat.mod_lt _ (by decide)⟩ k)).toReal
/-- The convolution's weights as real numbers. -/
def wR (k : Fin 4) (l : Fin 1024) : ℝ := (show EReal from m ((c : Thread nD τ).loc main_arg4) (ix2 k l)).toReal
/-- The convolution's constants as real numbers. -/
def βR (l : Fin 1024) : ℝ := (show EReal from m ((c : Thread nD τ).loc main_arg5) (ix1 l)).toReal

/-- The arguments hold real numbers. -/
structure Real : Prop where
  x : ∀ i, (m ((c : Thread nD τ).loc main_arg0) i : EReal) = (((m ((c : Thread nD τ).loc main_arg0) i : EReal).toReal : ℝ) : EReal)
  v : ∀ i, (m ((c : Thread nD τ).loc main_arg1) i : EReal) = (((m ((c : Thread nD τ).loc main_arg1) i : EReal).toReal : ℝ) : EReal)
  γ : ∀ i, (m ((c : Thread nD τ).loc main_arg3) i : EReal) = (((m ((c : Thread nD τ).loc main_arg3) i : EReal).toReal : ℝ) : EReal)
  w : ∀ i, (m ((c : Thread nD τ).loc main_arg4) i : EReal) = (((m ((c : Thread nD τ).loc main_arg4) i : EReal).toReal : ℝ) : EReal)
  β : ∀ i, (m ((c : Thread nD τ).loc main_arg5) i : EReal) = (((m ((c : Thread nD τ).loc main_arg5) i : EReal).toReal : ℝ) : EReal)

/-- Reading a row below the end. -/
theorem row_lt {A : Type*} {K : Type*} (X : Fin 16 → Fin 4096 → K → A) (b : Fin 16) (n : ℕ) (hn : n < 4096) (k : K) :
    X b ⟨n % 4096, Nat.mod_lt _ (by decide)⟩ k = X b ⟨n, hn⟩ k := by
  simp only [Nat.mod_eq_of_lt hn]

/-- A point's blocks hold its batch's and chunk's rows. -/
theorem blocks (H : Real m c) (t : Fin cfg0.N) : Blocks (xR m c ⟨t.val / 16, by have := lt t; omega⟩) (wR m c) (βR m c) (vR m c ⟨t.val / 16, by have := lt t; omega⟩) (γR m c ⟨t.val / 16, by have := lt t; omega⟩)
    (256 * (t.val % 16)) (iblk m c 0 t) (iblk m c 1 t) (iblk m c 3 t) (iblk m c 4 t) (iblk m c 5 t) (iblk m c 6 t) (iblk m c 7 t) (iblk m c 8 t) where
  hx r k := by
    rw [x_at, H.x, xR, row_lt (fun b n k => (show EReal from m ((c : Thread nD τ).loc main_arg0) (ix3 b n k)).toReal) _ _ (by omega)]
  hv r k := by
    rw [v_at, H.v, vR, row_lt (fun b n k => (show EReal from m ((c : Thread nD τ).loc main_arg1) (ix3 b n k)).toReal) _ _ (by omega)]
  hc r k := by
    rw [col_at, H.γ, γR, row_lt (fun b n k => (show EReal from m ((c : Thread nD τ).loc main_arg3) (ix3 b n k)).toReal) _ _ (by omega)]
  hr k r := by
    rw [row_at, H.γ, γR, row_lt (fun b n k => (show EReal from m ((c : Thread nD τ).loc main_arg3) (ix3 b n k)).toReal) _ _ (by omega)]
  hw k l := by
    rw [w_at, H.w, wR]
  hβ l := by
    rw [β_at, H.β, βR]
  h7 r s := down_at m c t r s
  h8 r s := along_at m c t r s

end

end Cert.Proof.MlRows

end
-- ==== Proof.MlLoad.lean ====
module

public import proofs.«01_k».proof.Proof.MlStep

@[expose] public section

set_option maxRecDepth 16384

noncomputable section

namespace Cert.Proof.MlLoad

open Cert.KernelMlIdeal Cert.KernelMlIdeal.Gen
open Idealize.ShloMosaic Idealize.ShloMosaic.TcCoe Idealize.SL.Sem
open Cert.Proof.MlStep

/-- A lane of the first head. -/
theorem lane0 (l : Fin 128) : lane 0 l = ⟨l.val, by omega⟩ := Fin.ext (by simp [lane])

/-- The first head's columns of a block: which entry of the block an entry of the load is. -/
theorem at0 (r : Fin 256) (l : Fin 128) : (ix3 0 r (lane 0 l) : S1x256x512.Idx) = (Rect.unit (s := S1x256x512) ![0, 0, 0] ![1, 256, 128] inb_S1x256x512_S1x256x128_0_0_0).emb (ix3 0 r l) := by
  funext a
  refine Fin.ext ?_
  match a with
  | ⟨0, _⟩ => rfl
  | ⟨1, _⟩ => show r.val = 0 + 1 * r.val; omega
  | ⟨2, _⟩ => show 128 * 0 + l.val = 0 + 1 * l.val; omega

/-- A load of the first head's columns reads the block there. -/
theorem ldv0 (x : Vec Ideal S1x256x512 .bf16) (r : Fin 256) (l : Fin 128) :
    (View.ld x (Rect.unit (s := S1x256x512) ![0, 0, 0] ![1, 256, 128] inb_S1x256x512_S1x256x128_0_0_0) (show S1x256x128.Idx from ix3 0 r l) : EReal) = x (ix3 0 r (lane 0 l)) :=
  congrArg x (at0 r l).symm

/-- The first head's part of the state: which entry of the state an entry of the load is. -/
theorem state0 (d : Fin 128) (e : Fin 256) : (ix3 0 d e : S4x128x256.Idx) = (Rect.unit (s := S4x128x256) ![0, 0, 0] ![1, 128, 256] inb_S4x128x256_S1x128x256_0_0_0).emb (ix3 0 d e) := by
  funext a
  refine Fin.ext ?_
  match a with
  | ⟨0, _⟩ => rfl
  | ⟨1, _⟩ => show d.val = 0 + 1 * d.val; omega
  | ⟨2, _⟩ => show e.val = 0 + 1 * e.val; omega

/-- A load of the first head's part of the state reads the state there. -/
theorem ldc0 (x : Vec Ideal S4x128x256 .f32) (d : Fin 128) (e : Fin 256) :
    (View.ld x (Rect.unit (s := S4x128x256) ![0, 0, 0] ![1, 128, 256] inb_S4x128x256_S1x128x256_0_0_0) (show S1x128x256.Idx from ix3 0 d e) : EReal) = x (ix3 0 d e) :=
  congrArg x (state0 d e).symm

/-- The first head's row of the largest logarithms: which entry an entry of the row is. -/
theorem most0 (l : Fin 128) : (ix2 0 l : S8x128.Idx) = (Rect.unit (s := S8x128) ![0, 0] ![1, 128] inb_S8x128_S1x128_0_0).emb (ix2 0 l) := by
  funext a
  refine Fin.ext ?_
  match a with
  | ⟨0, _⟩ => rfl
  | ⟨1, _⟩ => show l.val = 0 + 1 * l.val; omega

/-- A load of the first head's largest logarithm reads its row's first entry. -/
theorem ldm0 (x : Vec Ideal S8x128 .f32) :
    (View.ld x (Rect.unit (s := S8x128) ![0, 0] ![1, 1] inb_S8x128_S1x1_0_0) (show S1x1.Idx from ix2 0 0) : EReal) = x (ix2 0 0) := by
  refine congrArg x ?_
  funext a
  refine Fin.ext ?_
  match a with
  | ⟨0, _⟩ => rfl
  | ⟨1, _⟩ => rfl

/-- A load of the convolution's first row of weights reads that row. -/
theorem ldw0 (x : Vec Ideal S4x1024 .f32) (c : Fin 1024) :
    (View.ld x (Rect.unit (s := S4x1024) ![0, 0] ![1, 1024] inb_S4x1024_S1x1024_0_0) (show S1x1024.Idx from ix2 0 c) : EReal) = x (ix2 0 c) := by
  refine congrArg x ?_
  funext a
  refine Fin.ext ?_
  match a with
  | ⟨0, _⟩ => rfl
  | ⟨1, _⟩ => show 0 + 1 * c.val = c.val; omega

/-- The second head's columns of a block: which entry of the block an entry of the load is. -/
theorem at1 (r : Fin 256) (l : Fin 128) : (ix3 0 r (lane 1 l) : S1x256x512.Idx) = (Rect.unit (s := S1x256x512) ![0, 0, 128] ![1, 256, 128] inb_S1x256x512_S1x256x128_0_0_128).emb (ix3 0 r l) := by
  funext a
  refine Fin.ext ?_
  match a with
  | ⟨0, _⟩ => rfl
  | ⟨1, _⟩ => show r.val = 0 + 1 * r.val; omega
  | ⟨2, _⟩ => show 128 * 1 + l.val = 128 + 1 * l.val; omega

/-- A load of the second head's columns reads the block there. -/
theorem ldv1 (x : Vec Ideal S1x256x512 .bf16) (r : Fin 256) (l : Fin 128) :
    (View.ld x (Rect.unit (s := S1x256x512) ![0, 0, 128] ![1, 256, 128] inb_S1x256x512_S1x256x128_0_0_128) (show S1x256x128.Idx from ix3 0 r l) : EReal) = x (ix3 0 r (lane 1 l)) :=
  congrArg x (at1 r l).symm

/-- The second head's part of the state: which entry of the state an entry of the load is. -/
theorem state1 (d : Fin 128) (e : Fin 256) : (ix3 1 d e : S4x128x256.Idx) = (Rect.unit (s := S4x128x256) ![1, 0, 0] ![1, 128, 256] inb_S4x128x256_S1x128x256_1_0_0).emb (ix3 0 d e) := by
  funext a
  refine Fin.ext ?_
  match a with
  | ⟨0, _⟩ => rfl
  | ⟨1, _⟩ => show d.val = 0 + 1 * d.val; omega
  | ⟨2, _⟩ => show e.val = 0 + 1 * e.val; omega

/-- A load of the second head's part of the state reads the state there. -/
theorem ldc1 (x : Vec Ideal S4x128x256 .f32) (d : Fin 128) (e : Fin 256) :
    (View.ld x (Rect.unit (s := S4x128x256) ![1, 0, 0] ![1, 128, 256] inb_S4x128x256_S1x128x256_1_0_0) (show S1x128x256.Idx from ix3 0 d e) : EReal) = x (ix3 1 d e) :=
  congrArg x (state1 d e).symm

/-- The second head's row of the largest logarithms: which entry an entry of the row is. -/
theorem most1 (l : Fin 128) : (ix2 1 l : S8x128.Idx) = (Rect.unit (s := S8x128) ![1, 0] ![1, 128] inb_S8x128_S1x128_1_0).emb (ix2 0 l) := by
  funext a
  refine Fin.ext ?_
  match a with
  | ⟨0, _⟩ => rfl
  | ⟨1, _⟩ => show l.val = 0 + 1 * l.val; omega

/-- A load of the second head's largest logarithm reads its row's first entry. -/
theorem ldm1 (x : Vec Ideal S8x128 .f32) :
    (View.ld x (Rect.unit (s := S8x128) ![1, 0] ![1, 1] inb_S8x128_S1x1_1_0) (show S1x1.Idx from ix2 0 0) : EReal) = x (ix2 1 0) := by
  refine congrArg x ?_
  funext a
  refine Fin.ext ?_
  match a with
  | ⟨0, _⟩ => rfl
  | ⟨1, _⟩ => rfl

/-- A load of the convolution's second row of weights reads that row. -/
theorem ldw1 (x : Vec Ideal S4x1024 .f32) (c : Fin 1024) :
    (View.ld x (Rect.unit (s := S4x1024) ![1, 0] ![1, 1024] inb_S4x1024_S1x1024_1_0) (show S1x1024.Idx from ix2 0 c) : EReal) = x (ix2 1 c) := by
  refine congrArg x ?_
  funext a
  refine Fin.ext ?_
  match a with
  | ⟨0, _⟩ => rfl
  | ⟨1, _⟩ => show 0 + 1 * c.val = c.val; omega

/-- The third head's columns of a block: which entry of the block an entry of the load is. -/
theorem at2 (r : Fin 256) (l : Fin 128) : (ix3 0 r (lane 2 l) : S1x256x512.Idx) = (Rect.unit (s := S1x256x512) ![0, 0, 256] ![1, 256, 128] inb_S1x256x512_S1x256x128_0_0_256).emb (ix3 0 r l) := by
  funext a
  refine Fin.ext ?_
  match a with
  | ⟨0, _⟩ => rfl
  | ⟨1, _⟩ => show r.val = 0 + 1 * r.val; omega
  | ⟨2, _⟩ => show 128 * 2 + l.val = 256 + 1 * l.val; omega

/-- A load of the third head's columns reads the block there. -/
theorem ldv2 (x : Vec Ideal S1x256x512 .bf16) (r : Fin 256) (l : Fin 128) :
    (View.ld x (Rect.unit (s := S1x256x512) ![0, 0, 256] ![1, 256, 128] inb_S1x256x512_S1x256x128_0_0_256) (show S1x256x128.Idx from ix3 0 r l) : EReal) = x (ix3 0 r (lane 2 l)) :=
  congrArg x (at2 r l).symm

/-- The third head's part of the state: which entry of the state an entry of the load is. -/
theorem state2 (d : Fin 128) (e : Fin 256) : (ix3 2 d e : S4x128x256.Idx) = (Rect.unit (s := S4x128x256) ![2, 0, 0] ![1, 128, 256] inb_S4x128x256_S1x128x256_2_0_0).emb (ix3 0 d e) := by
  funext a
  refine Fin.ext ?_
  match a with
  | ⟨0, _⟩ => rfl
  | ⟨1, _⟩ => show d.val = 0 + 1 * d.val; omega
  | ⟨2, _⟩ => show e.val = 0 + 1 * e.val; omega

/-- A load of the third head's part of the state reads the state there. -/
theorem ldc2 (x : Vec Ideal S4x128x256 .f32) (d : Fin 128) (e : Fin 256) :
    (View.ld x (Rect.unit (s := S4x128x256) ![2, 0, 0] ![1, 128, 256] inb_S4x128x256_S1x128x256_2_0_0) (show S1x128x256.Idx from ix3 0 d e) : EReal) = x (ix3 2 d e) :=
  congrArg x (state2 d e).symm

/-- The third head's row of the largest logarithms: which entry an entry of the row is. -/
theorem most2 (l : Fin 128) : (ix2 2 l : S8x128.Idx) = (Rect.unit (s := S8x128) ![2, 0] ![1, 128] inb_S8x128_S1x128_2_0).emb (ix2 0 l) := by
  funext a
  refine Fin.ext ?_
  match a with
  | ⟨0, _⟩ => rfl
  | ⟨1, _⟩ => show l.val = 0 + 1 * l.val; omega

/-- A load of the third head's largest logarithm reads its row's first entry. -/
theorem ldm2 (x : Vec Ideal S8x128 .f32) :
    (View.ld x (Rect.unit (s := S8x128) ![2, 0] ![1, 1] inb_S8x128_S1x1_2_0) (show S1x1.Idx from ix2 0 0) : EReal) = x (ix2 2 0) := by
  refine congrArg x ?_
  funext a
  refine Fin.ext ?_
  match a with
  | ⟨0, _⟩ => rfl
  | ⟨1, _⟩ => rfl

/-- A load of the convolution's third row of weights reads that row. -/
theorem ldw2 (x : Vec Ideal S4x1024 .f32) (c : Fin 1024) :
    (View.ld x (Rect.unit (s := S4x1024) ![2, 0] ![1, 1024] inb_S4x1024_S1x1024_2_0) (show S1x1024.Idx from ix2 0 c) : EReal) = x (ix2 2 c) := by
  refine congrArg x ?_
  funext a
  refine Fin.ext ?_
  match a with
  | ⟨0, _⟩ => rfl
  | ⟨1, _⟩ => show 0 + 1 * c.val = c.val; omega

/-- The fourth head's columns of a block: which entry of the block an entry of the load is. -/
theorem at3 (r : Fin 256) (l : Fin 128) : (ix3 0 r (lane 3 l) : S1x256x512.Idx) = (Rect.unit (s := S1x256x512) ![0, 0, 384] ![1, 256, 128] inb_S1x256x512_S1x256x128_0_0_384).emb (ix3 0 r l) := by
  funext a
  refine Fin.ext ?_
  match a with
  | ⟨0, _⟩ => rfl
  | ⟨1, _⟩ => show r.val = 0 + 1 * r.val; omega
  | ⟨2, _⟩ => show 128 * 3 + l.val = 384 + 1 * l.val; omega

/-- A load of the fourth head's columns reads the block there. -/
theorem ldv3 (x : Vec Ideal S1x256x512 .bf16) (r : Fin 256) (l : Fin 128) :
    (View.ld x (Rect.unit (s := S1x256x512) ![0, 0, 384] ![1, 256, 128] inb_S1x256x512_S1x256x128_0_0_384) (show S1x256x128.Idx from ix3 0 r l) : EReal) = x (ix3 0 r (lane 3 l)) :=
  congrArg x (at3 r l).symm

/-- The fourth head's part of the state: which entry of the state an entry of the load is. -/
theorem state3 (d : Fin 128) (e : Fin 256) : (ix3 3 d e : S4x128x256.Idx) = (Rect.unit (s := S4x128x256) ![3, 0, 0] ![1, 128, 256] inb_S4x128x256_S1x128x256_3_0_0).emb (ix3 0 d e) := by
  funext a
  refine Fin.ext ?_
  match a with
  | ⟨0, _⟩ => rfl
  | ⟨1, _⟩ => show d.val = 0 + 1 * d.val; omega
  | ⟨2, _⟩ => show e.val = 0 + 1 * e.val; omega

/-- A load of the fourth head's part of the state reads the state there. -/
theorem ldc3 (x : Vec Ideal S4x128x256 .f32) (d : Fin 128) (e : Fin 256) :
    (View.ld x (Rect.unit (s := S4x128x256) ![3, 0, 0] ![1, 128, 256] inb_S4x128x256_S1x128x256_3_0_0) (show S1x128x256.Idx from ix3 0 d e) : EReal) = x (ix3 3 d e) :=
  congrArg x (state3 d e).symm

/-- The fourth head's row of the largest logarithms: which entry an entry of the row is. -/
theorem most3 (l : Fin 128) : (ix2 3 l : S8x128.Idx) = (Rect.unit (s := S8x128) ![3, 0] ![1, 128] inb_S8x128_S1x128_3_0).emb (ix2 0 l) := by
  funext a
  refine Fin.ext ?_
  match a with
  | ⟨0, _⟩ => rfl
  | ⟨1, _⟩ => show l.val = 0 + 1 * l.val; omega

/-- A load of the fourth head's largest logarithm reads its row's first entry. -/
theorem ldm3 (x : Vec Ideal S8x128 .f32) :
    (View.ld x (Rect.unit (s := S8x128) ![3, 0] ![1, 1] inb_S8x128_S1x1_3_0) (show S1x1.Idx from ix2 0 0) : EReal) = x (ix2 3 0) := by
  refine congrArg x ?_
  funext a
  refine Fin.ext ?_
  match a with
  | ⟨0, _⟩ => rfl
  | ⟨1, _⟩ => rfl

/-- A load of the convolution's fourth row of weights reads that row. -/
theorem ldw3 (x : Vec Ideal S4x1024 .f32) (c : Fin 1024) :
    (View.ld x (Rect.unit (s := S4x1024) ![3, 0] ![1, 1024] inb_S4x1024_S1x1024_3_0) (show S1x1024.Idx from ix2 0 c) : EReal) = x (ix2 3 c) := by
  refine congrArg x ?_
  funext a
  refine Fin.ext ?_
  match a with
  | ⟨0, _⟩ => rfl
  | ⟨1, _⟩ => show 0 + 1 * c.val = c.val; omega

/-- The largest logarithms start at zero. -/
theorem zero4 : (k0_pay4 (F := Ideal) : FVec Ideal S8x128 .f32) = fun _ => (0 : EReal) := by
  funext j
  pointwise [k0_pay4]

/-- The carried state starts at zero. -/
theorem zero3 : (k0_pay3 (F := Ideal) : FVec Ideal S4x128x256 .f32) = fun _ => (0 : EReal) := by
  funext j
  pointwise [k0_pay3]

/-- The rows put back for the next chunk. -/
theorem pay8 (x : Vec Ideal S8x1024 .f32) (n : Fin 8) (c : Fin 1024) : (k0_pay8 x (ix2 n c) : EReal) = x (ix2 n c) := by
  pointwise [k0_pay8]

/-- They are the chunk's last. -/
theorem tail_rows (n : Fin 8) (c : Fin 1024) :
    (Rect.unit (s := S264x1024) ![256, 0] ![8, 1024] inb_S264x1024_S8x1024_256_0).toLoadRect.idx (show S8x1024.Idx from ix2 n c)
      = (Rect.unit (s := S264x1024) ![8, 0] ![256, 1024] inb_S264x1024_S256x1024_8_0).emb (show S256x1024.Idx from ix2 ⟨248 + n.val, by omega⟩ c) := by
  funext a
  refine Fin.ext ?_
  match a with
  | ⟨0, _⟩ => show 256 + 1 * n.val = 8 + 1 * (248 + n.val); omega
  | ⟨1, _⟩ => rfl

end Cert.Proof.MlLoad

end
-- ==== Proof.MlBlockA.lean ====
module

public import proofs.«01_k».proof.Proof.MlLoad
public import Idealize.ShloMosaic.Lib.Pipeline.ReadBack

@[expose] public section

set_option maxRecDepth 16384

noncomputable section

namespace Cert.Proof.MlBlockA

open Cert.KernelMlIdeal Cert.KernelMlIdeal.Gen
open Idealize.ShloMosaic Idealize.ShloMosaic.TcCoe Idealize.SL.Sem
open Cert.Proof.MlTile Cert.Proof.MlStep Cert.Proof.MlLoad

section
variable (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x8 .f32) (harg5 : arg5.IsWhole) (arg6 : Memref sig .tc .vmem S1x16x256 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S256x256 .bf16) (harg9 : arg9.IsWhole) (arg10 : Memref sig .tc .vmem S256x256 .bf16) (harg10 : arg10.IsWhole) (arg11 : Memref sig .tc .vmem S1x256x512 .bf16) (harg11 : arg11.IsWhole) (arg12 : Memref sig .tc .vmem S264x1024 .f32) (harg12 : arg12.IsWhole) (arg13 : Memref sig .tc .vmem S4x128x256 .f32) (harg13 : arg13.IsWhole) (arg14 : Memref sig .tc .vmem S8x128 .f32) (harg14 : arg14.IsWhole)
    (x0 : Vec Ideal S1x256x1024 .f32) (x1 : Vec Ideal S1x256x512 .bf16) (x2 : Vec Ideal S1x256x512 .bf16) (x3 : Vec Ideal S1x256x8 .f32) (x4 : Vec Ideal S1x16x256 .f32) (x5 : Vec Ideal S4x1024 .f32) (x6 : Vec Ideal S1x1024 .f32) (x7 : Vec Ideal S256x256 .bf16) (x8 : Vec Ideal S256x256 .bf16)

/-- The first head's part of the block of the result at a sequence's first chunk. -/
theorem outA0 (hc0 : cond0_0 i) (r : Fin 256) (l : Fin 128) : (out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 r (lane 0 l)) : EReal)
    = outE (fun _ _ => 0) (fun _ _ _ => 0) (fun _ => 0) x0 x1 x2 x3 x4 x5 x6 x7 x8 0 r l := by
  frame_out [↓View.readCov_skip, View.readCov_fill]
  rw [at0]
  rw [canon_skip _ _ _ _ _ (by decide)]
  rw [canon_skip _ _ _ _ _ (by decide)]
  rw [canon_skip _ _ _ _ _ (by decide)]
  rw [View.canon_cons_emb]
  refine (MlTile.out0 _ _ _ _ _ _ _ _ _ r l).trans ?_
  simp only [qlane, klane, ldv0 x1, ldv0 x2, ldc0 (k0_pay3 (F := Ideal)), ldm0 (k0_pay4 (F := Ideal)), ldw0 x5, ldw1 x5, ldw2 x5, ldw3 x5, bc0, br0, zero3, zero4, tap_A arg12 x0 (k := 5) (by decide), tap_A arg12 x0 (k := 6) (by decide), tap_A arg12 x0 (k := 7) (by decide), tap_A arg12 x0 (k := 8) (by decide)]
  unfold outE qe ke conv bc br ir
  simp only [lane0]
  rfl

/-- The first head's values carried out of the block at a sequence's first chunk. -/
theorem valA0 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 d ⟨l.val, by omega⟩) : EReal)
    = valE (fun _ _ => 0) (fun _ _ _ => 0) (fun _ => 0) x0 x1 x3 x4 x5 x6 x7 x8 0 d l := by
  frame_out [↓View.readCov_skip, View.readCov_fill]
  rw [state0]
  rw [canon_skip _ _ _ _ _ (by decide)]
  rw [canon_skip _ _ _ _ _ (by decide)]
  rw [canon_skip _ _ _ _ _ (by decide)]
  rw [View.canon_cons_emb]
  refine (MlTile.val0 _ _ _ _ _ _ _ _ l d).trans ?_
  simp only [qlane, klane, ldv0 x1, ldv0 x2, ldc0 (k0_pay3 (F := Ideal)), ldm0 (k0_pay4 (F := Ideal)), ldw0 x5, ldw1 x5, ldw2 x5, ldw3 x5, bc0, br0, zero3, zero4, tap_A arg12 x0 (k := 5) (by decide), tap_A arg12 x0 (k := 6) (by decide), tap_A arg12 x0 (k := 7) (by decide), tap_A arg12 x0 (k := 8) (by decide)]
  unfold valE ke conv bc br ir ic
  simp only [lane0]
  rfl

/-- The first head's normaliser carried out of the block at a sequence's first chunk. -/
theorem normA0 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 d ⟨128 + l.val, by omega⟩) : EReal)
    = normE (fun _ _ => 0) (fun _ _ _ => 0) (fun _ => 0) x0 x3 x4 x5 x6 x7 x8 0 d l := by
  frame_out [↓View.readCov_skip, View.readCov_fill]
  rw [state0]
  rw [canon_skip _ _ _ _ _ (by decide)]
  rw [canon_skip _ _ _ _ _ (by decide)]
  rw [canon_skip _ _ _ _ _ (by decide)]
  rw [View.canon_cons_emb]
  refine (MlTile.norm0 _ _ _ _ _ _ _ _ l d).trans ?_
  simp only [qlane, klane, ldv0 x1, ldv0 x2, ldc0 (k0_pay3 (F := Ideal)), ldm0 (k0_pay4 (F := Ideal)), ldw0 x5, ldw1 x5, ldw2 x5, ldw3 x5, bc0, br0, zero3, zero4, tap_A arg12 x0 (k := 5) (by decide), tap_A arg12 x0 (k := 6) (by decide), tap_A arg12 x0 (k := 7) (by decide), tap_A arg12 x0 (k := 8) (by decide)]
  unfold normE ke conv bc br ir ic
  simp only [lane0]
  rfl

/-- The first head's largest logarithm after the block at a sequence's first chunk. -/
theorem maxA0 (hc0 : cond0_0 i) : (sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 0 0) : EReal)
    = maxE (fun _ => 0) x3 x4 x7 x8 0 := by
  frame_out [↓View.readCov_skip, View.readCov_fill]
  rw [most0]
  rw [canon_skip _ _ _ _ _ (by decide)]
  rw [canon_skip _ _ _ _ _ (by decide)]
  rw [canon_skip _ _ _ _ _ (by decide)]
  rw [View.canon_cons_emb]
  refine (MlTile.max0 _ _ _ _ 0).trans ?_
  simp only [ldm0 (k0_pay4 (F := Ideal)), bc0, br0, zero4]
  unfold maxE bc br ir
  rfl

/-- The second head's part of the block of the result at a sequence's first chunk. -/
theorem outA1 (hc0 : cond0_0 i) (r : Fin 256) (l : Fin 128) : (out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 r (lane 1 l)) : EReal)
    = outE (fun _ _ => 0) (fun _ _ _ => 0) (fun _ => 0) x0 x1 x2 x3 x4 x5 x6 x7 x8 1 r l := by
  frame_out [↓View.readCov_skip, View.readCov_fill]
  rw [at1]
  rw [canon_skip _ _ _ _ _ (by decide)]
  rw [canon_skip _ _ _ _ _ (by decide)]
  rw [View.canon_cons_emb]
  refine (MlTile.out1 _ _ _ _ _ _ _ _ _ r l).trans ?_
  simp only [qlane, klane, ldv1 x1, ldv1 x2, ldc1 (k0_pay3 (F := Ideal)), ldm1 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold outE qe ke conv bc br ir
  rfl

/-- The second head's values carried out of the block at a sequence's first chunk. -/
theorem valA1 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 1 d ⟨l.val, by omega⟩) : EReal)
    = valE (fun _ _ => 0) (fun _ _ _ => 0) (fun _ => 0) x0 x1 x3 x4 x5 x6 x7 x8 1 d l := by
  frame_out [↓View.readCov_skip, View.readCov_fill]
  rw [state1]
  rw [canon_skip _ _ _ _ _ (by decide)]
  rw [canon_skip _ _ _ _ _ (by decide)]
  rw [View.canon_cons_emb]
  refine (MlTile.val1 _ _ _ _ _ _ _ _ l d).trans ?_
  simp only [qlane, klane, ldv1 x1, ldv1 x2, ldc1 (k0_pay3 (F := Ideal)), ldm1 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold valE ke conv bc br ir ic
  rfl

/-- The second head's normaliser carried out of the block at a sequence's first chunk. -/
theorem normA1 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 1 d ⟨128 + l.val, by omega⟩) : EReal)
    = normE (fun _ _ => 0) (fun _ _ _ => 0) (fun _ => 0) x0 x3 x4 x5 x6 x7 x8 1 d l := by
  frame_out [↓View.readCov_skip, View.readCov_fill]
  rw [state1]
  rw [canon_skip _ _ _ _ _ (by decide)]
  rw [canon_skip _ _ _ _ _ (by decide)]
  rw [View.canon_cons_emb]
  refine (MlTile.norm1 _ _ _ _ _ _ _ _ l d).trans ?_
  simp only [qlane, klane, ldv1 x1, ldv1 x2, ldc1 (k0_pay3 (F := Ideal)), ldm1 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold normE ke conv bc br ir ic
  rfl

/-- The second head's largest logarithm after the block at a sequence's first chunk. -/
theorem maxA1 (hc0 : cond0_0 i) : (sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 1 0) : EReal)
    = maxE (fun _ => 0) x3 x4 x7 x8 1 := by
  frame_out [↓View.readCov_skip, View.readCov_fill]
  rw [most1]
  rw [canon_skip _ _ _ _ _ (by decide)]
  rw [canon_skip _ _ _ _ _ (by decide)]
  rw [View.canon_cons_emb]
  refine (MlTile.max1 _ _ _ _ 0).trans ?_
  simp only [ldm1 (k0_pay4 (F := Ideal)), zero4]
  unfold maxE bc br ir
  rfl

/-- The third head's part of the block of the result at a sequence's first chunk. -/
theorem outA2 (hc0 : cond0_0 i) (r : Fin 256) (l : Fin 128) : (out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 r (lane 2 l)) : EReal)
    = outE (fun _ _ => 0) (fun _ _ _ => 0) (fun _ => 0) x0 x1 x2 x3 x4 x5 x6 x7 x8 2 r l := by
  frame_out [↓View.readCov_skip, View.readCov_fill]
  rw [at2]
  rw [canon_skip _ _ _ _ _ (by decide)]
  rw [View.canon_cons_emb]
  refine (MlTile.out2 _ _ _ _ _ _ _ _ _ r l).trans ?_
  simp only [qlane, klane, ldv2 x1, ldv2 x2, ldc2 (k0_pay3 (F := Ideal)), ldm2 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold outE qe ke conv bc br ir
  rfl

/-- The third head's values carried out of the block at a sequence's first chunk. -/
theorem valA2 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 2 d ⟨l.val, by omega⟩) : EReal)
    = valE (fun _ _ => 0) (fun _ _ _ => 0) (fun _ => 0) x0 x1 x3 x4 x5 x6 x7 x8 2 d l := by
  frame_out [↓View.readCov_skip, View.readCov_fill]
  rw [state2]
  rw [canon_skip _ _ _ _ _ (by decide)]
  rw [View.canon_cons_emb]
  refine (MlTile.val2 _ _ _ _ _ _ _ _ l d).trans ?_
  simp only [qlane, klane, ldv2 x1, ldv2 x2, ldc2 (k0_pay3 (F := Ideal)), ldm2 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold valE ke conv bc br ir ic
  rfl

/-- The third head's normaliser carried out of the block at a sequence's first chunk. -/
theorem normA2 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 2 d ⟨128 + l.val, by omega⟩) : EReal)
    = normE (fun _ _ => 0) (fun _ _ _ => 0) (fun _ => 0) x0 x3 x4 x5 x6 x7 x8 2 d l := by
  frame_out [↓View.readCov_skip, View.readCov_fill]
  rw [state2]
  rw [canon_skip _ _ _ _ _ (by decide)]
  rw [View.canon_cons_emb]
  refine (MlTile.norm2 _ _ _ _ _ _ _ _ l d).trans ?_
  simp only [qlane, klane, ldv2 x1, ldv2 x2, ldc2 (k0_pay3 (F := Ideal)), ldm2 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold normE ke conv bc br ir ic
  rfl

/-- The third head's largest logarithm after the block at a sequence's first chunk. -/
theorem maxA2 (hc0 : cond0_0 i) : (sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 2 0) : EReal)
    = maxE (fun _ => 0) x3 x4 x7 x8 2 := by
  frame_out [↓View.readCov_skip, View.readCov_fill]
  rw [most2]
  rw [canon_skip _ _ _ _ _ (by decide)]
  rw [View.canon_cons_emb]
  refine (MlTile.max2 _ _ _ _ 0).trans ?_
  simp only [ldm2 (k0_pay4 (F := Ideal)), zero4]
  unfold maxE bc br ir
  rfl

/-- The fourth head's part of the block of the result at a sequence's first chunk. -/
theorem outA3 (hc0 : cond0_0 i) (r : Fin 256) (l : Fin 128) : (out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 r (lane 3 l)) : EReal)
    = outE (fun _ _ => 0) (fun _ _ _ => 0) (fun _ => 0) x0 x1 x2 x3 x4 x5 x6 x7 x8 3 r l := by
  frame_out [↓View.readCov_skip, View.readCov_fill]
  rw [at3]
  rw [View.canon_cons_emb]
  refine (MlTile.out3 _ _ _ _ _ _ _ _ _ r l).trans ?_
  simp only [qlane, klane, ldv3 x1, ldv3 x2, ldc3 (k0_pay3 (F := Ideal)), ldm3 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold outE qe ke conv bc br ir
  rfl

/-- The fourth head's values carried out of the block at a sequence's first chunk. -/
theorem valA3 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 3 d ⟨l.val, by omega⟩) : EReal)
    = valE (fun _ _ => 0) (fun _ _ _ => 0) (fun _ => 0) x0 x1 x3 x4 x5 x6 x7 x8 3 d l := by
  frame_out [↓View.readCov_skip, View.readCov_fill]
  rw [state3]
  rw [View.canon_cons_emb]
  refine (MlTile.val3 _ _ _ _ _ _ _ _ l d).trans ?_
  simp only [qlane, klane, ldv3 x1, ldv3 x2, ldc3 (k0_pay3 (F := Ideal)), ldm3 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold valE ke conv bc br ir ic
  rfl

/-- The fourth head's normaliser carried out of the block at a sequence's first chunk. -/
theorem normA3 (hc0 : cond0_0 i) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 3 d ⟨128 + l.val, by omega⟩) : EReal)
    = normE (fun _ _ => 0) (fun _ _ _ => 0) (fun _ => 0) x0 x3 x4 x5 x6 x7 x8 3 d l := by
  frame_out [↓View.readCov_skip, View.readCov_fill]
  rw [state3]
  rw [View.canon_cons_emb]
  refine (MlTile.norm3 _ _ _ _ _ _ _ _ l d).trans ?_
  simp only [qlane, klane, ldv3 x1, ldv3 x2, ldc3 (k0_pay3 (F := Ideal)), ldm3 (k0_pay4 (F := Ideal)), ldw0 x5, ldw1 x5, ldw2 x5, ldw3 x5, zero3, zero4, tap_A arg12 x0 (k := 5) (by decide), tap_A arg12 x0 (k := 6) (by decide), tap_A arg12 x0 (k := 7) (by decide), tap_A arg12 x0 (k := 8) (by decide)]
  unfold normE ke conv bc br ir ic
  rfl

/-- The fourth head's largest logarithm after the block at a sequence's first chunk. -/
theorem maxA3 (hc0 : cond0_0 i) : (sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 3 0) : EReal)
    = maxE (fun _ => 0) x3 x4 x7 x8 3 := by
  frame_out [↓View.readCov_skip, View.readCov_fill]
  rw [most3]
  rw [View.canon_cons_emb]
  refine (MlTile.max3 _ _ _ _ 0).trans ?_
  simp only [ldm3 (k0_pay4 (F := Ideal)), zero4]
  unfold maxE bc br ir
  rfl

/-- The last rows of the block are the next block's first ones at a sequence's first chunk. -/
theorem halA (hc0 : cond0_0 i) (n : Fin 8) (c' : Fin 1024) : (sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 ⟨n.val, by omega⟩ c') : EReal) = x0 (ix3 0 ⟨248 + n.val, by omega⟩ c') := by
  frame_out [↓View.readCov_skip, View.readCov_fill]
  rw [rows_low ⟨n.val, by omega⟩ n.isLt c', View.canon_cons_emb]
  refine (pay8 _ _ _).trans ?_
  rw [View.readCov_eq_canon']
  refine (congrArg _ (tail_rows n c')).trans ?_
  rw [View.canon_cons_emb, pay5]

end

end Cert.Proof.MlBlockA

end
-- ==== Proof.MlBlockB.lean ====
module

public import proofs.«01_k».proof.Proof.MlLoad
public import Idealize.ShloMosaic.Lib.Pipeline.ReadBack

@[expose] public section

set_option maxRecDepth 16384

noncomputable section

namespace Cert.Proof.MlBlockB

open Cert.KernelMlIdeal Cert.KernelMlIdeal.Gen
open Idealize.ShloMosaic Idealize.ShloMosaic.TcCoe Idealize.SL.Sem
open Cert.Proof.MlTile Cert.Proof.MlStep Cert.Proof.MlLoad

section
variable (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x8 .f32) (harg5 : arg5.IsWhole) (arg6 : Memref sig .tc .vmem S1x16x256 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S256x256 .bf16) (harg9 : arg9.IsWhole) (arg10 : Memref sig .tc .vmem S256x256 .bf16) (harg10 : arg10.IsWhole) (arg11 : Memref sig .tc .vmem S1x256x512 .bf16) (harg11 : arg11.IsWhole) (arg12 : Memref sig .tc .vmem S264x1024 .f32) (harg12 : arg12.IsWhole) (arg13 : Memref sig .tc .vmem S4x128x256 .f32) (harg13 : arg13.IsWhole) (arg14 : Memref sig .tc .vmem S8x128 .f32) (harg14 : arg14.IsWhole)
    (x0 : Vec Ideal S1x256x1024 .f32) (x1 : Vec Ideal S1x256x512 .bf16) (x2 : Vec Ideal S1x256x512 .bf16) (x3 : Vec Ideal S1x256x8 .f32) (x4 : Vec Ideal S1x16x256 .f32) (x5 : Vec Ideal S4x1024 .f32) (x6 : Vec Ideal S1x1024 .f32) (x7 : Vec Ideal S256x256 .bf16) (x8 : Vec Ideal S256x256 .bf16) (xs0 : Vec Ideal S264x1024 .f32) (xs1 : Vec Ideal S4x128x256 .f32) (xs2 : Vec Ideal S8x128 .f32)

/-- The first head's part of the block of the result. -/
theorem outB0 (hc0 : ¬cond0_0 i) (r : Fin 256) (l : Fin 128) : (out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 0 r (lane 0 l)) : EReal)
    = outE (fun n c => xs0 (ix2 ⟨n.val, by omega⟩ c)) (fun h d e => xs1 (ix3 h d e)) (fun h => xs2 (ix2 ⟨h.val, by omega⟩ 0)) x0 x1 x2 x3 x4 x5 x6 x7 x8 0 r l := by
  frame_out [↓View.readCov_skip, View.readCov_fill]
  rw [at0]
  rw [canon_skip _ _ _ _ _ (by decide)]
  rw [canon_skip _ _ _ _ _ (by decide)]
  rw [canon_skip _ _ _ _ _ (by decide)]
  rw [View.canon_cons_emb]
  refine (MlTile.out0 _ _ _ _ _ _ _ _ _ r l).trans ?_
  simp only [qlane, klane, ldv0 x1, ldv0 x2, ldc0 xs1, ldm0 xs2, ldw0 x5, ldw1 x5, ldw2 x5, ldw3 x5, bc0, br0, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold outE qe ke conv bc br ir
  simp only [lane0]
  rfl

/-- The first head's values carried out of the block. -/
theorem valB0 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 0 d ⟨l.val, by omega⟩) : EReal)
    = valE (fun n c => xs0 (ix2 ⟨n.val, by omega⟩ c)) (fun h d e => xs1 (ix3 h d e)) (fun h => xs2 (ix2 ⟨h.val, by omega⟩ 0)) x0 x1 x3 x4 x5 x6 x7 x8 0 d l := by
  frame_out [↓View.readCov_skip, View.readCov_fill]
  rw [state0]
  rw [canon_skip _ _ _ _ _ (by decide)]
  rw [canon_skip _ _ _ _ _ (by decide)]
  rw [canon_skip _ _ _ _ _ (by decide)]
  rw [View.canon_cons_emb]
  refine (MlTile.val0 _ _ _ _ _ _ _ _ l d).trans ?_
  simp only [qlane, klane, ldv0 x1, ldv0 x2, ldc0 xs1, ldm0 xs2, ldw0 x5, ldw1 x5, ldw2 x5, ldw3 x5, bc0, br0, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold valE ke conv bc br ir ic
  simp only [lane0]
  rfl

/-- The first head's normaliser carried out of the block. -/
theorem normB0 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 0 d ⟨128 + l.val, by omega⟩) : EReal)
    = normE (fun n c => xs0 (ix2 ⟨n.val, by omega⟩ c)) (fun h d e => xs1 (ix3 h d e)) (fun h => xs2 (ix2 ⟨h.val, by omega⟩ 0)) x0 x3 x4 x5 x6 x7 x8 0 d l := by
  frame_out [↓View.readCov_skip, View.readCov_fill]
  rw [state0]
  rw [canon_skip _ _ _ _ _ (by decide)]
  rw [canon_skip _ _ _ _ _ (by decide)]
  rw [canon_skip _ _ _ _ _ (by decide)]
  rw [View.canon_cons_emb]
  refine (MlTile.norm0 _ _ _ _ _ _ _ _ l d).trans ?_
  simp only [qlane, klane, ldv0 x1, ldv0 x2, ldc0 xs1, ldm0 xs2, ldw0 x5, ldw1 x5, ldw2 x5, ldw3 x5, bc0, br0, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold normE ke conv bc br ir ic
  simp only [lane0]
  rfl

/-- The first head's largest logarithm after the block. -/
theorem maxB0 (hc0 : ¬cond0_0 i) : (sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 0 0) : EReal)
    = maxE (fun h => xs2 (ix2 ⟨h.val, by omega⟩ 0)) x3 x4 x7 x8 0 := by
  frame_out [↓View.readCov_skip, View.readCov_fill]
  rw [most0]
  rw [read_skip _ _ _ _ _ _ _ (by decide)]
  rw [read_skip _ _ _ _ _ _ _ (by decide)]
  rw [read_skip _ _ _ _ _ _ _ (by decide)]
  rw [View.read_writes_cons_emb]
  refine (MlTile.max0 _ _ _ _ 0).trans ?_
  simp only [ldm0 xs2, bc0, br0]
  unfold maxE bc br ir
  rfl

/-- The second head's part of the block of the result. -/
theorem outB1 (hc0 : ¬cond0_0 i) (r : Fin 256) (l : Fin 128) : (out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 0 r (lane 1 l)) : EReal)
    = outE (fun n c => xs0 (ix2 ⟨n.val, by omega⟩ c)) (fun h d e => xs1 (ix3 h d e)) (fun h => xs2 (ix2 ⟨h.val, by omega⟩ 0)) x0 x1 x2 x3 x4 x5 x6 x7 x8 1 r l := by
  frame_out [↓View.readCov_skip, View.readCov_fill]
  rw [at1]
  rw [canon_skip _ _ _ _ _ (by decide)]
  rw [canon_skip _ _ _ _ _ (by decide)]
  rw [View.canon_cons_emb]
  refine (MlTile.out1 _ _ _ _ _ _ _ _ _ r l).trans ?_
  simp only [qlane, klane, ldv1 x1, ldv1 x2, ldc1 xs1, ldm1 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold outE qe ke conv bc br ir
  rfl

/-- The second head's values carried out of the block. -/
theorem valB1 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 1 d ⟨l.val, by omega⟩) : EReal)
    = valE (fun n c => xs0 (ix2 ⟨n.val, by omega⟩ c)) (fun h d e => xs1 (ix3 h d e)) (fun h => xs2 (ix2 ⟨h.val, by omega⟩ 0)) x0 x1 x3 x4 x5 x6 x7 x8 1 d l := by
  frame_out [↓View.readCov_skip, View.readCov_fill]
  rw [state1]
  rw [canon_skip _ _ _ _ _ (by decide)]
  rw [canon_skip _ _ _ _ _ (by decide)]
  rw [View.canon_cons_emb]
  refine (MlTile.val1 _ _ _ _ _ _ _ _ l d).trans ?_
  simp only [qlane, klane, ldv1 x1, ldv1 x2, ldc1 xs1, ldm1 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold valE ke conv bc br ir ic
  rfl

/-- The second head's normaliser carried out of the block. -/
theorem normB1 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 1 d ⟨128 + l.val, by omega⟩) : EReal)
    = normE (fun n c => xs0 (ix2 ⟨n.val, by omega⟩ c)) (fun h d e => xs1 (ix3 h d e)) (fun h => xs2 (ix2 ⟨h.val, by omega⟩ 0)) x0 x3 x4 x5 x6 x7 x8 1 d l := by
  frame_out [↓View.readCov_skip, View.readCov_fill]
  rw [state1]
  rw [canon_skip _ _ _ _ _ (by decide)]
  rw [canon_skip _ _ _ _ _ (by decide)]
  rw [View.canon_cons_emb]
  refine (MlTile.norm1 _ _ _ _ _ _ _ _ l d).trans ?_
  simp only [qlane, klane, ldv1 x1, ldv1 x2, ldc1 xs1, ldm1 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold normE ke conv bc br ir ic
  rfl

/-- The second head's largest logarithm after the block. -/
theorem maxB1 (hc0 : ¬cond0_0 i) : (sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 1 0) : EReal)
    = maxE (fun h => xs2 (ix2 ⟨h.val, by omega⟩ 0)) x3 x4 x7 x8 1 := by
  frame_out [↓View.readCov_skip, View.readCov_fill]
  rw [most1]
  rw [read_skip _ _ _ _ _ _ _ (by decide)]
  rw [read_skip _ _ _ _ _ _ _ (by decide)]
  rw [View.read_writes_cons_emb]
  refine (MlTile.max1 _ _ _ _ 0).trans ?_
  simp only [ldm1 xs2]
  unfold maxE bc br ir
  rfl

/-- The third head's part of the block of the result. -/
theorem outB2 (hc0 : ¬cond0_0 i) (r : Fin 256) (l : Fin 128) : (out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 0 r (lane 2 l)) : EReal)
    = outE (fun n c => xs0 (ix2 ⟨n.val, by omega⟩ c)) (fun h d e => xs1 (ix3 h d e)) (fun h => xs2 (ix2 ⟨h.val, by omega⟩ 0)) x0 x1 x2 x3 x4 x5 x6 x7 x8 2 r l := by
  frame_out [↓View.readCov_skip, View.readCov_fill]
  rw [at2]
  rw [canon_skip _ _ _ _ _ (by decide)]
  rw [View.canon_cons_emb]
  refine (MlTile.out2 _ _ _ _ _ _ _ _ _ r l).trans ?_
  simp only [qlane, klane, ldv2 x1, ldv2 x2, ldc2 xs1, ldm2 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold outE qe ke conv bc br ir
  rfl

/-- The third head's values carried out of the block. -/
theorem valB2 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 2 d ⟨l.val, by omega⟩) : EReal)
    = valE (fun n c => xs0 (ix2 ⟨n.val, by omega⟩ c)) (fun h d e => xs1 (ix3 h d e)) (fun h => xs2 (ix2 ⟨h.val, by omega⟩ 0)) x0 x1 x3 x4 x5 x6 x7 x8 2 d l := by
  frame_out [↓View.readCov_skip, View.readCov_fill]
  rw [state2]
  rw [canon_skip _ _ _ _ _ (by decide)]
  rw [View.canon_cons_emb]
  refine (MlTile.val2 _ _ _ _ _ _ _ _ l d).trans ?_
  simp only [qlane, klane, ldv2 x1, ldv2 x2, ldc2 xs1, ldm2 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold valE ke conv bc br ir ic
  rfl

/-- The third head's normaliser carried out of the block. -/
theorem normB2 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 2 d ⟨128 + l.val, by omega⟩) : EReal)
    = normE (fun n c => xs0 (ix2 ⟨n.val, by omega⟩ c)) (fun h d e => xs1 (ix3 h d e)) (fun h => xs2 (ix2 ⟨h.val, by omega⟩ 0)) x0 x3 x4 x5 x6 x7 x8 2 d l := by
  frame_out [↓View.readCov_skip, View.readCov_fill]
  rw [state2]
  rw [canon_skip _ _ _ _ _ (by decide)]
  rw [View.canon_cons_emb]
  refine (MlTile.norm2 _ _ _ _ _ _ _ _ l d).trans ?_
  simp only [qlane, klane, ldv2 x1, ldv2 x2, ldc2 xs1, ldm2 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold normE ke conv bc br ir ic
  rfl

/-- The third head's largest logarithm after the block. -/
theorem maxB2 (hc0 : ¬cond0_0 i) : (sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 2 0) : EReal)
    = maxE (fun h => xs2 (ix2 ⟨h.val, by omega⟩ 0)) x3 x4 x7 x8 2 := by
  frame_out [↓View.readCov_skip, View.readCov_fill]
  rw [most2]
  rw [read_skip _ _ _ _ _ _ _ (by decide)]
  rw [View.read_writes_cons_emb]
  refine (MlTile.max2 _ _ _ _ 0).trans ?_
  simp only [ldm2 xs2]
  unfold maxE bc br ir
  rfl

/-- The fourth head's part of the block of the result. -/
theorem outB3 (hc0 : ¬cond0_0 i) (r : Fin 256) (l : Fin 128) : (out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 0 r (lane 3 l)) : EReal)
    = outE (fun n c => xs0 (ix2 ⟨n.val, by omega⟩ c)) (fun h d e => xs1 (ix3 h d e)) (fun h => xs2 (ix2 ⟨h.val, by omega⟩ 0)) x0 x1 x2 x3 x4 x5 x6 x7 x8 3 r l := by
  frame_out [↓View.readCov_skip, View.readCov_fill]
  rw [at3]
  rw [View.canon_cons_emb]
  refine (MlTile.out3 _ _ _ _ _ _ _ _ _ r l).trans ?_
  simp only [qlane, klane, ldv3 x1, ldv3 x2, ldc3 xs1, ldm3 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold outE qe ke conv bc br ir
  rfl

/-- The fourth head's values carried out of the block. -/
theorem valB3 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 3 d ⟨l.val, by omega⟩) : EReal)
    = valE (fun n c => xs0 (ix2 ⟨n.val, by omega⟩ c)) (fun h d e => xs1 (ix3 h d e)) (fun h => xs2 (ix2 ⟨h.val, by omega⟩ 0)) x0 x1 x3 x4 x5 x6 x7 x8 3 d l := by
  frame_out [↓View.readCov_skip, View.readCov_fill]
  rw [state3]
  rw [View.canon_cons_emb]
  refine (MlTile.val3 _ _ _ _ _ _ _ _ l d).trans ?_
  simp only [qlane, klane, ldv3 x1, ldv3 x2, ldc3 xs1, ldm3 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold valE ke conv bc br ir ic
  rfl

/-- The fourth head's normaliser carried out of the block. -/
theorem normB3 (hc0 : ¬cond0_0 i) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 3 d ⟨128 + l.val, by omega⟩) : EReal)
    = normE (fun n c => xs0 (ix2 ⟨n.val, by omega⟩ c)) (fun h d e => xs1 (ix3 h d e)) (fun h => xs2 (ix2 ⟨h.val, by omega⟩ 0)) x0 x3 x4 x5 x6 x7 x8 3 d l := by
  frame_out [↓View.readCov_skip, View.readCov_fill]
  rw [state3]
  rw [View.canon_cons_emb]
  refine (MlTile.norm3 _ _ _ _ _ _ _ _ l d).trans ?_
  simp only [qlane, klane, ldv3 x1, ldv3 x2, ldc3 xs1, ldm3 xs2, ldw0 x5, ldw1 x5, ldw2 x5, ldw3 x5, tap_B arg12 harg12 x0 xs0 (k := 5) (by decide), tap_B arg12 harg12 x0 xs0 (k := 6) (by decide), tap_B arg12 harg12 x0 xs0 (k := 7) (by decide), tap_own arg12 x0 (fun n c => xs0 (ix2 ⟨n.val, by omega⟩ c))]
  unfold normE ke conv bc br ir ic
  rfl

/-- The fourth head's largest logarithm after the block. -/
theorem maxB3 (hc0 : ¬cond0_0 i) : (sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 3 0) : EReal)
    = maxE (fun h => xs2 (ix2 ⟨h.val, by omega⟩ 0)) x3 x4 x7 x8 3 := by
  frame_out [↓View.readCov_skip, View.readCov_fill]
  rw [most3]
  rw [View.read_writes_cons_emb]
  refine (MlTile.max3 _ _ _ _ 0).trans ?_
  simp only [ldm3 xs2]
  unfold maxE bc br ir
  rfl

/-- The last rows of the block are the next block's first ones. -/
theorem halB (hc0 : ¬cond0_0 i) (n : Fin 8) (c' : Fin 1024) : (sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 ⟨n.val, by omega⟩ c') : EReal) = x0 (ix3 0 ⟨248 + n.val, by omega⟩ c') := by
  frame_out [↓View.readCov_skip, View.readCov_fill]
  rw [rows_low ⟨n.val, by omega⟩ n.isLt c', View.canon_cons_emb]
  refine (pay8 _ _ _).trans ?_
  rw [View.readCov_eq_canon']
  refine (congrArg _ (tail_rows n c')).trans ?_
  rw [View.canon_cons_emb, pay5]

end

end Cert.Proof.MlBlockB

end
-- ==== Proof.MlHeads.lean ====
module

public import proofs.«01_k».proof.Proof.MlBlockA
public import proofs.«01_k».proof.Proof.MlBlockB
public import proofs.«01_k».proof.Proof.MlChunk

@[expose] public section

set_option maxRecDepth 16384

noncomputable section

namespace Cert.Proof.MlHeads

open Idealize.ShloMosaic Idealize.ShloMosaic.TcCoe Idealize.SL.Sem
open Cert.KernelMlIdeal Cert.KernelMlIdeal.Gen
open Cert.Proof.MlTile Cert.Proof.MlStep Cert.Proof.MlMath Cert.Proof.MlChunk

section
variable (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x8 .f32) (harg5 : arg5.IsWhole) (arg6 : Memref sig .tc .vmem S1x16x256 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S256x256 .bf16) (harg9 : arg9.IsWhole) (arg10 : Memref sig .tc .vmem S256x256 .bf16) (harg10 : arg10.IsWhole) (arg11 : Memref sig .tc .vmem S1x256x512 .bf16) (harg11 : arg11.IsWhole) (arg12 : Memref sig .tc .vmem S264x1024 .f32) (harg12 : arg12.IsWhole) (arg13 : Memref sig .tc .vmem S4x128x256 .f32) (harg13 : arg13.IsWhole) (arg14 : Memref sig .tc .vmem S8x128 .f32) (harg14 : arg14.IsWhole)
    (x0 : Vec Ideal S1x256x1024 .f32) (x1 : Vec Ideal S1x256x512 .bf16) (x2 : Vec Ideal S1x256x512 .bf16) (x3 : Vec Ideal S1x256x8 .f32) (x4 : Vec Ideal S1x16x256 .f32) (x5 : Vec Ideal S4x1024 .f32) (x6 : Vec Ideal S1x1024 .f32) (x7 : Vec Ideal S256x256 .bf16) (x8 : Vec Ideal S256x256 .bf16) (xs0 : Vec Ideal S264x1024 .f32) (xs1 : Vec Ideal S4x128x256 .f32) (xs2 : Vec Ideal S8x128 .f32) (hc0 : ¬cond0_0 i)

/-- The block of the result, over all heads. -/
theorem outB (h : Fin 4) (r : Fin 256) (l : Fin 128) : (out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 0 r (lane h l)) : EReal) = outE (fun n c => xs0 (ix2 ⟨n.val, by omega⟩ c)) (fun h d e => xs1 (ix3 h d e)) (fun h => xs2 (ix2 ⟨h.val, by omega⟩ 0)) x0 x1 x2 x3 x4 x5 x6 x7 x8 h r l :=
  match h with
  | 0 => MlBlockB.outB0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 r l
  | 1 => MlBlockB.outB1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 r l
  | 2 => MlBlockB.outB2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 r l
  | 3 => MlBlockB.outB3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 r l

/-- The carried values, over all heads. -/
theorem valB (h : Fin 4) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 h d ⟨l.val, by omega⟩) : EReal) = valE (fun n c => xs0 (ix2 ⟨n.val, by omega⟩ c)) (fun h d e => xs1 (ix3 h d e)) (fun h => xs2 (ix2 ⟨h.val, by omega⟩ 0)) x0 x1 x3 x4 x5 x6 x7 x8 h d l :=
  match h with
  | 0 => MlBlockB.valB0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l
  | 1 => MlBlockB.valB1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l
  | 2 => MlBlockB.valB2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l
  | 3 => MlBlockB.valB3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l

/-- The carried normaliser, over all heads. -/
theorem normB (h : Fin 4) (d l : Fin 128) : (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 h d ⟨128 + l.val, by omega⟩) : EReal) = normE (fun n c => xs0 (ix2 ⟨n.val, by omega⟩ c)) (fun h d e => xs1 (ix3 h d e)) (fun h => xs2 (ix2 ⟨h.val, by omega⟩ 0)) x0 x3 x4 x5 x6 x7 x8 h d l :=
  match h with
  | 0 => MlBlockB.normB0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l
  | 1 => MlBlockB.normB1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l
  | 2 => MlBlockB.normB2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l
  | 3 => MlBlockB.normB3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 d l

/-- The carried largest logarithm, over all heads. -/
theorem maxB (h : Fin 4) : (sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 ⟨h.val, by omega⟩ 0) : EReal) = maxE (fun h => xs2 (ix2 ⟨h.val, by omega⟩ 0)) x3 x4 x7 x8 h :=
  match h with
  | 0 => MlBlockB.maxB0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0
  | 1 => MlBlockB.maxB1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0
  | 2 => MlBlockB.maxB2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0
  | 3 => MlBlockB.maxB3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0

/-- The carried state, given what it was before. -/
theorem nextB {x : ℕ → Fin 1024 → ℝ} {w : Fin 4 → Fin 1024 → ℝ} {β : Fin 1024 → ℝ} {v : ℕ → Fin 512 → ℝ} {γ : ℕ → Fin 8 → ℝ} {p : ℕ} (K : Blocks x w β v γ p x0 x1 x3 x4 x5 x6 x7 x8)
    (S : State x w β v γ p (fun n c => xs0 (ix2 ⟨n.val, by omega⟩ c)) (fun h d e => xs1 (ix3 h d e)) (fun h => xs2 (ix2 ⟨h.val, by omega⟩ 0))) :
    State x w β v γ (p + 256) (fun n k => sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 ⟨n.val, by omega⟩ k)) (fun h d e => sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix3 h d e)) (fun h => sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 (ix2 ⟨h.val, by omega⟩ 0)) := by
  have hs := state_next K S
  constructor
  · intro n hn k
    exact (MlBlockB.halB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 n k).trans (hs.hh n hn k)
  · intro h d l
    refine (valB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 h d l).trans (Eq.trans ?_ (hs.hval h d l))
    rw [dif_pos l.isLt]
  · intro h d l
    refine (normB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 h d l).trans (Eq.trans ?_ (hs.hnorm h d l))
    rw [dif_neg (by simp)]
    congr 1
    exact Fin.ext (by show l.val = 128 + l.val - 128; omega)
  · intro h
    exact (maxB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 h).trans (hs.hM h)

variable {O : Vec Ideal S1x256x512 .bf16 × Vec Ideal S264x1024 .f32 × Vec Ideal S4x128x256 .f32 × Vec Ideal S8x128 .f32}
  (hO : O = (out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2, sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2, sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2, sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2))
include hO

/-- The carried state, of what a point leaves. -/
theorem leftB {x : ℕ → Fin 1024 → ℝ} {w : Fin 4 → Fin 1024 → ℝ} {β : Fin 1024 → ℝ} {v : ℕ → Fin 512 → ℝ} {γ : ℕ → Fin 8 → ℝ} {p : ℕ} (K : Blocks x w β v γ p x0 x1 x3 x4 x5 x6 x7 x8)
    (S : State x w β v γ p (fun n c => xs0 (ix2 ⟨n.val, by omega⟩ c)) (fun h d e => xs1 (ix3 h d e)) (fun h => xs2 (ix2 ⟨h.val, by omega⟩ 0))) :
    State x w β v γ (p + 256) (fun n k => O.2.1 (ix2 ⟨n.val, by omega⟩ k)) (fun h d e => O.2.2.1 (ix3 h d e)) (fun h => O.2.2.2 (ix2 ⟨h.val, by omega⟩ 0)) := by
  subst hO
  dsimp only
  exact nextB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 K S

/-- The block of the result, of what a point leaves. -/
theorem resB {x : ℕ → Fin 1024 → ℝ} {w : Fin 4 → Fin 1024 → ℝ} {β : Fin 1024 → ℝ} {v : ℕ → Fin 512 → ℝ} {γ : ℕ → Fin 8 → ℝ} {p : ℕ} (K : Blocks x w β v γ p x0 x1 x3 x4 x5 x6 x7 x8)
    (S : State x w β v γ p (fun n c => xs0 (ix2 ⟨n.val, by omega⟩ c)) (fun h d e => xs1 (ix3 h d e)) (fun h => xs2 (ix2 ⟨h.val, by omega⟩ 0))) (h : Fin 4) (r : Fin 256) (l : Fin 128) :
    (O.1 (ix3 0 r (lane h l)) : EReal) = spec (fR γ h) (iR γ h) (qR x w β h) (kR x w β h) (fun s => v s (lane h l)) (x2 (ix3 0 r (lane h l))) (p + r.val) := by
  subst hO
  dsimp only
  exact (outB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 xs2 hc0 h r l).trans (out_eq K S h r l)

end

section
variable (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x8 .f32) (harg5 : arg5.IsWhole) (arg6 : Memref sig .tc .vmem S1x16x256 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S256x256 .bf16) (harg9 : arg9.IsWhole) (arg10 : Memref sig .tc .vmem S256x256 .bf16) (harg10 : arg10.IsWhole) (arg11 : Memref sig .tc .vmem S1x256x512 .bf16) (harg11 : arg11.IsWhole) (arg12 : Memref sig .tc .vmem S264x1024 .f32) (harg12 : arg12.IsWhole) (arg13 : Memref sig .tc .vmem S4x128x256 .f32) (harg13 : arg13.IsWhole) (arg14 : Memref sig .tc .vmem S8x128 .f32) (harg14 : arg14.IsWhole)
    (x0 : Vec Ideal S1x256x1024 .f32) (x1 : Vec Ideal S1x256x512 .bf16) (x2 : Vec Ideal S1x256x512 .bf16) (x3 : Vec Ideal S1x256x8 .f32) (x4 : Vec Ideal S1x16x256 .f32) (x5 : Vec Ideal S4x1024 .f32) (x6 : Vec Ideal S1x1024 .f32) (x7 : Vec Ideal S256x256 .bf16) (x8 : Vec Ideal S256x256 .bf16) (hc0 : cond0_0 i)

/-- The block of the result at a sequence's first chunk, over all heads. -/
theorem outA (h : Fin 4) (r : Fin 256) (l : Fin 128) : (out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 r (lane h l)) : EReal) = outE (fun _ _ => 0) (fun _ _ _ => 0) (fun _ => 0) x0 x1 x2 x3 x4 x5 x6 x7 x8 h r l :=
  match h with
  | 0 => MlBlockA.outA0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 r l
  | 1 => MlBlockA.outA1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 r l
  | 2 => MlBlockA.outA2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 r l
  | 3 => MlBlockA.outA3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 r l

/-- The carried values at a sequence's first chunk, over all heads. -/
theorem valA (h : Fin 4) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 h d ⟨l.val, by omega⟩) : EReal) = valE (fun _ _ => 0) (fun _ _ _ => 0) (fun _ => 0) x0 x1 x3 x4 x5 x6 x7 x8 h d l :=
  match h with
  | 0 => MlBlockA.valA0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l
  | 1 => MlBlockA.valA1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l
  | 2 => MlBlockA.valA2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l
  | 3 => MlBlockA.valA3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l

/-- The carried normaliser at a sequence's first chunk, over all heads. -/
theorem normA (h : Fin 4) (d l : Fin 128) : (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 h d ⟨128 + l.val, by omega⟩) : EReal) = normE (fun _ _ => 0) (fun _ _ _ => 0) (fun _ => 0) x0 x3 x4 x5 x6 x7 x8 h d l :=
  match h with
  | 0 => MlBlockA.normA0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l
  | 1 => MlBlockA.normA1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l
  | 2 => MlBlockA.normA2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l
  | 3 => MlBlockA.normA3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 d l

/-- The carried largest logarithm at a sequence's first chunk, over all heads. -/
theorem maxA (h : Fin 4) : (sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 ⟨h.val, by omega⟩ 0) : EReal) = maxE (fun _ => 0) x3 x4 x7 x8 h :=
  match h with
  | 0 => MlBlockA.maxA0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0
  | 1 => MlBlockA.maxA1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0
  | 2 => MlBlockA.maxA2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0
  | 3 => MlBlockA.maxA3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0

/-- The carried state at a sequence's first chunk, given what it was before. -/
theorem nextA {x : ℕ → Fin 1024 → ℝ} {w : Fin 4 → Fin 1024 → ℝ} {β : Fin 1024 → ℝ} {v : ℕ → Fin 512 → ℝ} {γ : ℕ → Fin 8 → ℝ} {p : ℕ} (K : Blocks x w β v γ p x0 x1 x3 x4 x5 x6 x7 x8)
    (S : State x w β v γ p (fun _ _ => 0) (fun _ _ _ => 0) (fun _ => 0)) :
    State x w β v γ (p + 256) (fun n k => sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 ⟨n.val, by omega⟩ k)) (fun h d e => sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 h d e)) (fun h => sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 ⟨h.val, by omega⟩ 0)) := by
  have hs := state_next K S
  constructor
  · intro n hn k
    exact (MlBlockA.halA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 n k).trans (hs.hh n hn k)
  · intro h d l
    refine (valA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 h d l).trans (Eq.trans ?_ (hs.hval h d l))
    rw [dif_pos l.isLt]
  · intro h d l
    refine (normA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 h d l).trans (Eq.trans ?_ (hs.hnorm h d l))
    rw [dif_neg (by simp)]
    congr 1
    exact Fin.ext (by show l.val = 128 + l.val - 128; omega)
  · intro h
    exact (maxA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 h).trans (hs.hM h)

variable {O : Vec Ideal S1x256x512 .bf16 × Vec Ideal S264x1024 .f32 × Vec Ideal S4x128x256 .f32 × Vec Ideal S8x128 .f32}
  (hO : O = (out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8, sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8, sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8, sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8))
include hO

/-- The carried state at a sequence's first chunk, of what a point leaves. -/
theorem leftA {x : ℕ → Fin 1024 → ℝ} {w : Fin 4 → Fin 1024 → ℝ} {β : Fin 1024 → ℝ} {v : ℕ → Fin 512 → ℝ} {γ : ℕ → Fin 8 → ℝ} {p : ℕ} (K : Blocks x w β v γ p x0 x1 x3 x4 x5 x6 x7 x8)
    (S : State x w β v γ p (fun _ _ => 0) (fun _ _ _ => 0) (fun _ => 0)) :
    State x w β v γ (p + 256) (fun n k => O.2.1 (ix2 ⟨n.val, by omega⟩ k)) (fun h d e => O.2.2.1 (ix3 h d e)) (fun h => O.2.2.2 (ix2 ⟨h.val, by omega⟩ 0)) := by
  subst hO
  dsimp only
  exact nextA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 K S

/-- The block of the result at a sequence's first chunk, of what a point leaves. -/
theorem resA {x : ℕ → Fin 1024 → ℝ} {w : Fin 4 → Fin 1024 → ℝ} {β : Fin 1024 → ℝ} {v : ℕ → Fin 512 → ℝ} {γ : ℕ → Fin 8 → ℝ} {p : ℕ} (K : Blocks x w β v γ p x0 x1 x3 x4 x5 x6 x7 x8)
    (S : State x w β v γ p (fun _ _ => 0) (fun _ _ _ => 0) (fun _ => 0)) (h : Fin 4) (r : Fin 256) (l : Fin 128) :
    (O.1 (ix3 0 r (lane h l)) : EReal) = spec (fR γ h) (iR γ h) (qR x w β h) (kR x w β h) (fun s => v s (lane h l)) (x2 (ix3 0 r (lane h l))) (p + r.val) := by
  subst hO
  dsimp only
  exact (outA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 h r l).trans (out_eq K S h r l)

end

end Cert.Proof.MlHeads

end
-- ==== Proof.MlKernel.lean ====
module

public import proofs.«01_k».proof.Proof.Gen.KernelMlIdeal.Value
public import proofs.«01_k».proof.Proof.MlRows
public import proofs.«01_k».proof.Proof.MlHeads

@[expose] public section

set_option maxRecDepth 16384

noncomputable section

namespace Cert.Proof.MlKernel

open Idealize.ShloMosaic Idealize.ShloMosaic.TcCoe Idealize.SL.Sem
open Cert.KernelMlIdeal Cert.KernelMlIdeal.Gen
open Cert.Proof.MlTile Cert.Proof.MlStep Cert.Proof.MlMath Cert.Proof.MlChunk Cert.Proof.MlRows Cert.Proof.MlHeads
open Idealize.ShloMosaic.Pipeline (Dat)

variable (m : (ℓ : Loc nD τ sig) → Buf (Elt Ideal) ℓ) (c : Dev nD)

/-- What a point leaves to the next: the state after its chunk. -/
def Left (n : ℕ) (hn : n < cfg0.N) : Prop :=
  State (xR m c ⟨n / 16, by have := lt ⟨n, hn⟩; simp only [] at this; omega⟩) (wR m c) (βR m c) (vR m c ⟨n / 16, by have := lt ⟨n, hn⟩; simp only [] at this; omega⟩) (γR m c ⟨n / 16, by have := lt ⟨n, hn⟩; simp only [] at this; omega⟩)
    (256 * (n % 16) + 256) (fun k l => (outsAt0 m c n hn).2.1 (ix2 ⟨k.val, by omega⟩ l)) (fun h d e => (outsAt0 m c n hn).2.2.1 (ix3 h d e)) (fun h => (outsAt0 m c n hn).2.2.2 (ix2 ⟨h.val, by omega⟩ 0))

/-- What a point that is not its sequence's first finds: the state before its chunk. -/
theorem found (t : Fin cfg0.N) (h0 : ¬t.val % 16 = 0) (L : Left m c (t.val - 1) (Nat.lt_of_le_of_lt (Nat.sub_le _ _) t.isLt)) :
    State (xR m c ⟨t.val / 16, by have := lt t; omega⟩) (wR m c) (βR m c) (vR m c ⟨t.val / 16, by have := lt t; omega⟩) (γR m c ⟨t.val / 16, by have := lt t; omega⟩)
      (256 * (t.val % 16)) (fun k l => (outsAt0 m c (t.val - 1) (Nat.lt_of_le_of_lt (Nat.sub_le _ _) t.isLt)).2.1 (ix2 ⟨k.val, by omega⟩ l))
      (fun h d e => (outsAt0 m c (t.val - 1) (Nat.lt_of_le_of_lt (Nat.sub_le _ _) t.isLt)).2.2.1 (ix3 h d e)) (fun h => (outsAt0 m c (t.val - 1) (Nat.lt_of_le_of_lt (Nat.sub_le _ _) t.isLt)).2.2.2 (ix2 ⟨h.val, by omega⟩ 0)) := by
  have e1 : (t.val - 1) / 16 = t.val / 16 := by omega
  have e2 : 256 * ((t.val - 1) % 16) + 256 = 256 * (t.val % 16) := by omega
  have hL := L
  unfold Left at hL
  simp only [e1, e2] at hL
  exact hL

/-- At a sequence's first point nothing is carried in. -/
theorem zero (t : Fin cfg0.N) (h0 : t.val % 16 = 0) :
    State (xR m c ⟨t.val / 16, by have := lt t; omega⟩) (wR m c) (βR m c) (vR m c ⟨t.val / 16, by have := lt t; omega⟩) (γR m c ⟨t.val / 16, by have := lt t; omega⟩)
      (256 * (t.val % 16)) (fun _ _ => 0) (fun _ _ _ => 0) (fun _ => 0) := by
  rw [h0]
  exact state_zero _ _ _ _ _

/-- A first point leaves the state after its chunk. -/
theorem left_first (H : Real m c) (t : Fin cfg0.N) (h0 : t.val % 16 = 0) : Left m c t.val t.isLt := by
  exact leftA _ _ _ _ _ _ _ _ _ _ _ _ _ _ _ _ _ _ _ _ _ _ _ _ _ _ _ _ _ _ _ _ _ _ _ _ _ _ (outsAt0_A m c t h0) (blocks m c H t) (zero m c t h0)

/-- A later point leaves the state after its chunk. -/
theorem left_next (H : Real m c) (t : Fin cfg0.N) (h0 : ¬t.val % 16 = 0) (L : Left m c (t.val - 1) (Nat.lt_of_le_of_lt (Nat.sub_le _ _) t.isLt)) : Left m c t.val t.isLt := by
  exact leftB _ _ _ _ _ _ _ _ _ _ _ _ _ _ _ _ _ _ _ _ _ _ _ _ _ _ _ _ _ _ _ _ _ _ _ _ _ _ _ _ _ (outsAt0_B m c t h0) (blocks m c H t) (found m c t h0 L)

/-- Every point leaves the state after its chunk. -/
theorem left (H : Real m c) : ∀ (n : ℕ) (hn : n < cfg0.N), Left m c n hn
  | 0, hn => left_first m c H ⟨0, hn⟩ (Nat.zero_mod _)
  | n + 1, hn =>
    if h0 : (n + 1) % 16 = 0 then left_first m c H ⟨n + 1, hn⟩ h0
    else left_next m c H ⟨n + 1, hn⟩ h0 (left H n (Nat.lt_of_succ_lt hn))

/-- An entry of the result. -/
def entry (b : Fin 16) (n : ℕ) (h : Fin 4) (l : Fin 128) (o : EReal) : EReal :=
  spec (fR (γR m c b) h) (iR (γR m c b) h) (qR (xR m c b) (wR m c) (βR m c) h) (kR (xR m c b) (wR m c) (βR m c) h) (fun s => vR m c b s (lane h l)) o n

/-- A point's block of the result. -/
theorem block9 (H : Real m c) (t : Fin cfg0.N) (r : Fin 256) (h : Fin 4) (l : Fin 128) : ((outsAt0 m c t.val t.isLt).1 (ix3 0 r (lane h l)) : EReal)
    = entry m c ⟨t.val / 16, by have := lt t; omega⟩ (256 * (t.val % 16) + r.val) h l (iblk m c 2 t (ix3 0 r (lane h l))) := by
  by_cases h0 : t.val % 16 = 0
  · exact resA _ _ _ _ _ _ _ _ _ _ _ _ _ _ _ _ _ _ _ _ _ _ _ _ _ _ _ _ _ _ _ _ _ _ _ _ _ _ (outsAt0_A m c t h0) (blocks m c H t) (zero m c t h0) h r l
  · exact resB _ _ _ _ _ _ _ _ _ _ _ _ _ _ _ _ _ _ _ _ _ _ _ _ _ _ _ _ _ _ _ _ _ _ _ _ _ _ _ _ _ (outsAt0_B m c t h0) (blocks m c H t) (found m c t h0 (left m c H _ _)) h r l

/-- What the result holds. -/
def out9 (i : S16x4096x512.Idx) : EReal :=
  entry m c (i 0) (i 1).val ⟨(i 2).val / 128, by have := (i 2).isLt; simp at this; omega⟩ ⟨(i 2).val % 128, Nat.mod_lt _ (by decide)⟩ (m ((c : Thread nD τ).loc main_arg2) i)

/-- The array after the last point. -/
theorem array9 (H : Real m c) (i : S16x4096x512.Idx) : (dats m 0 c).arrAt 9 cfg0.N i = out9 m c i := by
  revert i
  refine congrFun ((dats m 0 c).arrAt_eq_of_covers 9 (out9 m c) (by decide +kernel) fun t _ y => ?_)
  blk_simp
  rw [after0_9]
  idx_vars y
  have hy : y0 = 0 := Subsingleton.elim _ _
  subst hy
  have e : ∀ X : S16x4096x512.Idx → EReal, X (((View.whole main_v4).slice (win0_9.rect t)).emb (ix3 0 y1 y2))
      = X (ix3 ⟨t.val / 16, by have := lt t; omega⟩ ⟨256 * (t.val % 16) + y1.val, by omega⟩ y2) := fun X => by
    blk_point [idx t]
  rw [e (out9 m c)]
  have hl : y2 = lane ⟨y2.val / 128, by omega⟩ ⟨y2.val % 128, Nat.mod_lt _ (by decide)⟩ := Fin.ext (by show y2.val = 128 * (y2.val / 128) + y2.val % 128; omega)
  refine (congrArg (fun y => (outsAt0 m c t.val t.isLt).1 (ix3 0 y1 y)) hl).trans ?_
  refine (block9 m c H t y1 _ _).trans ?_
  rw [← hl, o_at]
  rfl

end Cert.Proof.MlKernel

end
-- ==== Proof.MlReference.lean ====
module

public import proofs.«01_k».proof.Proof.Gen.ReferenceMlIdeal.Read
public import proofs.«01_k».proof.Proof.MlChunk
public import proofs.«01_k».proof.Proof.SbReference
public import proofs.«01_k».proof.Proof.InHost
public import Idealize.ShloMosaic.Lib.Pointwise

@[expose] public section

set_option maxRecDepth 16384

noncomputable section

namespace Cert.Proof.MlReference

open Idealize.ShloMosaic Idealize.ShloMosaic.TcCoe Idealize.SL.Sem
open Cert.ReferenceMlIdeal Cert.ReferenceMlIdeal.Gen Cert.ReferenceMlIdeal.Read
open Cert.Proof.MlStep (lane silu)
open Cert.Proof.MlMath Cert.Proof.MlChunk Cert.Proof.SbMath

variable (x0 : FVec Ideal S16x4096x1024 .f32) (x1 x2 : FVec Ideal S16x4096x512 .bf16) (x3 : FVec Ideal S16x4096x8 .f32) (x4 : FVec Ideal S4x1024 .f32) (x5 : FVec Ideal S1024 .f32)
  (b : Fin 16) (h : Fin 4) (t : Fin 4096)

/-- The convolution's input: three rows of zeros and the argument's. -/
theorem value0 (n : Fin 4099) (c : Fin 1024) : (val_main_v0 (F := Ideal) x0 (ix3 b n c) : EReal) = if hn : n.val < 3 then 0 else x0 (ix3 b ⟨n.val - 3, by omega⟩ c) := by
  unfold val_main_v0 pad
  by_cases hn : n.val < 3
  · rw [dif_pos hn, dif_neg (fun hin => by
      have := (hin 1).1
      change 3 ≤ n.val at this
      omega)]
    exact InHost.int_zero
  · rw [dif_neg hn, dif_pos (by
      intro a
      fin_cases a
      · exact ⟨Nat.zero_le _, Nat.mod_one _, by show (b.val - 0) / 1 < 16; omega⟩
      · exact ⟨by show 3 ≤ n.val; omega, Nat.mod_one _, by show (n.val - 3) / 1 < 4096; omega⟩
      · exact ⟨Nat.zero_le _, Nat.mod_one _, by show (c.val - 0) / 1 < 1024; omega⟩)]
    refine congrArg _ (funext fun a => Fin.ext ?_)
    fin_cases a
    · show (b.val - 0) / 1 = b.val; omega
    · show (n.val - 3) / 1 = n.val - 3; omega
    · show (c.val - 0) / 1 = c.val; omega

/-- The convolution. -/
theorem value32 (c : Fin 1024) : (val_main_v32 (F := Ideal) x0 x4 x5 (ix3 b t c) : EReal)
    = 0 + (x4 (ix2 0 c) : EReal) * val_main_v0 (F := Ideal) x0 (ix3 b ⟨t.val, by omega⟩ c) + (x4 (ix2 1 c) : EReal) * val_main_v0 (F := Ideal) x0 (ix3 b ⟨1 + t.val, by omega⟩ c)
      + (x4 (ix2 2 c) : EReal) * val_main_v0 (F := Ideal) x0 (ix3 b ⟨2 + t.val, by omega⟩ c) + (x4 (ix2 3 c) : EReal) * val_main_v0 (F := Ideal) x0 (ix3 b ⟨3 + t.val, by omega⟩ c)
      + (x5 (ix1 c) : EReal) := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst]

/-- The curve after it. -/
theorem value33 (c : Fin 1024) : (val_main_v33 (F := Ideal) x0 x4 x5 (ix3 b t c) : EReal) = silu (val_main_v32 (F := Ideal) x0 x4 x5 (ix3 b t c)) := by
  unfold silu
  rw [zero_sub]
  pointwise [val_main_v33, val_main_call1_v5, val_main_call1_v4, val_main_call1_v3, val_main_call1_v2, val_main_call1_v1, val_main_call1_v0, val_main_call1_cst, val_main_call1_cst_0]

/-- The queries. -/
theorem value37 (l : Fin 128) : (val_main_v37 (F := Ideal) x0 x4 x5 (ix4 b h t l) : EReal) = val_main_v33 (F := Ideal) x0 x4 x5 (ix3 b t ⟨(lane h l).val, by omega⟩) := by
  pointwise [val_main_v37, val_main_v36, val_main_v34, lane]
  simp only [Nat.mul_comm h.val 128]

/-- The keys. -/
theorem value41 (l : Fin 128) : (val_main_v41 (F := Ideal) x0 x4 x5 (ix4 b h t l) : EReal) = val_main_v33 (F := Ideal) x0 x4 x5 (ix3 b t ⟨512 + (lane h l).val, by omega⟩) * Ideal.ofBits .f32 0x3DB504F3#32 := by
  pointwise [val_main_v41, val_main_v40, val_main_v39, val_main_v38, val_main_v35, val_main_cst_0, lane]
  simp only [Nat.mul_comm h.val 128]

/-- The values. -/
theorem value44 (l : Fin 128) : (val_main_v44 (F := Ideal) x1 (ix4 b h t l) : EReal) = x1 (ix3 b t (lane h l)) := by
  pointwise [val_main_v44, val_main_v43, val_main_v42, lane]
  simp only [Nat.mul_comm h.val 128]

/-- The input gates. -/
theorem value46 : (val_main_v46 (F := Ideal) x3 (ix3 b h t) : EReal) = x3 (ix3 b t ⟨h.val, by omega⟩) := by
  pointwise [val_main_v46, val_main_v45]

/-- The logarithms of the forget gates. -/
theorem value49 (z : ℝ) (hz : (x3 (ix3 b t ⟨4 + h.val, by omega⟩) : EReal) = (z : EReal)) : (val_main_v49 (F := Ideal) x3 (ix3 b h t) : EReal) = ((lsR z : ℝ) : EReal) := by
  have e : (val_main_v49 (F := Ideal) x3 (ix3 b h t) : EReal) = (-if (-(x3 (ix3 b t ⟨4 + h.val, by omega⟩) : EReal)) ≠ (-(x3 (ix3 b t ⟨4 + h.val, by omega⟩) : EReal)) then (-(x3 (ix3 b t ⟨4 + h.val, by omega⟩) : EReal)) else
      max (-(x3 (ix3 b t ⟨4 + h.val, by omega⟩) : EReal)) 0 + Ideal.log1p (Ideal.exp (-FloatOps.absf (F := Ideal) (φ := .f32) (-(x3 (ix3 b t ⟨4 + h.val, by omega⟩) : EReal))))) := by
    pointwise [val_main_v49, val_main_v48, val_main_v47, val_main_call2_v1, val_main_call2_v0, val_main_call2_call0_cst, val_main_call2_call0_v0, val_main_call2_call0_v1, val_main_call2_call0_v2, val_main_call2_call0_v3, val_main_call2_call0_v4, val_main_call2_call0_v5, val_main_call2_call0_v6, val_main_call2_call0_v7, val_main_call2_call0_v8, val_main_call2_call0_v9, val_main_call2_call0_v10, val_main_call2_call0_v11]
  rw [e, hz, ← EReal.coe_neg, SbReference.softplus_neg, SbReference.softplus_opposite]

/-- The element of a row at a column, zero before the start. -/
def at3 (x : FVec Ideal S16x4x4096 .f32) (b : Fin 16) (h : Fin 4) (s : ℕ) : EReal :=
  if hs : s < 4096 then x (ix3 b h ⟨s, hs⟩) else 0

/-- The window of the running sum: a whole row. -/
abbrev W : Shape := ⟨3, ![1, 1, 4096]⟩

/-- The window's positions are the numbers below 4096. -/
theorem bij : Function.Bijective (fun k : Fin 4096 => (ix3 0 0 k : W.Idx)) := by
  constructor
  · intro k k' h
    exact congrFun h 2
  · intro w
    refine ⟨w 2, funext fun a => ?_⟩
    fin_cases a
    · exact (Subsingleton.elim (α := Fin 1) _ _)
    · exact (Subsingleton.elim (α := Fin 1) _ _)
    · rfl

/-- A sum over a window's first positions empty, the rest a prefix. -/
theorem sum_first (F : ℕ → EReal) (t : ℕ) (ht : t < 4096) :
    (∑ k : Fin 4096, if 4095 ≤ t + k.val then F (t + k.val - 4095) else 0) = ∑ s ∈ Finset.range (t + 1), F s := by
  rw [Fin.sum_univ_eq_sum_range (fun k => if 4095 ≤ t + k then F (t + k - 4095) else 0) 4096, ← Finset.sum_filter]
  refine Finset.sum_bij' (fun k _ => t + k - 4095) (fun s _ => s + 4095 - t) ?_ ?_ ?_ ?_ ?_
  · intro k hk
    simp only [Finset.mem_filter, Finset.mem_range] at *
    omega
  · intro s hs
    simp only [Finset.mem_filter, Finset.mem_range] at *
    omega
  · intro k hk
    simp only [Finset.mem_filter, Finset.mem_range] at *
    omega
  · intro s hs
    simp only [Finset.mem_range] at *
    omega
  · intro k hk
    rfl

/-- The running sum from the start, read at a column: the sum of that column and the earlier ones. -/
theorem running (x : FVec Ideal S16x4x4096 .f32) (hw) (b : Fin 16) (h : Fin 4) (t : Fin 4096) :
    Ideal.hostReduceWindowAdd (s := S16x4x4096) (t := S16x4x4096) ![1, 1, 4096] ![1, 1, 1] ![0, 0, 4095] ![0, 0, 0] hw x 0 (ix3 b h t)
      = ∑ s ∈ Finset.range (t.val + 1), at3 x b h s := by
  rw [SbReference.window_sum, zero_add, ← sum_first (at3 x b h) t.val t.isLt]
  refine (Fintype.sum_bijective _ bij _ _ fun k => ?_).symm
  by_cases hk : 4095 ≤ t.val + k.val
  · rw [if_pos hk, at3, dif_pos (by omega), dif_pos]
    · congr 1
      funext a
      fin_cases a
      · exact Fin.ext (by show b.val = b.val * 1 + 0 - 0; omega)
      · exact Fin.ext (by show h.val = h.val * 1 + 0 - 0; omega)
      · exact Fin.ext (by show t.val + k.val - 4095 = t.val * 1 + k.val - 4095; omega)
    · intro a
      fin_cases a
      · show 0 ≤ b.val * 1 + 0 ∧ b.val * 1 + 0 - 0 < 16
        omega
      · show 0 ≤ h.val * 1 + 0 ∧ h.val * 1 + 0 - 0 < 4
        omega
      · show 4095 ≤ t.val * 1 + k.val ∧ t.val * 1 + k.val - 4095 < 4096
        omega
  · rw [if_neg hk, dif_neg]
    intro hin
    have := (hin 2).1
    change 4095 ≤ t.val * 1 + k.val at this
    omega

/-- The host's running sum is that one. -/
theorem value57 : (val_main_v57 (F := Ideal) x3 (ix3 b h t) : EReal) = ∑ s ∈ Finset.range (t.val + 1), at3 (val_main_v49 (F := Ideal) x3) b h s := by
  have hz : val_main_call3_call0_v0 (F := Ideal) ix0 = (0 : EReal) := by
    pointwise [val_main_call3_call0_v0, val_main_call3_call0_cst]
  rw [← running _ reduceWindows_S16x4x4096_S16x4x4096_w1s1p0_0_w1s1p0_0_w4096s1p4095_0, ← hz]
  unfold val_main_v57 Host.reduceWindowAdd
  rw [show Shape.Idx.first _ = ix0 from funext fun a => a.elim0]
  rfl

/-- A word at most another selects as the numbers do. -/
theorem select_le (s t : Fin 4096) (a c : EReal) : Scalar.select (IntOp.cmpi .sle (BitVec.ofNat 32 s.val) (BitVec.ofNat 32 t.val)) a c = if s.val ≤ t.val then a else c := by
  rw [WordCmp.cmpi_sle_ofNat (by omega) (by omega)]
  by_cases h : s.val ≤ t.val <;> simp [h, Scalar.select]

/-- A logarithm of a weight. -/
theorem value66 (s : Fin 4096) : (val_main_v66 (F := Ideal) x3 (ix4 b h t s) : EReal)
    = if s.val ≤ t.val then (val_main_v57 (F := Ideal) x3 (ix3 b h t) : EReal) - val_main_v57 (F := Ideal) x3 (ix3 b h s) + val_main_v46 (F := Ideal) x3 (ix3 b h s) else ⊥ := by
  rw [← select_le, ← MlTile.word_bot]
  pointwise [val_main_v66, val_main_call4_v2, val_main_call4_v1, val_main_call4_v0, val_main_cst_1, val_main_v65, val_main_v64, val_main_v63, val_main_v62, val_main_v61, val_main_v60, val_main_v59, val_main_v58, val_main_v56, val_main_v55, val_main_v54, val_main_v53, val_main_v52, val_main_v51, val_main_v50]
  rfl

/-- The largest along the last axis. -/
theorem max_last (x : FVec Ideal S16x4x4096x4096 .f32) (v : FVec Ideal S_ .f32) :
    (Host.reduce (FloatOps.maximumf (F := Ideal) (φ := .f32)) x v reducesTo_S16x4x4096x4096_S16x4x4096_d3 h_S_ (ix3 b h t) : EReal)
      = (Finset.univ : Finset (Fin 4096)).fold max (v ix0 : EReal) fun s => (x (ix4 b h t s) : EReal) := by
  have hr : S16x4x4096x4096.Reduces [3] S16x4x4096 := by decide
  rw [Host.reduce_eq_fold_single (FloatOps.maximumf (F := Ideal) (φ := .f32)) x v _ hr h_S_, show Shape.Idx.first h_S_ = ix0 from funext fun a => a.elim0]
  refine congrArg (fun F : Fin 4096 → EReal => Finset.univ.fold max (v ix0 : EReal) F) (funext fun s => ?_)
  refine congrArg x (funext fun a => ?_)
  fin_cases a <;> rfl

/-- The largest logarithm. -/
theorem value68 : (val_main_v68 (F := Ideal) x3 (ix3 b h t) : EReal)
    = max (val_main_v57 (F := Ideal) x3 (ix3 b h t) : EReal) ((Finset.univ : Finset (Fin 4096)).fold max ⊥ fun s => (val_main_v66 (F := Ideal) x3 (ix4 b h t s) : EReal)) := by
  rw [val_main_v68_apply]
  unfold val_main_v67
  generalize val_main_v66 (F := Ideal) x3 = y
  have hb : (val_main_cst_2 (F := Ideal) ix0 : EReal) = ⊥ := MlTile.word_bot
  refine (congrArg (max (val_main_v57 (F := Ideal) x3 (ix3 b h t) : EReal)) (max_last b h t y _)).trans ?_
  rw [hb]

/-- A weighted score. -/
theorem value74 (s : Fin 4096) : (val_main_v74 (F := Ideal) x0 x3 x4 x5 (ix4 b h t s) : EReal)
    = (∑ l : Fin 128, (val_main_v37 (F := Ideal) x0 x4 x5 (ix4 b h t l) : EReal) * val_main_v41 (F := Ideal) x0 x4 x5 (ix4 b h s l))
      * Ideal.exp ((val_main_v66 (F := Ideal) x3 (ix4 b h t s) : EReal) - val_main_v68 (F := Ideal) x3 (ix3 b h t)) := by
  pointwise [val_main_v74, val_main_v73, val_main_v72, val_main_v71, val_main_v70, val_main_v69]

/-- The result, at a head's lane. -/
theorem value88 (l : Fin 128) : (val_main_v88 (F := Ideal) x0 x1 x2 x3 x4 x5 (ix3 b t (lane h l)) : EReal)
    = MlTile.gate (x2 (ix3 b t (lane h l))) (∑ s : Fin 4096, (val_main_v74 (F := Ideal) x0 x3 x4 x5 (ix4 b h t s) : EReal) * val_main_v44 (F := Ideal) x1 (ix4 b h s l))
        (0 + ∑ s : Fin 4096, (val_main_v74 (F := Ideal) x0 x3 x4 x5 (ix4 b h t s) : EReal)) (val_main_v68 (F := Ideal) x3 (ix3 b h t)) := by
  unfold MlTile.gate
  rw [zero_sub]
  have e : (lane h l) = (⟨128 * h.val + l.val, by omega⟩ : Fin 512) := rfl
  rw [e]
  pointwise [val_main_v88, val_main_v87, val_main_v86, val_main_v85, val_main_v84, val_main_v83, val_main_v82, val_main_v81, val_main_v80, val_main_v79, val_main_v78, val_main_v77, val_main_v76, val_main_v75, val_main_cst_3]

end Cert.Proof.MlReference

end
-- ==== Proof.MlValue.lean ====
module

public import proofs.«01_k».proof.Proof.MlReference
public import proofs.«01_k».proof.Proof.Finite

@[expose] public section

set_option maxRecDepth 16384

noncomputable section

namespace Cert.Proof.MlValue

open Idealize.ShloMosaic Idealize.ShloMosaic.TcCoe Idealize.SL.Sem
open Cert.ReferenceMlIdeal Cert.ReferenceMlIdeal.Gen Cert.ReferenceMlIdeal.Read
open Cert.Proof.MlStep (lane silu)
open Cert.Proof.MlMath Cert.Proof.MlChunk Cert.Proof.SbMath Cert.Proof.MlReference

variable (x0 : FVec Ideal S16x4096x1024 .f32) (x1 x2 : FVec Ideal S16x4096x512 .bf16) (x3 : FVec Ideal S16x4096x8 .f32) (x4 : FVec Ideal S4x1024 .f32) (x5 : FVec Ideal S1024 .f32)
  (b : Fin 16) (h : Fin 4) (t : Fin 4096)
  (x : ℕ → Fin 1024 → ℝ) (w : Fin 4 → Fin 1024 → ℝ) (β : Fin 1024 → ℝ) (v : ℕ → Fin 512 → ℝ) (γ : ℕ → Fin 8 → ℝ)

section
variable (hx : ∀ (s : Fin 4096) (k : Fin 1024), (x0 (ix3 b s k) : EReal) = ((x s.val k : ℝ) : EReal))
  (hw : ∀ (k : Fin 4) (l : Fin 1024), (x4 (ix2 k l) : EReal) = ((w k l : ℝ) : EReal)) (hβ : ∀ l : Fin 1024, (x5 (ix1 l) : EReal) = ((β l : ℝ) : EReal))
include hx

/-- The convolution's input is a real. -/
theorem pad_eq (n : Fin 4099) (c : Fin 1024) : (val_main_v0 (F := Ideal) x0 (ix3 b n c) : EReal) = ((padR x n.val c : ℝ) : EReal) := by
  rw [value0, padR]
  by_cases hn : n.val < 3
  · rw [dif_pos hn, if_pos hn, EReal.coe_zero]
  · rw [dif_neg hn, if_neg hn, hx]

include hw hβ

/-- The convolution is a real. -/
theorem conv_eq (c : Fin 1024) : (val_main_v32 (F := Ideal) x0 x4 x5 (ix3 b t c) : EReal) = ((convR x w β t.val c : ℝ) : EReal) := by
  rw [value32, hw, hw, hw, hw, hβ, pad_eq x0 b x hx, pad_eq x0 b x hx, pad_eq x0 b x hx, pad_eq x0 b x hx, zero_add]
  simp only [← EReal.coe_mul, ← EReal.coe_add]
  congr 1
  unfold convR
  rw [Nat.add_comm 1 t.val, Nat.add_comm 2 t.val, Nat.add_comm 3 t.val]
  ring

/-- The queries are reals. -/
theorem q_eq (l : Fin 128) : (val_main_v37 (F := Ideal) x0 x4 x5 (ix4 b h t l) : EReal) = ((qR x w β h t.val l : ℝ) : EReal) := by
  rw [value37, value33, conv_eq x0 x4 x5 b t x w β hx hw hβ, silu_coe, qR]

/-- The keys are reals. -/
theorem k_eq (l : Fin 128) : (val_main_v41 (F := Ideal) x0 x4 x5 (ix4 b h t l) : EReal) = ((kR x w β h t.val l : ℝ) : EReal) := by
  rw [value41, value33, conv_eq x0 x4 x5 b t x w β hx hw hβ, silu_coe, scale_eq, ← EReal.coe_mul, kR]

end

section
variable (hγ : ∀ (s : Fin 4096) (k : Fin 8), (x3 (ix3 b s k) : EReal) = ((γ s.val k : ℝ) : EReal))
include hγ

/-- The running sums of the forget gates. -/
theorem sum_eq : (val_main_v57 (F := Ideal) x3 (ix3 b h t) : EReal) = ((P (fR γ h) (t.val + 1) : ℝ) : EReal) := by
  have e : ∀ s ∈ Finset.range (t.val + 1), at3 (val_main_v49 (F := Ideal) x3) b h s = ((fR γ h s : ℝ) : EReal) := fun s hs => by
    have hs' : s < 4096 := by have := Finset.mem_range.mp hs; omega
    rw [at3, dif_pos hs', value49 x3 b h ⟨s, hs'⟩ _ (hγ ⟨s, hs'⟩ _), fR]
  rw [value57, Finset.sum_congr rfl e, Finite.coe_sum, P]

/-- The logarithms of the weights. -/
theorem logd_eq (s : Fin 4096) : (val_main_v66 (F := Ideal) x3 (ix4 b h t s) : EReal)
    = if s.val < t.val + 1 then ((P (fR γ h) (t.val + 1) + g (fR γ h) (iR γ h) (0 + s.val) : ℝ) : EReal) else ⊥ := by
  rw [value66, sum_eq x3 b h t γ hγ, sum_eq x3 b h s γ hγ, value46, hγ]
  by_cases hs : s.val ≤ t.val
  · rw [if_pos hs, if_pos (by omega), ← EReal.coe_sub, ← EReal.coe_add, Nat.zero_add, g, iR]
    congr 1
    ring
  · rw [if_neg hs, if_neg (by omega)]

/-- The largest logarithm. -/
theorem max_eq : (val_main_v68 (F := Ideal) x3 (ix3 b h t) : EReal) = ((P (fR γ h) (t.val + 1) + G (fR γ h) (iR γ h) (t.val + 1) : ℝ) : EReal) := by
  rw [value68, sum_eq x3 b h t γ hγ]
  simp only [logd_eq x3 b h t γ hγ]
  have e := run_G (fR γ h) (iR γ h) (P (fR γ h) (t.val + 1)) 0 (t.val + 1) 4096 (by omega)
  rw [show P (fR γ h) (t.val + 1) + G (fR γ h) (iR γ h) 0 = P (fR γ h) (t.val + 1) by rw [G, add_zero], Nat.zero_add] at e
  exact e

/-- The weights. -/
theorem weight_eq (s : Fin 4096) : Ideal.exp ((val_main_v66 (F := Ideal) x3 (ix4 b h t s) : EReal) - val_main_v68 (F := Ideal) x3 (ix3 b h t))
    = ((if s.val < t.val + 1 then Real.exp (g (fR γ h) (iR γ h) s.val - G (fR γ h) (iR γ h) (t.val + 1)) else 0 : ℝ) : EReal) := by
  rw [logd_eq x3 b h t γ hγ, max_eq x3 b h t γ hγ]
  by_cases hs : s.val < t.val + 1
  · rw [if_pos hs, if_pos hs, ← EReal.coe_sub, Ideal.exp_coe, Nat.zero_add]
    congr 2
    ring
  · rw [if_neg hs, if_neg hs, EReal.bot_sub, Ideal.exp_bot, EReal.coe_zero]

variable (hx : ∀ (s : Fin 4096) (k : Fin 1024), (x0 (ix3 b s k) : EReal) = ((x s.val k : ℝ) : EReal))
  (hw : ∀ (k : Fin 4) (l : Fin 1024), (x4 (ix2 k l) : EReal) = ((w k l : ℝ) : EReal)) (hβ : ∀ l : Fin 1024, (x5 (ix1 l) : EReal) = ((β l : ℝ) : EReal))
include hx hw hβ

/-- The weighted scores. -/
theorem score_eq (s : Fin 4096) : (val_main_v74 (F := Ideal) x0 x3 x4 x5 (ix4 b h t s) : EReal)
    = ((if s.val < t.val + 1 then (∑ l, qR x w β h t.val l * kR x w β h s.val l) * Real.exp (g (fR γ h) (iR γ h) s.val - G (fR γ h) (iR γ h) (t.val + 1)) else 0 : ℝ) : EReal) := by
  rw [value74, weight_eq x3 b h t γ hγ]
  simp only [q_eq x0 x4 x5 b h t x w β hx hw hβ, k_eq x0 x4 x5 b h s x w β hx hw hβ, ← EReal.coe_mul]
  rw [Finite.coe_sum, ← EReal.coe_mul]
  by_cases hs : s.val < t.val + 1
  · rw [if_pos hs, if_pos hs]
  · rw [if_neg hs, if_neg hs, mul_zero]

/-- A sum of the values under the weighted scores. -/
theorem mix_eq (V : Fin 4096 → EReal) (u : ℕ → ℝ) (hu : ∀ s : Fin 4096, V s = ((u s.val : ℝ) : EReal)) :
    (∑ s : Fin 4096, (val_main_v74 (F := Ideal) x0 x3 x4 x5 (ix4 b h t s) : EReal) * V s) = ((mixR (fR γ h) (iR γ h) (qR x w β h) (kR x w β h) u t.val : ℝ) : EReal) := by
  have e : ∀ s : Fin 4096, (val_main_v74 (F := Ideal) x0 x3 x4 x5 (ix4 b h t s) : EReal) * V s
      = (((fun s : ℕ => if s < t.val + 1 then (∑ l, qR x w β h t.val l * kR x w β h s l) * Real.exp (g (fR γ h) (iR γ h) s - G (fR γ h) (iR γ h) (t.val + 1)) * u s else 0) s.val : ℝ) : EReal) := fun s => by
    rw [score_eq x0 x3 x4 x5 b h t x w β γ hγ hx hw hβ, hu, ← EReal.coe_mul]
    congr 1
    by_cases hs : s.val < t.val + 1
    · rw [if_pos hs]
      exact (if_pos hs).symm
    · rw [if_neg hs, zero_mul]
      exact (if_neg hs).symm
  rw [Finset.sum_congr rfl fun s _ => e s, Finite.coe_sum,
    Fin.sum_univ_eq_sum_range (fun s : ℕ => if s < t.val + 1 then (∑ l, qR x w β h t.val l * kR x w β h s l) * Real.exp (g (fR γ h) (iR γ h) s - G (fR γ h) (iR γ h) (t.val + 1)) * u s else 0) 4096,
    ← Finset.sum_filter]
  congr 1
  unfold mixR
  refine Finset.sum_congr (Finset.ext fun s => ?_) fun _ _ => rfl
  simp only [Finset.mem_filter, Finset.mem_range]
  omega

/-- The reference's result, at a head's lane. -/
theorem result (hv : ∀ (s : Fin 4096) (k : Fin 512), (x1 (ix3 b s k) : EReal) = ((v s.val k : ℝ) : EReal)) (l : Fin 128) :
    (val_main_v88 (F := Ideal) x0 x1 x2 x3 x4 x5 (ix3 b t (lane h l)) : EReal)
      = spec (fR γ h) (iR γ h) (qR x w β h) (kR x w β h) (fun s => v s (lane h l)) (x2 (ix3 b t (lane h l))) t.val := by
  have e := mix_eq x0 x3 x4 x5 b h t x w β γ hγ hx hw hβ (fun _ => 1) (fun _ => 1) (fun s => EReal.coe_one.symm)
  simp only [mul_one] at e
  rw [value88, zero_add, max_eq x3 b h t γ hγ, mix_eq x0 x3 x4 x5 b h t x w β γ hγ hx hw hβ (fun s => val_main_v44 (F := Ideal) x1 (ix4 b h s l)) (fun s => v s (lane h l)) (fun s => (value44 x1 b h s l).trans (hv s _)), e]
  rfl

end

end Cert.Proof.MlValue

end
-- ==== Proof.MlClaim.lean ====
module

public import proofs.«01_k».proof.Defs
public import proofs.«01_k».proof.Proof.Gen.Pre_finite_ml
public import proofs.«01_k».proof.Proof.MlFrame
public import proofs.«01_k».proof.Proof.MlKernel
public import proofs.«01_k».proof.Proof.MlValue

@[expose] public section

set_option maxRecDepth 16384

noncomputable section

namespace Cert.Proof.MlClaim

open Idealize.ShloMosaic Idealize.ShloMosaic.TcCoe Idealize.SL.Sem

/-- On finite arguments the recurrence leaves its arguments as they were and its semaphores at zero. -/
theorem frame_ideal_pre : Cert.quiescent_KernelMlIdeal_pre_finite_ml (hKernelMlIdeal := Cert.KernelMlIdeal.Gen.facts)
    (hPre_finite_ml := Cert.Pre_finite_ml.Gen.facts) :=
  fun m ρ _ => Cert.KernelMlIdeal.Gen.frame m ρ

/-- So does the reference on such arguments. -/
theorem frame_reference_pre : Cert.quiescent_ReferenceMlIdeal_pre_finite_ml
    (hReferenceMlIdeal := Cert.ReferenceMlIdeal.Gen.facts) (hPre_finite_ml := Cert.Pre_finite_ml.Gen.facts) :=
  fun m ρ _ => MlFrame.frame_reference m ρ (by trivial)

/-- What the precondition says: the projection, the values, the gates and the convolution's weights and constants are real numbers. -/
theorem finite (x0 : FVec Ideal Cert.Pre_finite_ml.S16x4096x1024 .f32) (x1 x2 : FVec Ideal Cert.Pre_finite_ml.S16x4096x512 .bf16)
    (x3 : FVec Ideal Cert.Pre_finite_ml.S16x4096x8 .f32) (x4 : FVec Ideal Cert.Pre_finite_ml.S4x1024 .f32) (x5 : FVec Ideal Cert.Pre_finite_ml.S1024 .f32)
    (h : @Cert.Pre_finite_ml.fn Cert.Pre_finite_ml.Gen.facts Ideal _ x0 x1 x2 x3 x4 x5 = fun _ => 1#1) :
    (∀ k, ∃ r : ℝ, x0 k = (r : EReal)) ∧ (∀ k, ∃ r : ℝ, x1 k = (r : EReal)) ∧ (∀ k, ∃ r : ℝ, x3 k = (r : EReal))
      ∧ (∀ k, ∃ r : ℝ, x4 k = (r : EReal)) ∧ ∀ k, ∃ r : ℝ, x5 k = (r : EReal) := by
  have h0 := congrFun h (Shape.Idx.first (by decide))
  obtain ⟨h1, e5⟩ := IntOp.andi_eq_one.1 h0
  obtain ⟨h2, e4⟩ := IntOp.andi_eq_one.1 h1
  obtain ⟨h3, e3⟩ := IntOp.andi_eq_one.1 h2
  obtain ⟨e0, e1⟩ := IntOp.andi_eq_one.1 h3
  exact ⟨fun k => Cert.Proof.Finite.real_of_cmp (Host.reduce_andi_all _ _ _ _ _ e0 k),
    fun k => Cert.Proof.Finite.real_of_cmp (Host.reduce_andi_all _ _ _ _ _ e1 k),
    fun k => Cert.Proof.Finite.real_of_cmp (Host.reduce_andi_all _ _ _ _ _ e3 k),
    fun k => Cert.Proof.Finite.real_of_cmp (Host.reduce_andi_all _ _ _ _ _ e4 k),
    fun k => Cert.Proof.Finite.real_of_cmp (Host.reduce_andi_all _ _ _ _ _ e5 k)⟩

/-- A real number is its own real part. -/
theorem real_eq {x : EReal} (h : ∃ r : ℝ, x = (r : EReal)) : x = ((x.toReal : ℝ) : EReal) := by
  obtain ⟨r, rfl⟩ := h
  rfl

section
variable (m : (ℓ : Loc Cert.KernelMlIdeal.nD Cert.KernelMlIdeal.τ Cert.KernelMlIdeal.sig) → Buf (Elt Ideal) ℓ)
  (c : Dev Cert.KernelMlIdeal.nD)

/-- The projection's real parts. -/
theorem x_eq (H : MlRows.Real m c) (b : Fin 16) (s : Fin 4096) (k : Fin 1024) : ((m ((c : Thread Cert.KernelMlIdeal.nD Cert.KernelMlIdeal.τ).loc Cert.KernelMlIdeal.main_arg0)) (ix3 b s k) : EReal) = ((MlRows.xR m c b s.val k : ℝ) : EReal) := by
  rw [H.x, MlRows.xR, MlRows.row_lt (fun b n k => (show EReal from (m ((c : Thread Cert.KernelMlIdeal.nD Cert.KernelMlIdeal.τ).loc Cert.KernelMlIdeal.main_arg0)) (ix3 b n k)).toReal) _ _ s.isLt]

/-- The values' real parts. -/
theorem v_eq (H : MlRows.Real m c) (b : Fin 16) (s : Fin 4096) (k : Fin 512) : ((m ((c : Thread Cert.KernelMlIdeal.nD Cert.KernelMlIdeal.τ).loc Cert.KernelMlIdeal.main_arg1)) (ix3 b s k) : EReal) = ((MlRows.vR m c b s.val k : ℝ) : EReal) := by
  rw [H.v, MlRows.vR, MlRows.row_lt (fun b n k => (show EReal from (m ((c : Thread Cert.KernelMlIdeal.nD Cert.KernelMlIdeal.τ).loc Cert.KernelMlIdeal.main_arg1)) (ix3 b n k)).toReal) _ _ s.isLt]

/-- The gates' real parts. -/
theorem γ_eq (H : MlRows.Real m c) (b : Fin 16) (s : Fin 4096) (k : Fin 8) : ((m ((c : Thread Cert.KernelMlIdeal.nD Cert.KernelMlIdeal.τ).loc Cert.KernelMlIdeal.main_arg3)) (ix3 b s k) : EReal) = ((MlRows.γR m c b s.val k : ℝ) : EReal) := by
  rw [H.γ, MlRows.γR, MlRows.row_lt (fun b n k => (show EReal from (m ((c : Thread Cert.KernelMlIdeal.nD Cert.KernelMlIdeal.τ).loc Cert.KernelMlIdeal.main_arg3)) (ix3 b n k)).toReal) _ _ s.isLt]

/-- Every lane is a head's lane. -/
theorem lane_eq (j : Fin 512) (h : j.val / 128 < 4) (l : j.val % 128 < 128) : MlStep.lane ⟨j.val / 128, h⟩ ⟨j.val % 128, l⟩ = j :=
  Fin.ext (by show 128 * (j.val / 128) + j.val % 128 = j.val; omega)

/-- The reference on the kernel's arguments computes the kernel's result. -/
theorem result (H : MlRows.Real m c) :
    Cert.ReferenceMlIdeal.Read.val_main_v88 (F := Ideal) (m ((c : Thread Cert.KernelMlIdeal.nD Cert.KernelMlIdeal.τ).loc Cert.KernelMlIdeal.main_arg0)) (m ((c : Thread Cert.KernelMlIdeal.nD Cert.KernelMlIdeal.τ).loc Cert.KernelMlIdeal.main_arg1)) (m ((c : Thread Cert.KernelMlIdeal.nD Cert.KernelMlIdeal.τ).loc Cert.KernelMlIdeal.main_arg2)) (m ((c : Thread Cert.KernelMlIdeal.nD Cert.KernelMlIdeal.τ).loc Cert.KernelMlIdeal.main_arg3)) (m ((c : Thread Cert.KernelMlIdeal.nD Cert.KernelMlIdeal.τ).loc Cert.KernelMlIdeal.main_arg4)) (m ((c : Thread Cert.KernelMlIdeal.nD Cert.KernelMlIdeal.τ).loc Cert.KernelMlIdeal.main_arg5))
      = (Cert.KernelMlIdeal.Gen.dats m 0 c).arrAt 9 Cert.KernelMlIdeal.cfg0.N := by
  funext i
  refine Eq.trans ?_ (MlKernel.array9 m c H i).symm
  obtain ⟨b, t, j, rfl⟩ : ∃ (b : Fin 16) (t : Fin 4096) (j : Fin 512), i = ix3 b t j := ⟨i 0, i 1, i 2, ValueIdx.eq_ix3 i⟩
  have hj : j.val / 128 < 4 := by omega
  have hl : j.val % 128 < 128 := by omega
  have e := MlValue.result (m ((c : Thread Cert.KernelMlIdeal.nD Cert.KernelMlIdeal.τ).loc Cert.KernelMlIdeal.main_arg0)) (m ((c : Thread Cert.KernelMlIdeal.nD Cert.KernelMlIdeal.τ).loc Cert.KernelMlIdeal.main_arg1)) (m ((c : Thread Cert.KernelMlIdeal.nD Cert.KernelMlIdeal.τ).loc Cert.KernelMlIdeal.main_arg2)) (m ((c : Thread Cert.KernelMlIdeal.nD Cert.KernelMlIdeal.τ).loc Cert.KernelMlIdeal.main_arg3)) (m ((c : Thread Cert.KernelMlIdeal.nD Cert.KernelMlIdeal.τ).loc Cert.KernelMlIdeal.main_arg4)) (m ((c : Thread Cert.KernelMlIdeal.nD Cert.KernelMlIdeal.τ).loc Cert.KernelMlIdeal.main_arg5)) b ⟨j.val / 128, hj⟩ t (MlRows.xR m c b) (MlRows.wR m c) (MlRows.βR m c) (MlRows.vR m c b) (MlRows.γR m c b)
    (γ_eq m c H b) (x_eq m c H b) (fun k l => H.w _) (fun l => H.β _) (v_eq m c H b) ⟨j.val % 128, hl⟩
  rw [lane_eq] at e
  refine e.trans ?_
  exact congrArg (fun u : Fin 512 => MlMath.spec (MlChunk.fR (MlRows.γR m c b) ⟨j.val / 128, hj⟩) (MlChunk.iR (MlRows.γR m c b) ⟨j.val / 128, hj⟩)
    (MlChunk.qR (MlRows.xR m c b) (MlRows.wR m c) (MlRows.βR m c) ⟨j.val / 128, hj⟩)
    (MlChunk.kR (MlRows.xR m c b) (MlRows.wR m c) (MlRows.βR m c) ⟨j.val / 128, hj⟩) (fun s => MlRows.vR m c b s u)
    ((m ((c : Thread Cert.KernelMlIdeal.nD Cert.KernelMlIdeal.τ).loc Cert.KernelMlIdeal.main_arg2)) (ix3 b t j)) t.val) (lane_eq j hj hl).symm

end

/-- The recurrence computes the reference's: equal results on equal finite arguments. -/
theorem algebraic : Cert.algebraic_KernelMlIdeal_ReferenceMlIdeal_pre_finite_ml
    (hKernelMlIdeal := Cert.KernelMlIdeal.Gen.facts)
    (hReferenceMlIdeal := Cert.ReferenceMlIdeal.Gen.facts) (hPre_finite_ml := Cert.Pre_finite_ml.Gen.facts) := by
  intro m g m' g' hpre hagree
  refine ⟨fun c => (Cert.KernelMlIdeal.Gen.dats m 0 c).arrAt 9 Cert.KernelMlIdeal.cfg0.N,
    Cert.KernelMlIdeal.Value.run_blocks m g, ?_⟩
  refine (θ_run Cert.ReferenceMlIdeal.defs _ _).mono (fun r h c =>
    ⟨((h c).1.trans (Cert.ReferenceMlIdeal.Read.val_main_v88_eq _ _)).trans ?_, (h c).2⟩)
    (Cert.ReferenceMlIdeal.Value.run (F := Ideal) m' g')
  obtain ⟨h0, h1, h2, h3, h4, h5⟩ := hagree c
  obtain ⟨e0, e1, e3, e4, e5⟩ := finite _ _ _ _ _ _ (hpre c)
  rw [h0, h1, h2, h3, h4, h5]
  exact result m c ⟨fun i => real_eq (e0 i), fun i => real_eq (e1 i), fun i => real_eq (e3 i), fun i => real_eq (e4 i), fun i => real_eq (e5 i)⟩

end Cert.Proof.MlClaim

end
-- ==== Proof.lean ====
module

public import proofs.«01_k».proof.Defs
public import proofs.«01_k».proof.Proof.SbClaim
public import proofs.«01_k».proof.Proof.FfnClaim
public import proofs.«01_k».proof.Proof.MergeClaim
public import proofs.«01_k».proof.Proof.InClaim
public import proofs.«01_k».proof.Proof.MlClaim

@[expose] public section

noncomputable section

namespace Cert.Proof

open Idealize.ShloMosaic Idealize.SL.Sem

/-- Every claim of this certificate. -/
theorem claim : Cert.Claim :=
  ⟨Cert.KernelSb.Gen.facts, Cert.KernelSbIdeal.Gen.facts, Cert.ReferenceSbIdeal.Gen.facts, Cert.KernelFfn.Gen.facts,
    Cert.KernelFfnIdeal.Gen.facts, Cert.ReferenceFfnIdeal.Gen.facts, Cert.KernelMerge.Gen.facts,
    Cert.KernelMergeIdeal.Gen.facts, Cert.ReferenceMergeIdeal.Gen.facts, Cert.KernelIn.Gen.facts,
    Cert.KernelInIdeal.Gen.facts, Cert.ReferenceInIdeal.Gen.facts, Cert.KernelMl.Gen.facts, Cert.KernelMlIdeal.Gen.facts,
    Cert.ReferenceMlIdeal.Gen.facts, Cert.Pre_finite_qk.Gen.facts, Cert.Pre_finite_in.Gen.facts, Cert.Pre_finite_ml.Gen.facts,
    SbFrame.frame, SbFrame.frame_ideal, SbClaim.frame_ideal_pre, SbFrame.frame_reference, SbClaim.frame_reference_pre,
    FfnClaim.frame, FfnClaim.frame_ideal, FfnClaim.frame_reference,
    MergeClaim.frame, MergeClaim.frame_ideal, MergeClaim.frame_reference,
    InClaim.frame, InClaim.frame_ideal, InClaim.frame_ideal_pre, InClaim.frame_reference, InClaim.frame_reference_pre,
    MlFrame.frame, MlFrame.frame_ideal, MlClaim.frame_ideal_pre, MlFrame.frame_reference, MlClaim.frame_reference_pre,
    trivial, SbClaim.algebraic, trivial, FfnClaim.algebraic, trivial, MergeClaim.algebraic, trivial, InClaim.algebraic,
    trivial, MlClaim.algebraic⟩

end Cert.Proof

end
